-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S56x128
  ∧ IdealRules.bf16_pair.Statement Cert.KernelIdeal.S112x128 Cert.KernelIdeal.S56x128
  ∧ IdealRules.named_const.Statement Cert.KernelIdeal.κ "inv_d" .f32 0x39124925#32 ((1 / 7168 : ℝ) : EReal)
  ∧ IdealRules.bf16_pair.Statement Cert.KernelIdeal.S1x8x2x128 Cert.KernelIdeal.S1x8x1x128

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x1024 : Shape := ⟨2, ![4, 1024]⟩
abbrev S32000x7168 : Shape := ⟨2, ![32000, 7168]⟩
abbrev S32000x56 : Shape := ⟨2, ![32000, 56]⟩
abbrev S7168 : Shape := ⟨1, ![7168]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : IVec S4x1024 32) (main_arg1 : IVec S32000x7168 8) (main_arg2 : FVec F S32000x56 .f32) (main_arg3 : FVec F S7168 .bf16) : IVec S4x1024 1 :=
  let main_c : IVec S_ 32 := constantI S_ 32 0#32
  let main_v0 : IVec S4x1024 32 := broadcastInDim S4x1024 ![] bcast_S_S4x1024 main_c
  let main_v1 : IVec S4x1024 1 := cmpi .sge main_arg0 main_v0
  let main_c_0 : IVec S_ 32 := constantI S_ 32 32000#32
  let main_v2 : IVec S4x1024 32 := broadcastInDim S4x1024 ![] bcast_S_S4x1024 main_c_0
  let main_v3 : IVec S4x1024 1 := cmpi .slt main_arg0 main_v2
  let main_v4 : IVec S4x1024 1 := andi main_v1 main_v3
  main_v4
-- ==== Kernel.lean ====
abbrev S4x1024 : Shape := ⟨2, ![4, 1024]⟩
abbrev S32000x7168 : Shape := ⟨2, ![32000, 7168]⟩
abbrev S32000x56 : Shape := ⟨2, ![32000, 56]⟩
abbrev S7168 : Shape := ⟨1, ![7168]⟩
abbrev S8000x4x7168 : Shape := ⟨3, ![8000, 4, 7168]⟩
abbrev S8000x7168x4 : Shape := ⟨3, ![8000, 7168, 4]⟩
abbrev S8000x7168 : Shape := ⟨2, ![8000, 7168]⟩
abbrev S56x32000 : Shape := ⟨2, ![56, 32000]⟩
abbrev S56x128 : Shape := ⟨2, ![56, 128]⟩
abbrev S512x56x8x128 : Shape := ⟨4, ![512, 56, 8, 128]⟩
abbrev S8x56x8x128 : Shape := ⟨4, ![8, 56, 8, 128]⟩
abbrev S3x64x1x7168 : Shape := ⟨4, ![3, 64, 1, 7168]⟩
abbrev S3 : Shape := ⟨1, ![3]⟩
abbrev S_ : Shape := ⟨0, ![]⟩
abbrev S1x1 : Shape := ⟨2, ![1, 1]⟩
abbrev S1 : Shape := ⟨1, ![1]⟩
abbrev S1x1x1x7168 : Shape := ⟨4, ![1, 1, 1, 7168]⟩
abbrev S1x7168 : Shape := ⟨2, ![1, 7168]⟩
abbrev S1x64x1x7168 : Shape := ⟨4, ![1, 64, 1, 7168]⟩
abbrev S64x1x7168 : Shape := ⟨3, ![64, 1, 7168]⟩
abbrev S56x128x1 : Shape := ⟨3, ![56, 128, 1]⟩
abbrev S3x64x56x128 : Shape := ⟨4, ![3, 64, 56, 128]⟩
abbrev S1x1x56x128 : Shape := ⟨4, ![1, 1, 56, 128]⟩
abbrev S1x56x128 : Shape := ⟨3, ![1, 56, 128]⟩
abbrev S1x1x1 : Shape := ⟨3, ![1, 1, 1]⟩
abbrev S8x128 : Shape := ⟨2, ![8, 128]⟩
abbrev S8x56x4x128 : Shape := ⟨4, ![8, 56, 4, 128]⟩
abbrev S8x224x128 : Shape := ⟨3, ![8, 224, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S512x8x56x128 : Shape := ⟨4, ![512, 8, 56, 128]⟩
abbrev S4x1024x7168 : Shape := ⟨3, ![4, 1024, 7168]⟩

abbrev nBuf : Space → Nat
  | .hbm => 14
  | .vmem => 7
  | .smem => 1
  | _ => 0

abbrev bufTy : (tb : Table) → Fin (tcTables nBuf tb) → BufTy
  | .hbm, ⟨0, _⟩ => ⟨S32000x7168, .i8⟩
  | .hbm, ⟨1, _⟩ => ⟨S32000x56, .f32⟩
  | .hbm, ⟨2, _⟩ => ⟨S7168, .bf16⟩
  | .hbm, ⟨3, _⟩ => ⟨S8000x4x7168, .i8⟩
  | .hbm, ⟨4, _⟩ => ⟨S8000x7168x4, .i8⟩
  | .hbm, ⟨5, _⟩ => ⟨S8000x7168, .i32⟩
  | .hbm, ⟨6, _⟩ => ⟨S56x32000, .f32⟩
  | .hbm, ⟨7, _⟩ => ⟨S56x128, .bf16⟩
  | .hbm, ⟨8, _⟩ => ⟨S512x56x8x128, .bf16⟩
  | .hbm, ⟨9, _⟩ => ⟨S512x56x8x128, .bf16⟩
  | .hbm, ⟨10, _⟩ => ⟨S512x8x56x128, .bf16⟩
  | .hbm, ⟨11, _⟩ => ⟨S4x1024x7168, .bf16⟩
  | .hbm, ⟨12, _⟩ => ⟨S512x8x56x128, .bf16⟩
  | .hbm, ⟨13, _⟩ => ⟨S4x1024x7168, .bf16⟩
  | .local _ .vmem, ⟨0, _⟩ => ⟨S56x128, .bf16⟩
  | .local _ .vmem, ⟨1, _⟩ => ⟨S8x56x8x128, .bf16⟩
  | .local _ .vmem, ⟨2, _⟩ => ⟨S8x56x8x128, .bf16⟩
  | .local _ .vmem, ⟨3, _⟩ => ⟨S8x56x8x128, .bf16⟩
  | .local _ .vmem, ⟨4, _⟩ => ⟨S8x56x8x128, .bf16⟩
  | .local _ .vmem, ⟨5, _⟩ => ⟨S3x64x1x7168, .i32⟩
  | .local _ .vmem, ⟨6, _⟩ => ⟨S56x32000, .f32⟩
  | .local _ .smem, ⟨0, _⟩ => ⟨S4x1024, .i32⟩
  | _, _ => ⟨S32000x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c8_i32_15 : BitVec 32 := 8#32
  let v21 : BitVec 32 := Scalar.addi c0_i32_14 c8_i32_15
  let c1_i32_16 : BitVec 32 := 1#32
  ⟨c0_i32_14, v21, c1_i32_16⟩
def k0_off1 (k0_t1 : Fin k0_t1_loop.trips) : Fin 2 → Nat :=
  let c0_i32_13 : BitVec 32 := 0#32
  let c4_i32 : BitVec 32 := 4#32
  let v26 : BitVec 32 := Scalar.shrui c0_i32_13 c4_i32
  let v30 : Index := Scalar.indexCast v26
  let c15_i32 : BitVec 32 := 15#32
  let v27 : BitVec 32 := Scalar.andi c0_i32_13 c15_i32
  let c64_i32_26 : BitVec 32 := 64#32
  let v28 : BitVec 32 := Scalar.muli v27 c64_i32_26
  let c0_i32_14 : BitVec 32 := 0#32
  let c1_i32_16 : BitVec 32 := 1#32
  let arg11 : BitVec 32 := Scf.iv c0_i32_14 c1_i32_16 k0_t1
  let c8_i32_23 : BitVec 32 := 8#32
  let v23 : BitVec 32 := Scalar.muli arg11 c8_i32_23
  let c0_i32_24 : BitVec 32 := 0#32
  let v24 : BitVec 32 := Scalar.addi v23 c0_i32_24
  let v29 : BitVec 32 := Scalar.addi v28 v24
  let v31 : Index := Scalar.indexCast v29
  ![v30.toNat, v31.toNat]
def k0_off2 : Fin 1 → Nat :=
  let c0_i32_13 : BitVec 32 := 0#32
  let c3_i32_25 : BitVec 32 := 3#32
  let v25 : BitVec 32 := Scalar.remsi c0_i32_13 c3_i32_25
  ![v25.toNat]
def k0_off3 (k0_t1 : Fin k0_t1_loop.trips) : Fin 4 → Nat :=
  let c0_i32_13 : BitVec 32 := 0#32
  let c3_i32_25 : BitVec 32 := 3#32
  let v25 : BitVec 32 := Scalar.remsi c0_i32_13 c3_i32_25
  let c0_i32_14 : BitVec 32 := 0#32
  let c1_i32_16 : BitVec 32 := 1#32
  let arg11 : BitVec 32 := Scf.iv c0_i32_14 c1_i32_16 k0_t1
  let c8_i32_23 : BitVec 32 := 8#32
  let v23 : BitVec 32 := Scalar.muli arg11 c8_i32_23
  let c0_i32_24 : BitVec 32 := 0#32
  let v24 : BitVec 32 := Scalar.addi v23 c0_i32_24
  let c0_i32_28 : BitVec 32 := 0#32
  let c0_i32_29 : BitVec 32 := 0#32
  ![v25.toNat, v24.toNat, 0, 0]
def k0_off4 (v32 : BitVec 32) : Fin 2 → Nat :=
  let c2_i32_27 : BitVec 32 := 2#32
  let v33 : BitVec 32 := Scalar.shrui v32 c2_i32_27
  let c0_i32_30 : BitVec 32 := 0#32
  ![v33.toNat, 0]

def k0_chk1 (i : grid0.Coords) (v32 : BitVec 32) : Prop :=
  (∀ (k0_h1 : k0_cond1 i = 1#1), ∀ a, (k0_off4 v32) a + S1x7168.size a ≤ S8000x7168.size a)
theorem k0_off4_inb : ∀ (i : grid0.Coords) (v32 : BitVec 32) (k0_hw1 : k0_chk1 i v32), ∀ (k0_h1 : k0_cond1 i = 1#1), ∀ a, (k0_off4 v32) a + S1x7168.size a ≤ S8000x7168.size a := fun i v32 k0_hw1 k0_h1 => k0_hw1 k0_h1

def k0_off5 (k0_t1 : Fin k0_t1_loop.trips) : Fin 2 → Nat :=
  let c0_i32_13 : BitVec 32 := 0#32
  let c4_i32_34 : BitVec 32 := 4#32
  let v42 : BitVec 32 := Scalar.shrui c0_i32_13 c4_i32_34
  let v46 : Index := Scalar.indexCast v42
  let c15_i32_35 : BitVec 32 := 15#32
  let v43 : BitVec 32 := Scalar.andi c0_i32_13 c15_i32_35
  let c64_i32_36 : BitVec 32 := 64#32
  let v44 : BitVec 32 := Scalar.muli v43 c64_i32_36
  let c0_i32_14 : BitVec 32 := 0#32
  let c1_i32_16 : BitVec 32 := 1#32
  let arg11 : BitVec 32 := Scf.iv c0_i32_14 c1_i32_16 k0_t1
  let c8_i32_31 : BitVec 32 := 8#32
  let v39 : BitVec 32 := Scalar.muli arg11 c8_i32_31
  let c1_i32_32 : BitVec 32 := 1#32
  let v40 : BitVec 32 := Scalar.addi v39 c1_i32_32
  let v45 : BitVec 32 := Scalar.addi v44 v40
  let v47 : Index := Scalar.indexCast v45
  ![v46.toNat, v47.toNat]
def k0_off6 : Fin 1 → Nat :=
  let c0_i32_13 : BitVec 32 := 0#32
  let c3_i32_33 : BitVec 32 := 3#32
  let v41 : BitVec 32 := Scalar.remsi c0_i32_13 c3_i32_33
  ![v41.toNat]
def k0_off7 (k0_t1 : Fin k0_t1_loop.trips) : Fin 4 → Nat :=
  let c0_i32_13 : BitVec 32 := 0#32
  let c3_i32_33 : BitVec 32 := 3#32
  let v41 : BitVec 32 := Scalar.remsi c0_i32_13 c3_i32_33
  let c0_i32_14 : BitVec 32 := 0#32
  let c1_i32_16 : BitVec 32 := 1#32
  let arg11 : BitVec 32 := Scf.iv c0_i32_14 c1_i32_16 k0_t1
  let c8_i32_31 : BitVec 32 := 8#32
  let v39 : BitVec 32 := Scalar.muli arg11 c8_i32_31
  let c1_i32_32 : BitVec 32 := 1#32
  let v40 : BitVec 32 := Scalar.addi v39 c1_i32_32
  let c0_i32_38 : BitVec 32 := 0#32
  let c0_i32_39 : BitVec 32 := 0#32
  ![v41.toNat, v40.toNat, 0, 0]
def k0_off8 (v48 : BitVec 32) : Fin 2 → Nat :=
  let c2_i32_37 : BitVec 32 := 2#32
  let v49 : BitVec 32 := Scalar.shrui v48 c2_i32_37
  let c0_i32_40 : BitVec 32 := 0#32
  ![v49.toNat, 0]

def k0_chk2 (i : grid0.Coords) (v48 : BitVec 32) : Prop :=
  (∀ (k0_h1 : k0_cond1 i = 1#1), ∀ a, (k0_off8 v48) a + S1x7168.size a ≤ S8000x7168.size a)
theorem k0_off8_inb : ∀ (i : grid0.Coords) (v48 : BitVec 32) (k0_hw2 : k0_chk2 i v48), ∀ (k0_h1 : k0_cond1 i = 1#1), ∀ a, (k0_off8 v48) a + S1x7168.size a ≤ S8000x7168.size a := fun i v48 k0_hw2 k0_h1 => k0_hw2 k0_h1

def k0_off9 (k0_t1 : Fin k0_t1_loop.trips) : Fin 2 → Nat :=
  let c0_i32_13 : BitVec 32 := 0#32
  let c4_i32_44 : BitVec 32 := 4#32
  let v58 : BitVec 32 := Scalar.shrui c0_i32_13 c4_i32_44
  let v62 : Index := Scalar.indexCast v58
  let c15_i32_45 : BitVec 32 := 15#32
  let v59 : BitVec 32 := Scalar.andi c0_i32_13 c15_i32_45
  let c64_i32_46 : BitVec 32 := 64#32
  let v60 : BitVec 32 := Scalar.muli v59 c64_i32_46
  let c0_i32_14 : BitVec 32 := 0#32
  let c1_i32_16 : BitVec 32 := 1#32
  let arg11 : BitVec 32 := Scf.iv c0_i32_14 c1_i32_16 k0_t1
  let c8_i32_41 : BitVec 32 := 8#32
  let v55 : BitVec 32 := Scalar.muli arg11 c8_i32_41
  let c2_i32_42 : BitVec 32 := 2#32
  let v56 : BitVec 32 := Scalar.addi v55 c2_i32_42
  let v61 : BitVec 32 := Scalar.addi v60 v56
  let v63 : Index := Scalar.indexCast v61
  ![v62.toNat, v63.toNat]
def k0_off10 : Fin 1 → Nat :=
  let c0_i32_13 : BitVec 32 := 0#32
  let c3_i32_43 : BitVec 32 := 3#32
  let v57 : BitVec 32 := Scalar.remsi c0_i32_13 c3_i32_43
  ![v57.toNat]
def k0_off11 (k0_t1 : Fin k0_t1_loop.trips) : Fin 4 → Nat :=
  let c0_i32_13 : BitVec 32 := 0#32
  let c3_i32_43 : BitVec 32 := 3#32
  let v57 : BitVec 32 := Scalar.remsi c0_i32_13 c3_i32_43
  let c0_i32_14 : BitVec 32 := 0#32
  let c1_i32_16 : BitVec 32 := 1#32
  let arg11 : BitVec 32 := Scf.iv c0_i32_14 c1_i32_16 k0_t1
  let c8_i32_41 : BitVec 32 := 8#32
  let v55 : BitVec 32 := Scalar.muli arg11 c8_i32_41
  let c2_i32_42 : BitVec 32 := 2#32
  let v56 : BitVec 32 := Scalar.addi v55 c2_i32_42
  let c0_i32_48 : BitVec 32 := 0#32
  let c0_i32_49 : BitVec 32 := 0#32
  ![v57.toNat, v56.toNat, 0, 0]
def k0_off12 (v64 : BitVec 32) : Fin 2 → Nat :=
  let c2_i32_47 : BitVec 32 := 2#32
  let v65 : BitVec 32 := Scalar.shrui v64 c2_i32_47
  let c0_i32_50 : BitVec 32 := 0#32
  ![v65.toNat, 0]

def k0_chk3 (i : grid0.Coords) (v64 : BitVec 32) : Prop :=
  (∀ (k0_h1 : k0_cond1 i = 1#1), ∀ a, (k0_off12 v64) a + S1x7168.size a ≤ S8000x7168.size a)
theorem k0_off12_inb : ∀ (i : grid0.Coords) (v64 : BitVec 32) (k0_hw3 : k0_chk3 i v64), ∀ (k0_h1 : k0_cond1 i = 1#1), ∀ a, (k0_off12 v64) a + S1x7168.size a ≤ S8000x7168.size a := fun i v64 k0_hw3 k0_h1 => k0_hw3 k0_h1

def k0_off13 (k0_t1 : Fin k0_t1_loop.trips) : Fin 2 → Nat :=
  let c0_i32_13 : BitVec 32 := 0#32
  let c4_i32_54 : BitVec 32 := 4#32
  let v74 : BitVec 32 := Scalar.shrui c0_i32_13 c4_i32_54
  let v78 : Index := Scalar.indexCast v74
  let c15_i32_55 : BitVec 32 := 15#32
  let v75 : BitVec 32 := Scalar.andi c0_i32_13 c15_i32_55
  let c64_i32_56 : BitVec 32 := 64#32
  let v76 : BitVec 32 := Scalar.muli v75 c64_i32_56
  let c0_i32_14 : BitVec 32 := 0#32
  let c1_i32_16 : BitVec 32 := 1#32
  let arg11 : BitVec 32 := Scf.iv c0_i32_14 c1_i32_16 k0_t1
  let c8_i32_51 : BitVec 32 := 8#32
  let v71 : BitVec 32 := Scalar.muli arg11 c8_i32_51
  let c3_i32_52 : BitVec 32 := 3#32
  let v72 : BitVec 32 := Scalar.addi v71 c3_i32_52
  let v77 : BitVec 32 := Scalar.addi v76 v72
  let v79 : Index := Scalar.indexCast v77
  ![v78.toNat, v79.toNat]
def k0_off14 : Fin 1 → Nat :=
  let c0_i32_13 : BitVec 32 := 0#32
  let c3_i32_53 : BitVec 32 := 3#32
  let v73 : BitVec 32 := Scalar.remsi c0_i32_13 c3_i32_53
  ![v73.toNat]
def k0_off15 (k0_t1 : Fin k0_t1_loop.trips) : Fin 4 → Nat :=
  let c0_i32_13 : BitVec 32 := 0#32
  let c3_i32_53 : BitVec 32 := 3#32
  let v73 : BitVec 32 := Scalar.remsi c0_i32_13 c3_i32_53
  let c0_i32_14 : BitVec 32 := 0#32
  let c1_i32_16 : BitVec 32 := 1#32
  let arg11 : BitVec 32 := Scf.iv c0_i32_14 c1_i32_16 k0_t1
  let c8_i32_51 : BitVec 32 := 8#32
  let v71 : BitVec 32 := Scalar.muli arg11 c8_i32_51
  let c3_i32_52 : BitVec 32 := 3#32
  let v72 : BitVec 32 := Scalar.addi v71 c3_i32_52
  let c0_i32_58 : BitVec 32 := 0#32
  let c0_i32_59 : BitVec 32 := 0#32
  ![v73.toNat, v72.toNat, 0, 0]
def k0_off16 (v80 : BitVec 32) : Fin 2 → Nat :=
  let c2_i32_57 : BitVec 32 := 2#32
  let v81 : BitVec 32 := Scalar.shrui v80 c2_i32_57
  let c0_i32_60 : BitVec 32 := 0#32
  ![v81.toNat, 0]

def k0_chk4 (i : grid0.Coords) (v80 : BitVec 32) : Prop :=
  (∀ (k0_h1 : k0_cond1 i = 1#1), ∀ a, (k0_off16 v80) a + S1x7168.size a ≤ S8000x7168.size a)
theorem k0_off16_inb : ∀ (i : grid0.Coords) (v80 : BitVec 32) (k0_hw4 : k0_chk4 i v80), ∀ (k0_h1 : k0_cond1 i = 1#1), ∀ a, (k0_off16 v80) a + S1x7168.size a ≤ S8000x7168.size a := fun i v80 k0_hw4 k0_h1 => k0_hw4 k0_h1

def k0_off17 (k0_t1 : Fin k0_t1_loop.trips) : Fin 2 → Nat :=
  let c0_i32_13 : BitVec 32 := 0#32
  let c4_i32_64 : BitVec 32 := 4#32
  let v90 : BitVec 32 := Scalar.shrui c0_i32_13 c4_i32_64
  let v94 : Index := Scalar.indexCast v90
  let c15_i32_65 : BitVec 32 := 15#32
  let v91 : BitVec 32 := Scalar.andi c0_i32_13 c15_i32_65
  let c64_i32_66 : BitVec 32 := 64#32
  let v92 : BitVec 32 := Scalar.muli v91 c64_i32_66
  let c0_i32_14 : BitVec 32 := 0#32
  let c1_i32_16 : BitVec 32 := 1#32
  let arg11 : BitVec 32 := Scf.iv c0_i32_14 c1_i32_16 k0_t1
  let c8_i32_61 : BitVec 32 := 8#32
  let v87 : BitVec 32 := Scalar.muli arg11 c8_i32_61
  let c4_i32_62 : BitVec 32 := 4#32
  let v88 : BitVec 32 := Scalar.addi v87 c4_i32_62
  let v93 : BitVec 32 := Scalar.addi v92 v88
  let v95 : Index := Scalar.indexCast v93
  ![v94.toNat, v95.toNat]
def k0_off18 : Fin 1 → Nat :=
  let c0_i32_13 : BitVec 32 := 0#32
  let c3_i32_63 : BitVec 32 := 3#32
  let v89 : BitVec 32 := Scalar.remsi c0_i32_13 c3_i32_63
  ![v89.toNat]
def k0_off19 (k0_t1 : Fin k0_t1_loop.trips) : Fin 4 → Nat :=
  let c0_i32_13 : BitVec 32 := 0#32
  let c3_i32_63 : BitVec 32 := 3#32
  let v89 : BitVec 32 := Scalar.remsi c0_i32_13 c3_i32_63
  let c0_i32_14 : BitVec 32 := 0#32
  let c1_i32_16 : BitVec 32 := 1#32
  let arg11 : BitVec 32 := Scf.iv c0_i32_14 c1_i32_16 k0_t1
  let c8_i32_61 : BitVec 32 := 8#32
  let v87 : BitVec 32 := Scalar.muli arg11 c8_i32_61
  let c4_i32_62 : BitVec 32 := 4#32
  let v88 : BitVec 32 := Scalar.addi v87 c4_i32_62
  let c0_i32_68 : BitVec 32 := 0#32
  let c0_i32_69 : BitVec 32 := 0#32
  ![v89.toNat, v88.toNat, 0, 0]
def k0_off20 (v96 : BitVec 32) : Fin 2 → Nat :=
  let c2_i32_67 : BitVec 32 := 2#32
  let v97 : BitVec 32 := Scalar.shrui v96 c2_i32_67
  let c0_i32_70 : BitVec 32 := 0#32
  ![v97.toNat, 0]

def k0_chk5 (i : grid0.Coords) (v96 : BitVec 32) : Prop :=
  (∀ (k0_h1 : k0_cond1 i = 1#1), ∀ a, (k0_off20 v96) a + S1x7168.size a ≤ S8000x7168.size a)
theorem k0_off20_inb : ∀ (i : grid0.Coords) (v96 : BitVec 32) (k0_hw5 : k0_chk5 i v96), ∀ (k0_h1 : k0_cond1 i = 1#1), ∀ a, (k0_off20 v96) a + S1x7168.size a ≤ S8000x7168.size a := fun i v96 k0_hw5 k0_h1 => k0_hw5 k0_h1

def k0_off21 (k0_t1 : Fin k0_t1_loop.trips) : Fin 2 → Nat :=
  let c0_i32_13 : BitVec 32 := 0#32
  let c4_i32_73 : BitVec 32 := 4#32
  let v106 : BitVec 32 := Scalar.shrui c0_i32_13 c4_i32_73
  let v110 : Index := Scalar.indexCast v106
  let c15_i32_74 : BitVec 32 := 15#32
  let v107 : BitVec 32 := Scalar.andi c0_i32_13 c15_i32_74
  let c64_i32_75 : BitVec 32 := 64#32
  let v108 : BitVec 32 := Scalar.muli v107 c64_i32_75
  let c0_i32_14 : BitVec 32 := 0#32
  let c1_i32_16 : BitVec 32 := 1#32
  let arg11 : BitVec 32 := Scf.iv c0_i32_14 c1_i32_16 k0_t1
  let c8_i32_71 : BitVec 32 := 8#32
  let v103 : BitVec 32 := Scalar.muli arg11 c8_i32_71
  let c5_i32 : BitVec 32 := 5#32
  let v104 : BitVec 32 := Scalar.addi v103 c5_i32
  let v109 : BitVec 32 := Scalar.addi v108 v104
  let v111 : Index := Scalar.indexCast v109
  ![v110.toNat, v111.toNat]
def k0_off22 : Fin 1 → Nat :=
  let c0_i32_13 : BitVec 32 := 0#32
  let c3_i32_72 : BitVec 32 := 3#32
  let v105 : BitVec 32 := Scalar.remsi c0_i32_13 c3_i32_72
  ![v105.toNat]
def k0_off23 (k0_t1 : Fin k0_t1_loop.trips) : Fin 4 → Nat :=
  let c0_i32_13 : BitVec 32 := 0#32
  let c3_i32_72 : BitVec 32 := 3#32
  let v105 : BitVec 32 := Scalar.remsi c0_i32_13 c3_i32_72
  let c0_i32_14 : BitVec 32 := 0#32
  let c1_i32_16 : BitVec 32 := 1#32
  let arg11 : BitVec 32 := Scf.iv c0_i32_14 c1_i32_16 k0_t1
  let c8_i32_71 : BitVec 32 := 8#32
  let v103 : BitVec 32 := Scalar.muli arg11 c8_i32_71
  let c5_i32 : BitVec 32 := 5#32
  let v104 : BitVec 32 := Scalar.addi v103 c5_i32
  let c0_i32_77 : BitVec 32 := 0#32
  let c0_i32_78 : BitVec 32 := 0#32
  ![v105.toNat, v104.toNat, 0, 0]
def k0_off24 (v112 : BitVec 32) : Fin 2 → Nat :=
  let c2_i32_76 : BitVec 32 := 2#32
  let v113 : BitVec 32 := Scalar.shrui v112 c2_i32_76
  let c0_i32_79 : BitVec 32 := 0#32
  ![v113.toNat, 0]

def k0_chk6 (i : grid0.Coords) (v112 : BitVec 32) : Prop :=
  (∀ (k0_h1 : k0_cond1 i = 1#1), ∀ a, (k0_off24 v112) a + S1x7168.size a ≤ S8000x7168.size a)
theorem k0_off24_inb : ∀ (i : grid0.Coords) (v112 : BitVec 32) (k0_hw6 : k0_chk6 i v112), ∀ (k0_h1 : k0_cond1 i = 1#1), ∀ a, (k0_off24 v112) a + S1x7168.size a ≤ S8000x7168.size a := fun i v112 k0_hw6 k0_h1 => k0_hw6 k0_h1

def k0_off25 (k0_t1 : Fin k0_t1_loop.trips) : Fin 2 → Nat :=
  let c0_i32_13 : BitVec 32 := 0#32
  let c4_i32_82 : BitVec 32 := 4#32
  let v122 : BitVec 32 := Scalar.shrui c0_i32_13 c4_i32_82
  let v126 : Index := Scalar.indexCast v122
  let c15_i32_83 : BitVec 32 := 15#32
  let v123 : BitVec 32 := Scalar.andi c0_i32_13 c15_i32_83
  let c64_i32_84 : BitVec 32 := 64#32
  let v124 : BitVec 32 := Scalar.muli v123 c64_i32_84
  let c0_i32_14 : BitVec 32 := 0#32
  let c1_i32_16 : BitVec 32 := 1#32
  let arg11 : BitVec 32 := Scf.iv c0_i32_14 c1_i32_16 k0_t1
  let c8_i32_80 : BitVec 32 := 8#32
  let v119 : BitVec 32 := Scalar.muli arg11 c8_i32_80
  let c6_i32 : BitVec 32 := 6#32
  let v120 : BitVec 32 := Scalar.addi v119 c6_i32
  let v125 : BitVec 32 := Scalar.addi v124 v120
  let v127 : Index := Scalar.indexCast v125
  ![v126.toNat, v127.toNat]
def k0_off26 : Fin 1 → Nat :=
  let c0_i32_13 : BitVec 32 := 0#32
  let c3_i32_81 : BitVec 32 := 3#32
  let v121 : BitVec 32 := Scalar.remsi c0_i32_13 c3_i32_81
  ![v121.toNat]
def k0_off27 (k0_t1 : Fin k0_t1_loop.trips) : Fin 4 → Nat :=
  let c0_i32_13 : BitVec 32 := 0#32
  let c3_i32_81 : BitVec 32 := 3#32
  let v121 : BitVec 32 := Scalar.remsi c0_i32_13 c3_i32_81
  let c0_i32_14 : BitVec 32 := 0#32
  let c1_i32_16 : BitVec 32 := 1#32
  let arg11 : BitVec 32 := Scf.iv c0_i32_14 c1_i32_16 k0_t1
  let c8_i32_80 : BitVec 32 := 8#32
  let v119 : BitVec 32 := Scalar.muli arg11 c8_i32_80
  let c6_i32 : BitVec 32 := 6#32
  let v120 : BitVec 32 := Scalar.addi v119 c6_i32
  let c0_i32_86 : BitVec 32 := 0#32
  let c0_i32_87 : BitVec 32 := 0#32
  ![v121.toNat, v120.toNat, 0, 0]
def k0_off28 (v128 : BitVec 32) : Fin 2 → Nat :=
  let c2_i32_85 : BitVec 32 := 2#32
  let v129 : BitVec 32 := Scalar.shrui v128 c2_i32_85
  let c0_i32_88 : BitVec 32 := 0#32
  ![v129.toNat, 0]

def k0_chk7 (i : grid0.Coords) (v128 : BitVec 32) : Prop :=
  (∀ (k0_h1 : k0_cond1 i = 1#1), ∀ a, (k0_off28 v128) a + S1x7168.size a ≤ S8000x7168.size a)
theorem k0_off28_inb : ∀ (i : grid0.Coords) (v128 : BitVec 32) (k0_hw7 : k0_chk7 i v128), ∀ (k0_h1 : k0_cond1 i = 1#1), ∀ a, (k0_off28 v128) a + S1x7168.size a ≤ S8000x7168.size a := fun i v128 k0_hw7 k0_h1 => k0_hw7 k0_h1

def k0_off29 (k0_t1 : Fin k0_t1_loop.trips) : Fin 2 → Nat :=
  let c0_i32_13 : BitVec 32 := 0#32
  let c4_i32_91 : BitVec 32 := 4#32
  let v138 : BitVec 32 := Scalar.shrui c0_i32_13 c4_i32_91
  let v142 : Index := Scalar.indexCast v138
  let c15_i32_92 : BitVec 32 := 15#32
  let v139 : BitVec 32 := Scalar.andi c0_i32_13 c15_i32_92
  let c64_i32_93 : BitVec 32 := 64#32
  let v140 : BitVec 32 := Scalar.muli v139 c64_i32_93
  let c0_i32_14 : BitVec 32 := 0#32
  let c1_i32_16 : BitVec 32 := 1#32
  let arg11 : BitVec 32 := Scf.iv c0_i32_14 c1_i32_16 k0_t1
  let c8_i32_89 : BitVec 32 := 8#32
  let v135 : BitVec 32 := Scalar.muli arg11 c8_i32_89
  let c7_i32 : BitVec 32 := 7#32
  let v136 : BitVec 32 := Scalar.addi v135 c7_i32
  let v141 : BitVec 32 := Scalar.addi v140 v136
  let v143 : Index := Scalar.indexCast v141
  ![v142.toNat, v143.toNat]
def k0_off30 : Fin 1 → Nat :=
  let c0_i32_13 : BitVec 32 := 0#32
  let c3_i32_90 : BitVec 32 := 3#32
  let v137 : BitVec 32 := Scalar.remsi c0_i32_13 c3_i32_90
  ![v137.toNat]
def k0_off31 (k0_t1 : Fin k0_t1_loop.trips) : Fin 4 → Nat :=
  let c0_i32_13 : BitVec 32 := 0#32
  let c3_i32_90 : BitVec 32 := 3#32
  let v137 : BitVec 32 := Scalar.remsi c0_i32_13 c3_i32_90
  let c0_i32_14 : BitVec 32 := 0#32
  let c1_i32_16 : BitVec 32 := 1#32
  let arg11 : BitVec 32 := Scf.iv c0_i32_14 c1_i32_16 k0_t1
  let c8_i32_89 : BitVec 32 := 8#32
  let v135 : BitVec 32 := Scalar.muli arg11 c8_i32_89
  let c7_i32 : BitVec 32 := 7#32
  let v136 : BitVec 32 := Scalar.addi v135 c7_i32
  let c0_i32_95 : BitVec 32 := 0#32
  let c0_i32_96 : BitVec 32 := 0#32
  ![v137.toNat, v136.toNat, 0, 0]
def k0_off32 (v144 : BitVec 32) : Fin 2 → Nat :=
  let c2_i32_94 : BitVec 32 := 2#32
  let v145 : BitVec 32 := Scalar.shrui v144 c2_i32_94
  let c0_i32_97 : BitVec 32 := 0#32
  ![v145.toNat, 0]

def k0_chk8 (i : grid0.Coords) (v144 : BitVec 32) : Prop :=
  (∀ (k0_h1 : k0_cond1 i = 1#1), ∀ a, (k0_off32 v144) a + S1x7168.size a ≤ S8000x7168.size a)
theorem k0_off32_inb : ∀ (i : grid0.Coords) (v144 : BitVec 32) (k0_hw8 : k0_chk8 i v144), ∀ (k0_h1 : k0_cond1 i = 1#1), ∀ a, (k0_off32 v144) a + S1x7168.size a ≤ S8000x7168.size a := fun i v144 k0_hw8 k0_h1 => k0_hw8 k0_h1

@[reducible] def k0_t2_loop : Scf.Loop 32 :=
  let c0_i32_19 : BitVec 32 := 0#32
  let c8_i32_20 : BitVec 32 := 8#32
  let v22 : BitVec 32 := Scalar.addi c0_i32_19 c8_i32_20
  let c1_i32_21 : BitVec 32 := 1#32
  ⟨c0_i32_19, v22, c1_i32_21⟩
def k0_off33 (k0_t2 : Fin k0_t2_loop.trips) : Fin 2 → Nat :=
  let c1_i32_18 : BitVec 32 := 1#32
  let c4_i32 : BitVec 32 := 4#32
  let v26 : BitVec 32 := Scalar.shrui c1_i32_18 c4_i32
  let v30 : Index := Scalar.indexCast v26
  let c15_i32 : BitVec 32 := 15#32
  let v27 : BitVec 32 := Scalar.andi c1_i32_18 c15_i32
  let c64_i32_26 : BitVec 32 := 64#32
  let v28 : BitVec 32 := Scalar.muli v27 c64_i32_26
  let c0_i32_19 : BitVec 32 := 0#32
  let c1_i32_21 : BitVec 32 := 1#32
  let arg11 : BitVec 32 := Scf.iv c0_i32_19 c1_i32_21 k0_t2
  let c8_i32_23 : BitVec 32 := 8#32
  let v23 : BitVec 32 := Scalar.muli arg11 c8_i32_23
  let c0_i32_24 : BitVec 32 := 0#32
  let v24 : BitVec 32 := Scalar.addi v23 c0_i32_24
  let v29 : BitVec 32 := Scalar.addi v28 v24
  let v31 : Index := Scalar.indexCast v29
  ![v30.toNat, v31.toNat]
def k0_off34 : Fin 1 → Nat :=
  let c1_i32_18 : BitVec 32 := 1#32
  let c3_i32_25 : BitVec 32 := 3#32
  let v25 : BitVec 32 := Scalar.remsi c1_i32_18 c3_i32_25
  ![v25.toNat]
def k0_off35 (k0_t2 : Fin k0_t2_loop.trips) : Fin 4 → Nat :=
  let c1_i32_18 : BitVec 32 := 1#32
  let c3_i32_25 : BitVec 32 := 3#32
  let v25 : BitVec 32 := Scalar.remsi c1_i32_18 c3_i32_25
  let c0_i32_19 : BitVec 32 := 0#32
  let c1_i32_21 : BitVec 32 := 1#32
  let arg11 : BitVec 32 := Scf.iv c0_i32_19 c1_i32_21 k0_t2
  let c8_i32_23 : BitVec 32 := 8#32
  let v23 : BitVec 32 := Scalar.muli arg11 c8_i32_23
  let c0_i32_24 : BitVec 32 := 0#32
  let v24 : BitVec 32 := Scalar.addi v23 c0_i32_24
  let c0_i32_28 : BitVec 32 := 0#32
  let c0_i32_29 : BitVec 32 := 0#32
  ![v25.toNat, v24.toNat, 0, 0]
def k0_off36 (v32 : BitVec 32) : Fin 2 → Nat :=
  let c2_i32_27 : BitVec 32 := 2#32
  let v33 : BitVec 32 := Scalar.shrui v32 c2_i32_27
  let c0_i32_30 : BitVec 32 := 0#32
  ![v33.toNat, 0]

def k0_chk9 (i : grid0.Coords) (v32 : BitVec 32) : Prop :=
  (∀ (k0_h1 : k0_cond1 i = 1#1), ∀ a, (k0_off36 v32) a + S1x7168.size a ≤ S8000x7168.size a)
theorem k0_off36_inb : ∀ (i : grid0.Coords) (v32 : BitVec 32) (k0_hw9 : k0_chk9 i v32), ∀ (k0_h1 : k0_cond1 i = 1#1), ∀ a, (k0_off36 v32) a + S1x7168.size a ≤ S8000x7168.size a := fun i v32 k0_hw9 k0_h1 => k0_hw9 k0_h1

def k0_off37 (k0_t2 : Fin k0_t2_loop.trips) : Fin 2 → Nat :=
  let c1_i32_18 : BitVec 32 := 1#32
  let c4_i32_34 : BitVec 32 := 4#32
  let v42 : BitVec 32 := Scalar.shrui c1_i32_18 c4_i32_34
  let v46 : Index := Scalar.indexCast v42
  let c15_i32_35 : BitVec 32 := 15#32
  let v43 : BitVec 32 := Scalar.andi c1_i32_18 c15_i32_35
  let c64_i32_36 : BitVec 32 := 64#32
  let v44 : BitVec 32 := Scalar.muli v43 c64_i32_36
  let c0_i32_19 : BitVec 32 := 0#32
  let c1_i32_21 : BitVec 32 := 1#32
  let arg11 : BitVec 32 := Scf.iv c0_i32_19 c1_i32_21 k0_t2
  let c8_i32_31 : BitVec 32 := 8#32
  let v39 : BitVec 32 := Scalar.muli arg11 c8_i32_31
  let c1_i32_32 : BitVec 32 := 1#32
  let v40 : BitVec 32 := Scalar.addi v39 c1_i32_32
  let v45 : BitVec 32 := Scalar.addi v44 v40
  let v47 : Index := Scalar.indexCast v45
  ![v46.toNat, v47.toNat]
def k0_off38 : Fin 1 → Nat :=
  let c1_i32_18 : BitVec 32 := 1#32
  let c3_i32_33 : BitVec 32 := 3#32
  let v41 : BitVec 32 := Scalar.remsi c1_i32_18 c3_i32_33
  ![v41.toNat]
def k0_off39 (k0_t2 : Fin k0_t2_loop.trips) : Fin 4 → Nat :=
  let c1_i32_18 : BitVec 32 := 1#32
  let c3_i32_33 : BitVec 32 := 3#32
  let v41 : BitVec 32 := Scalar.remsi c1_i32_18 c3_i32_33
  let c0_i32_19 : BitVec 32 := 0#32
  let c1_i32_21 : BitVec 32 := 1#32
  let arg11 : BitVec 32 := Scf.iv c0_i32_19 c1_i32_21 k0_t2
  let c8_i32_31 : BitVec 32 := 8#32
  let v39 : BitVec 32 := Scalar.muli arg11 c8_i32_31
  let c1_i32_32 : BitVec 32 := 1#32
  let v40 : BitVec 32 := Scalar.addi v39 c1_i32_32
  let c0_i32_38 : BitVec 32 := 0#32
  let c0_i32_39 : BitVec 32 := 0#32
  ![v41.toNat, v40.toNat, 0, 0]
def k0_off40 (v48 : BitVec 32) : Fin 2 → Nat :=
  let c2_i32_37 : BitVec 32 := 2#32
  let v49 : BitVec 32 := Scalar.shrui v48 c2_i32_37
  let c0_i32_40 : BitVec 32 := 0#32
  ![v49.toNat, 0]

def k0_chk10 (i : grid0.Coords) (v48 : BitVec 32) : Prop :=
  (∀ (k0_h1 : k0_cond1 i = 1#1), ∀ a, (k0_off40 v48) a + S1x7168.size a ≤ S8000x7168.size a)
theorem k0_off40_inb : ∀ (i : grid0.Coords) (v48 : BitVec 32) (k0_hw10 : k0_chk10 i v48), ∀ (k0_h1 : k0_cond1 i = 1#1), ∀ a, (k0_off40 v48) a + S1x7168.size a ≤ S8000x7168.size a := fun i v48 k0_hw10 k0_h1 => k0_hw10 k0_h1

def k0_off41 (k0_t2 : Fin k0_t2_loop.trips) : Fin 2 → Nat :=
  let c1_i32_18 : BitVec 32 := 1#32
  let c4_i32_44 : BitVec 32 := 4#32
  let v58 : BitVec 32 := Scalar.shrui c1_i32_18 c4_i32_44
  let v62 : Index := Scalar.indexCast v58
  let c15_i32_45 : BitVec 32 := 15#32
  let v59 : BitVec 32 := Scalar.andi c1_i32_18 c15_i32_45
  let c64_i32_46 : BitVec 32 := 64#32
  let v60 : BitVec 32 := Scalar.muli v59 c64_i32_46
  let c0_i32_19 : BitVec 32 := 0#32
  let c1_i32_21 : BitVec 32 := 1#32
  let arg11 : BitVec 32 := Scf.iv c0_i32_19 c1_i32_21 k0_t2
  let c8_i32_41 : BitVec 32 := 8#32
  let v55 : BitVec 32 := Scalar.muli arg11 c8_i32_41
  let c2_i32_42 : BitVec 32 := 2#32
  let v56 : BitVec 32 := Scalar.addi v55 c2_i32_42
  let v61 : BitVec 32 := Scalar.addi v60 v56
  let v63 : Index := Scalar.indexCast v61
  ![v62.toNat, v63.toNat]
def k0_off42 : Fin 1 → Nat :=
  let c1_i32_18 : BitVec 32 := 1#32
  let c3_i32_43 : BitVec 32 := 3#32
  let v57 : BitVec 32 := Scalar.remsi c1_i32_18 c3_i32_43
  ![v57.toNat]
def k0_off43 (k0_t2 : Fin k0_t2_loop.trips) : Fin 4 → Nat :=
  let c1_i32_18 : BitVec 32 := 1#32
  let c3_i32_43 : BitVec 32 := 3#32
  let v57 : BitVec 32 := Scalar.remsi c1_i32_18 c3_i32_43
  let c0_i32_19 : BitVec 32 := 0#32
  let c1_i32_21 : BitVec 32 := 1#32
  let arg11 : BitVec 32 := Scf.iv c0_i32_19 c1_i32_21 k0_t2
  let c8_i32_41 : BitVec 32 := 8#32
  let v55 : BitVec 32 := Scalar.muli arg11 c8_i32_41
  let c2_i32_42 : BitVec 32 := 2#32
  let v56 : BitVec 32 := Scalar.addi v55 c2_i32_42
  let c0_i32_48 : BitVec 32 := 0#32
  let c0_i32_49 : BitVec 32 := 0#32
  ![v57.toNat, v56.toNat, 0, 0]
def k0_off44 (v64 : BitVec 32) : Fin 2 → Nat :=
  let c2_i32_47 : BitVec 32 := 2#32
  let v65 : BitVec 32 := Scalar.shrui v64 c2_i32_47
  let c0_i32_50 : BitVec 32 := 0#32
  ![v65.toNat, 0]

def k0_chk11 (i : grid0.Coords) (v64 : BitVec 32) : Prop :=
  (∀ (k0_h1 : k0_cond1 i = 1#1), ∀ a, (k0_off44 v64) a + S1x7168.size a ≤ S8000x7168.size a)
theorem k0_off44_inb : ∀ (i : grid0.Coords) (v64 : BitVec 32) (k0_hw11 : k0_chk11 i v64), ∀ (k0_h1 : k0_cond1 i = 1#1), ∀ a, (k0_off44 v64) a + S1x7168.size a ≤ S8000x7168.size a := fun i v64 k0_hw11 k0_h1 => k0_hw11 k0_h1

def k0_off45 (k0_t2 : Fin k0_t2_loop.trips) : Fin 2 → Nat :=
  let c1_i32_18 : BitVec 32 := 1#32
  let c4_i32_54 : BitVec 32 := 4#32
  let v74 : BitVec 32 := Scalar.shrui c1_i32_18 c4_i32_54
  let v78 : Index := Scalar.indexCast v74
  let c15_i32_55 : BitVec 32 := 15#32
  let v75 : BitVec 32 := Scalar.andi c1_i32_18 c15_i32_55
  let c64_i32_56 : BitVec 32 := 64#32
  let v76 : BitVec 32 := Scalar.muli v75 c64_i32_56
  let c0_i32_19 : BitVec 32 := 0#32
  let c1_i32_21 : BitVec 32 := 1#32
  let arg11 : BitVec 32 := Scf.iv c0_i32_19 c1_i32_21 k0_t2
  let c8_i32_51 : BitVec 32 := 8#32
  let v71 : BitVec 32 := Scalar.muli arg11 c8_i32_51
  let c3_i32_52 : BitVec 32 := 3#32
  let v72 : BitVec 32 := Scalar.addi v71 c3_i32_52
  let v77 : BitVec 32 := Scalar.addi v76 v72
  let v79 : Index := Scalar.indexCast v77
  ![v78.toNat, v79.toNat]
def k0_off46 : Fin 1 → Nat :=
  let c1_i32_18 : BitVec 32 := 1#32
  let c3_i32_53 : BitVec 32 := 3#32
  let v73 : BitVec 32 := Scalar.remsi c1_i32_18 c3_i32_53
  ![v73.toNat]
def k0_off47 (k0_t2 : Fin k0_t2_loop.trips) : Fin 4 → Nat :=
  let c1_i32_18 : BitVec 32 := 1#32
  let c3_i32_53 : BitVec 32 := 3#32
  let v73 : BitVec 32 := Scalar.remsi c1_i32_18 c3_i32_53
  let c0_i32_19 : BitVec 32 := 0#32
  let c1_i32_21 : BitVec 32 := 1#32
  let arg11 : BitVec 32 := Scf.iv c0_i32_19 c1_i32_21 k0_t2
  let c8_i32_51 : BitVec 32 := 8#32
  let v71 : BitVec 32 := Scalar.muli arg11 c8_i32_51
  let c3_i32_52 : BitVec 32 := 3#32
  let v72 : BitVec 32 := Scalar.addi v71 c3_i32_52
  let c0_i32_58 : BitVec 32 := 0#32
  let c0_i32_59 : BitVec 32 := 0#32
  ![v73.toNat, v72.toNat, 0, 0]
def k0_off48 (v80 : BitVec 32) : Fin 2 → Nat :=
  let c2_i32_57 : BitVec 32 := 2#32
  let v81 : BitVec 32 := Scalar.shrui v80 c2_i32_57
  let c0_i32_60 : BitVec 32 := 0#32
  ![v81.toNat, 0]

def k0_chk12 (i : grid0.Coords) (v80 : BitVec 32) : Prop :=
  (∀ (k0_h1 : k0_cond1 i = 1#1), ∀ a, (k0_off48 v80) a + S1x7168.size a ≤ S8000x7168.size a)
theorem k0_off48_inb : ∀ (i : grid0.Coords) (v80 : BitVec 32) (k0_hw12 : k0_chk12 i v80), ∀ (k0_h1 : k0_cond1 i = 1#1), ∀ a, (k0_off48 v80) a + S1x7168.size a ≤ S8000x7168.size a := fun i v80 k0_hw12 k0_h1 => k0_hw12 k0_h1

def k0_off49 (k0_t2 : Fin k0_t2_loop.trips) : Fin 2 → Nat :=
  let c1_i32_18 : BitVec 32 := 1#32
  let c4_i32_64 : BitVec 32 := 4#32
  let v90 : BitVec 32 := Scalar.shrui c1_i32_18 c4_i32_64
  let v94 : Index := Scalar.indexCast v90
  let c15_i32_65 : BitVec 32 := 15#32
  let v91 : BitVec 32 := Scalar.andi c1_i32_18 c15_i32_65
  let c64_i32_66 : BitVec 32 := 64#32
  let v92 : BitVec 32 := Scalar.muli v91 c64_i32_66
  let c0_i32_19 : BitVec 32 := 0#32
  let c1_i32_21 : BitVec 32 := 1#32
  let arg11 : BitVec 32 := Scf.iv c0_i32_19 c1_i32_21 k0_t2
  let c8_i32_61 : BitVec 32 := 8#32
  let v87 : BitVec 32 := Scalar.muli arg11 c8_i32_61
  let c4_i32_62 : BitVec 32 := 4#32
  let v88 : BitVec 32 := Scalar.addi v87 c4_i32_62
  let v93 : BitVec 32 := Scalar.addi v92 v88
  let v95 : Index := Scalar.indexCast v93
  ![v94.toNat, v95.toNat]
def k0_off50 : Fin 1 → Nat :=
  let c1_i32_18 : BitVec 32 := 1#32
  let c3_i32_63 : BitVec 32 := 3#32
  let v89 : BitVec 32 := Scalar.remsi c1_i32_18 c3_i32_63
  ![v89.toNat]
def k0_off51 (k0_t2 : Fin k0_t2_loop.trips) : Fin 4 → Nat :=
  let c1_i32_18 : BitVec 32 := 1#32
  let c3_i32_63 : BitVec 32 := 3#32
  let v89 : BitVec 32 := Scalar.remsi c1_i32_18 c3_i32_63
  let c0_i32_19 : BitVec 32 := 0#32
  let c1_i32_21 : BitVec 32 := 1#32
  let arg11 : BitVec 32 := Scf.iv c0_i32_19 c1_i32_21 k0_t2
  let c8_i32_61 : BitVec 32 := 8#32
  let v87 : BitVec 32 := Scalar.muli arg11 c8_i32_61
  let c4_i32_62 : BitVec 32 := 4#32
  let v88 : BitVec 32 := Scalar.addi v87 c4_i32_62
  let c0_i32_68 : BitVec 32 := 0#32
  let c0_i32_69 : BitVec 32 := 0#32
  ![v89.toNat, v88.toNat, 0, 0]
def k0_off52 (v96 : BitVec 32) : Fin 2 → Nat :=
  let c2_i32_67 : BitVec 32 := 2#32
  let v97 : BitVec 32 := Scalar.shrui v96 c2_i32_67
  let c0_i32_70 : BitVec 32 := 0#32
  ![v97.toNat, 0]

def k0_chk13 (i : grid0.Coords) (v96 : BitVec 32) : Prop :=
  (∀ (k0_h1 : k0_cond1 i = 1#1), ∀ a, (k0_off52 v96) a + S1x7168.size a ≤ S8000x7168.size a)
theorem k0_off52_inb : ∀ (i : grid0.Coords) (v96 : BitVec 32) (k0_hw13 : k0_chk13 i v96), ∀ (k0_h1 : k0_cond1 i = 1#1), ∀ a, (k0_off52 v96) a + S1x7168.size a ≤ S8000x7168.size a := fun i v96 k0_hw13 k0_h1 => k0_hw13 k0_h1

def k0_off53 (k0_t2 : Fin k0_t2_loop.trips) : Fin 2 → Nat :=
  let c1_i32_18 : BitVec 32 := 1#32
  let c4_i32_73 : BitVec 32 := 4#32
  let v106 : BitVec 32 := Scalar.shrui c1_i32_18 c4_i32_73
  let v110 : Index := Scalar.indexCast v106
  let c15_i32_74 : BitVec 32 := 15#32
  let v107 : BitVec 32 := Scalar.andi c1_i32_18 c15_i32_74
  let c64_i32_75 : BitVec 32 := 64#32
  let v108 : BitVec 32 := Scalar.muli v107 c64_i32_75
  let c0_i32_19 : BitVec 32 := 0#32
  let c1_i32_21 : BitVec 32 := 1#32
  let arg11 : BitVec 32 := Scf.iv c0_i32_19 c1_i32_21 k0_t2
  let c8_i32_71 : BitVec 32 := 8#32
  let v103 : BitVec 32 := Scalar.muli arg11 c8_i32_71
  let c5_i32 : BitVec 32 := 5#32
  let v104 : BitVec 32 := Scalar.addi v103 c5_i32
  let v109 : BitVec 32 := Scalar.addi v108 v104
  let v111 : Index := Scalar.indexCast v109
  ![v110.toNat, v111.toNat]
def k0_off54 : Fin 1 → Nat :=
  let c1_i32_18 : BitVec 32 := 1#32
  let c3_i32_72 : BitVec 32 := 3#32
  let v105 : BitVec 32 := Scalar.remsi c1_i32_18 c3_i32_72
  ![v105.toNat]
def k0_off55 (k0_t2 : Fin k0_t2_loop.trips) : Fin 4 → Nat :=
  let c1_i32_18 : BitVec 32 := 1#32
  let c3_i32_72 : BitVec 32 := 3#32
  let v105 : BitVec 32 := Scalar.remsi c1_i32_18 c3_i32_72
  let c0_i32_19 : BitVec 32 := 0#32
  let c1_i32_21 : BitVec 32 := 1#32
  let arg11 : BitVec 32 := Scf.iv c0_i32_19 c1_i32_21 k0_t2
  let c8_i32_71 : BitVec 32 := 8#32
  let v103 : BitVec 32 := Scalar.muli arg11 c8_i32_71
  let c5_i32 : BitVec 32 := 5#32
  let v104 : BitVec 32 := Scalar.addi v103 c5_i32
  let c0_i32_77 : BitVec 32 := 0#32
  let c0_i32_78 : BitVec 32 := 0#32
  ![v105.toNat, v104.toNat, 0, 0]
def k0_off56 (v112 : BitVec 32) : Fin 2 → Nat :=
  let c2_i32_76 : BitVec 32 := 2#32
  let v113 : BitVec 32 := Scalar.shrui v112 c2_i32_76
  let c0_i32_79 : BitVec 32 := 0#32
  ![v113.toNat, 0]

def k0_chk14 (i : grid0.Coords) (v112 : BitVec 32) : Prop :=
  (∀ (k0_h1 : k0_cond1 i = 1#1), ∀ a, (k0_off56 v112) a + S1x7168.size a ≤ S8000x7168.size a)
theorem k0_off56_inb : ∀ (i : grid0.Coords) (v112 : BitVec 32) (k0_hw14 : k0_chk14 i v112), ∀ (k0_h1 : k0_cond1 i = 1#1), ∀ a, (k0_off56 v112) a + S1x7168.size a ≤ S8000x7168.size a := fun i v112 k0_hw14 k0_h1 => k0_hw14 k0_h1

def k0_off57 (k0_t2 : Fin k0_t2_loop.trips) : Fin 2 → Nat :=
  let c1_i32_18 : BitVec 32 := 1#32
  let c4_i32_82 : BitVec 32 := 4#32
  let v122 : BitVec 32 := Scalar.shrui c1_i32_18 c4_i32_82
  let v126 : Index := Scalar.indexCast v122
  let c15_i32_83 : BitVec 32 := 15#32
  let v123 : BitVec 32 := Scalar.andi c1_i32_18 c15_i32_83
  let c64_i32_84 : BitVec 32 := 64#32
  let v124 : BitVec 32 := Scalar.muli v123 c64_i32_84
  let c0_i32_19 : BitVec 32 := 0#32
  let c1_i32_21 : BitVec 32 := 1#32
  let arg11 : BitVec 32 := Scf.iv c0_i32_19 c1_i32_21 k0_t2
  let c8_i32_80 : BitVec 32 := 8#32
  let v119 : BitVec 32 := Scalar.muli arg11 c8_i32_80
  let c6_i32 : BitVec 32 := 6#32
  let v120 : BitVec 32 := Scalar.addi v119 c6_i32
  let v125 : BitVec 32 := Scalar.addi v124 v120
  let v127 : Index := Scalar.indexCast v125
  ![v126.toNat, v127.toNat]
def k0_off58 : Fin 1 → Nat :=
  let c1_i32_18 : BitVec 32 := 1#32
  let c3_i32_81 : BitVec 32 := 3#32
  let v121 : BitVec 32 := Scalar.remsi c1_i32_18 c3_i32_81
  ![v121.toNat]
def k0_off59 (k0_t2 : Fin k0_t2_loop.trips) : Fin 4 → Nat :=
  let c1_i32_18 : BitVec 32 := 1#32
  let c3_i32_81 : BitVec 32 := 3#32
  let v121 : BitVec 32 := Scalar.remsi c1_i32_18 c3_i32_81
  let c0_i32_19 : BitVec 32 := 0#32
  let c1_i32_21 : BitVec 32 := 1#32
  let arg11 : BitVec 32 := Scf.iv c0_i32_19 c1_i32_21 k0_t2
  let c8_i32_80 : BitVec 32 := 8#32
  let v119 : BitVec 32 := Scalar.muli arg11 c8_i32_80
  let c6_i32 : BitVec 32 := 6#32
  let v120 : BitVec 32 := Scalar.addi v119 c6_i32
  let c0_i32_86 : BitVec 32 := 0#32
  let c0_i32_87 : BitVec 32 := 0#32
  ![v121.toNat, v120.toNat, 0, 0]
def k0_off60 (v128 : BitVec 32) : Fin 2 → Nat :=
  let c2_i32_85 : BitVec 32 := 2#32
  let v129 : BitVec 32 := Scalar.shrui v128 c2_i32_85
  let c0_i32_88 : BitVec 32 := 0#32
  ![v129.toNat, 0]

def k0_chk15 (i : grid0.Coords) (v128 : BitVec 32) : Prop :=
  (∀ (k0_h1 : k0_cond1 i = 1#1), ∀ a, (k0_off60 v128) a + S1x7168.size a ≤ S8000x7168.size a)
theorem k0_off60_inb : ∀ (i : grid0.Coords) (v128 : BitVec 32) (k0_hw15 : k0_chk15 i v128), ∀ (k0_h1 : k0_cond1 i = 1#1), ∀ a, (k0_off60 v128) a + S1x7168.size a ≤ S8000x7168.size a := fun i v128 k0_hw15 k0_h1 => k0_hw15 k0_h1

def k0_off61 (k0_t2 : Fin k0_t2_loop.trips) : Fin 2 → Nat :=
  let c1_i32_18 : BitVec 32 := 1#32
  let c4_i32_91 : BitVec 32 := 4#32
  let v138 : BitVec 32 := Scalar.shrui c1_i32_18 c4_i32_91
  let v142 : Index := Scalar.indexCast v138
  let c15_i32_92 : BitVec 32 := 15#32
  let v139 : BitVec 32 := Scalar.andi c1_i32_18 c15_i32_92
  let c64_i32_93 : BitVec 32 := 64#32
  let v140 : BitVec 32 := Scalar.muli v139 c64_i32_93
  let c0_i32_19 : BitVec 32 := 0#32
  let c1_i32_21 : BitVec 32 := 1#32
  let arg11 : BitVec 32 := Scf.iv c0_i32_19 c1_i32_21 k0_t2
  let c8_i32_89 : BitVec 32 := 8#32
  let v135 : BitVec 32 := Scalar.muli arg11 c8_i32_89
  let c7_i32 : BitVec 32 := 7#32
  let v136 : BitVec 32 := Scalar.addi v135 c7_i32
  let v141 : BitVec 32 := Scalar.addi v140 v136
  let v143 : Index := Scalar.indexCast v141
  ![v142.toNat, v143.toNat]
def k0_off62 : Fin 1 → Nat :=
  let c1_i32_18 : BitVec 32 := 1#32
  let c3_i32_90 : BitVec 32 := 3#32
  let v137 : BitVec 32 := Scalar.remsi c1_i32_18 c3_i32_90
  ![v137.toNat]
def k0_off63 (k0_t2 : Fin k0_t2_loop.trips) : Fin 4 → Nat :=
  let c1_i32_18 : BitVec 32 := 1#32
  let c3_i32_90 : BitVec 32 := 3#32
  let v137 : BitVec 32 := Scalar.remsi c1_i32_18 c3_i32_90
  let c0_i32_19 : BitVec 32 := 0#32
  let c1_i32_21 : BitVec 32 := 1#32
  let arg11 : BitVec 32 := Scf.iv c0_i32_19 c1_i32_21 k0_t2
  let c8_i32_89 : BitVec 32 := 8#32
  let v135 : BitVec 32 := Scalar.muli arg11 c8_i32_89
  let c7_i32 : BitVec 32 := 7#32
  let v136 : BitVec 32 := Scalar.addi v135 c7_i32
  let c0_i32_95 : BitVec 32 := 0#32
  let c0_i32_96 : BitVec 32 := 0#32
  ![v137.toNat, v136.toNat, 0, 0]
def k0_off64 (v144 : BitVec 32) : Fin 2 → Nat :=
  let c2_i32_94 : BitVec 32 := 2#32
  let v145 : BitVec 32 := Scalar.shrui v144 c2_i32_94
  let c0_i32_97 : BitVec 32 := 0#32
  ![v145.toNat, 0]

def k0_chk16 (i : grid0.Coords) (v144 : BitVec 32) : Prop :=
  (∀ (k0_h1 : k0_cond1 i = 1#1), ∀ a, (k0_off64 v144) a + S1x7168.size a ≤ S8000x7168.size a)
theorem k0_off64_inb : ∀ (i : grid0.Coords) (v144 : BitVec 32) (k0_hw16 : k0_chk16 i v144), ∀ (k0_h1 : k0_cond1 i = 1#1), ∀ a, (k0_off64 v144) a + S1x7168.size a ≤ S8000x7168.size a := fun i v144 k0_hw16 k0_h1 => k0_hw16 k0_h1

def k0_cond2 (i : grid0.Coords) : BitVec 1 :=
  let arg0 : BitVec 32 := BitVec.ofNat 32 (i 0).val
  let c2_i32 : BitVec 32 := 2#32
  let v3 : BitVec 32 := Scalar.addi arg0 c2_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

@[reducible] def k0_t3_loop : Scf.Loop 32 :=
  let c0_i32_14 : BitVec 32 := 0#32
  let c8_i32_15 : BitVec 32 := 8#32
  let v22 : BitVec 32 := Scalar.addi c0_i32_14 c8_i32_15
  let c1_i32_16 : BitVec 32 := 1#32
  ⟨c0_i32_14, v22, c1_i32_16⟩
def k0_off65 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32 : BitVec 32 := 4#32
  let v26 : BitVec 32 := Scalar.shrui v21 c4_i32
  let v30 : Index := Scalar.indexCast v26
  let c15_i32 : BitVec 32 := 15#32
  let v27 : BitVec 32 := Scalar.andi v21 c15_i32
  let c64_i32_21 : BitVec 32 := 64#32
  let v28 : BitVec 32 := Scalar.muli v27 c64_i32_21
  let c0_i32_14 : BitVec 32 := 0#32
  let c1_i32_16 : BitVec 32 := 1#32
  let arg11 : BitVec 32 := Scf.iv c0_i32_14 c1_i32_16 k0_t3
  let c8_i32_18 : BitVec 32 := 8#32
  let v23 : BitVec 32 := Scalar.muli arg11 c8_i32_18
  let c0_i32_19 : BitVec 32 := 0#32
  let v24 : BitVec 32 := Scalar.addi v23 c0_i32_19
  let v29 : BitVec 32 := Scalar.addi v28 v24
  let v31 : Index := Scalar.indexCast v29
  ![v30.toNat, v31.toNat]
def k0_off66 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_20 : BitVec 32 := 3#32
  let v25 : BitVec 32 := Scalar.remsi v21 c3_i32_20
  ![v25.toNat]
def k0_off67 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_20 : BitVec 32 := 3#32
  let v25 : BitVec 32 := Scalar.remsi v21 c3_i32_20
  let c0_i32_14 : BitVec 32 := 0#32
  let c1_i32_16 : BitVec 32 := 1#32
  let arg11 : BitVec 32 := Scf.iv c0_i32_14 c1_i32_16 k0_t3
  let c8_i32_18 : BitVec 32 := 8#32
  let v23 : BitVec 32 := Scalar.muli arg11 c8_i32_18
  let c0_i32_19 : BitVec 32 := 0#32
  let v24 : BitVec 32 := Scalar.addi v23 c0_i32_19
  let c0_i32_23 : BitVec 32 := 0#32
  let c0_i32_24 : BitVec 32 := 0#32
  ![v25.toNat, v24.toNat, 0, 0]
def k0_off68 (v32 : BitVec 32) : Fin 2 → Nat :=
  let c2_i32_22 : BitVec 32 := 2#32
  let v33 : BitVec 32 := Scalar.shrui v32 c2_i32_22
  let c0_i32_25 : BitVec 32 := 0#32
  ![v33.toNat, 0]

def k0_chk17 (i : grid0.Coords) (v32 : BitVec 32) : Prop :=
  (∀ (k0_h2 : k0_cond2 i = 1#1), ∀ a, (k0_off68 v32) a + S1x7168.size a ≤ S8000x7168.size a)
theorem k0_off68_inb : ∀ (i : grid0.Coords) (v32 : BitVec 32) (k0_hw17 : k0_chk17 i v32), ∀ (k0_h2 : k0_cond2 i = 1#1), ∀ a, (k0_off68 v32) a + S1x7168.size a ≤ S8000x7168.size a := fun i v32 k0_hw17 k0_h2 => k0_hw17 k0_h2

def k0_off69 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_29 : BitVec 32 := 4#32
  let v42 : BitVec 32 := Scalar.shrui v21 c4_i32_29
  let v46 : Index := Scalar.indexCast v42
  let c15_i32_30 : BitVec 32 := 15#32
  let v43 : BitVec 32 := Scalar.andi v21 c15_i32_30
  let c64_i32_31 : BitVec 32 := 64#32
  let v44 : BitVec 32 := Scalar.muli v43 c64_i32_31
  let c0_i32_14 : BitVec 32 := 0#32
  let c1_i32_16 : BitVec 32 := 1#32
  let arg11 : BitVec 32 := Scf.iv c0_i32_14 c1_i32_16 k0_t3
  let c8_i32_26 : BitVec 32 := 8#32
  let v39 : BitVec 32 := Scalar.muli arg11 c8_i32_26
  let c1_i32_27 : BitVec 32 := 1#32
  let v40 : BitVec 32 := Scalar.addi v39 c1_i32_27
  let v45 : BitVec 32 := Scalar.addi v44 v40
  let v47 : Index := Scalar.indexCast v45
  ![v46.toNat, v47.toNat]
def k0_off70 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_28 : BitVec 32 := 3#32
  let v41 : BitVec 32 := Scalar.remsi v21 c3_i32_28
  ![v41.toNat]
def k0_off71 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_28 : BitVec 32 := 3#32
  let v41 : BitVec 32 := Scalar.remsi v21 c3_i32_28
  let c0_i32_14 : BitVec 32 := 0#32
  let c1_i32_16 : BitVec 32 := 1#32
  let arg11 : BitVec 32 := Scf.iv c0_i32_14 c1_i32_16 k0_t3
  let c8_i32_26 : BitVec 32 := 8#32
  let v39 : BitVec 32 := Scalar.muli arg11 c8_i32_26
  let c1_i32_27 : BitVec 32 := 1#32
  let v40 : BitVec 32 := Scalar.addi v39 c1_i32_27
  let c0_i32_33 : BitVec 32 := 0#32
  let c0_i32_34 : BitVec 32 := 0#32
  ![v41.toNat, v40.toNat, 0, 0]
def k0_off72 (v48 : BitVec 32) : Fin 2 → Nat :=
  let c2_i32_32 : BitVec 32 := 2#32
  let v49 : BitVec 32 := Scalar.shrui v48 c2_i32_32
  let c0_i32_35 : BitVec 32 := 0#32
  ![v49.toNat, 0]

def k0_chk18 (i : grid0.Coords) (v48 : BitVec 32) : Prop :=
  (∀ (k0_h2 : k0_cond2 i = 1#1), ∀ a, (k0_off72 v48) a + S1x7168.size a ≤ S8000x7168.size a)
theorem k0_off72_inb : ∀ (i : grid0.Coords) (v48 : BitVec 32) (k0_hw18 : k0_chk18 i v48), ∀ (k0_h2 : k0_cond2 i = 1#1), ∀ a, (k0_off72 v48) a + S1x7168.size a ≤ S8000x7168.size a := fun i v48 k0_hw18 k0_h2 => k0_hw18 k0_h2

def k0_off73 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_39 : BitVec 32 := 4#32
  let v58 : BitVec 32 := Scalar.shrui v21 c4_i32_39
  let v62 : Index := Scalar.indexCast v58
  let c15_i32_40 : BitVec 32 := 15#32
  let v59 : BitVec 32 := Scalar.andi v21 c15_i32_40
  let c64_i32_41 : BitVec 32 := 64#32
  let v60 : BitVec 32 := Scalar.muli v59 c64_i32_41
  let c0_i32_14 : BitVec 32 := 0#32
  let c1_i32_16 : BitVec 32 := 1#32
  let arg11 : BitVec 32 := Scf.iv c0_i32_14 c1_i32_16 k0_t3
  let c8_i32_36 : BitVec 32 := 8#32
  let v55 : BitVec 32 := Scalar.muli arg11 c8_i32_36
  let c2_i32_37 : BitVec 32 := 2#32
  let v56 : BitVec 32 := Scalar.addi v55 c2_i32_37
  let v61 : BitVec 32 := Scalar.addi v60 v56
  let v63 : Index := Scalar.indexCast v61
  ![v62.toNat, v63.toNat]
def k0_off74 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_38 : BitVec 32 := 3#32
  let v57 : BitVec 32 := Scalar.remsi v21 c3_i32_38
  ![v57.toNat]
def k0_off75 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_38 : BitVec 32 := 3#32
  let v57 : BitVec 32 := Scalar.remsi v21 c3_i32_38
  let c0_i32_14 : BitVec 32 := 0#32
  let c1_i32_16 : BitVec 32 := 1#32
  let arg11 : BitVec 32 := Scf.iv c0_i32_14 c1_i32_16 k0_t3
  let c8_i32_36 : BitVec 32 := 8#32
  let v55 : BitVec 32 := Scalar.muli arg11 c8_i32_36
  let c2_i32_37 : BitVec 32 := 2#32
  let v56 : BitVec 32 := Scalar.addi v55 c2_i32_37
  let c0_i32_43 : BitVec 32 := 0#32
  let c0_i32_44 : BitVec 32 := 0#32
  ![v57.toNat, v56.toNat, 0, 0]
def k0_off76 (v64 : BitVec 32) : Fin 2 → Nat :=
  let c2_i32_42 : BitVec 32 := 2#32
  let v65 : BitVec 32 := Scalar.shrui v64 c2_i32_42
  let c0_i32_45 : BitVec 32 := 0#32
  ![v65.toNat, 0]

def k0_chk19 (i : grid0.Coords) (v64 : BitVec 32) : Prop :=
  (∀ (k0_h2 : k0_cond2 i = 1#1), ∀ a, (k0_off76 v64) a + S1x7168.size a ≤ S8000x7168.size a)
theorem k0_off76_inb : ∀ (i : grid0.Coords) (v64 : BitVec 32) (k0_hw19 : k0_chk19 i v64), ∀ (k0_h2 : k0_cond2 i = 1#1), ∀ a, (k0_off76 v64) a + S1x7168.size a ≤ S8000x7168.size a := fun i v64 k0_hw19 k0_h2 => k0_hw19 k0_h2

def k0_off77 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_49 : BitVec 32 := 4#32
  let v74 : BitVec 32 := Scalar.shrui v21 c4_i32_49
  let v78 : Index := Scalar.indexCast v74
  let c15_i32_50 : BitVec 32 := 15#32
  let v75 : BitVec 32 := Scalar.andi v21 c15_i32_50
  let c64_i32_51 : BitVec 32 := 64#32
  let v76 : BitVec 32 := Scalar.muli v75 c64_i32_51
  let c0_i32_14 : BitVec 32 := 0#32
  let c1_i32_16 : BitVec 32 := 1#32
  let arg11 : BitVec 32 := Scf.iv c0_i32_14 c1_i32_16 k0_t3
  let c8_i32_46 : BitVec 32 := 8#32
  let v71 : BitVec 32 := Scalar.muli arg11 c8_i32_46
  let c3_i32_47 : BitVec 32 := 3#32
  let v72 : BitVec 32 := Scalar.addi v71 c3_i32_47
  let v77 : BitVec 32 := Scalar.addi v76 v72
  let v79 : Index := Scalar.indexCast v77
  ![v78.toNat, v79.toNat]
def k0_off78 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_48 : BitVec 32 := 3#32
  let v73 : BitVec 32 := Scalar.remsi v21 c3_i32_48
  ![v73.toNat]
def k0_off79 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_48 : BitVec 32 := 3#32
  let v73 : BitVec 32 := Scalar.remsi v21 c3_i32_48
  let c0_i32_14 : BitVec 32 := 0#32
  let c1_i32_16 : BitVec 32 := 1#32
  let arg11 : BitVec 32 := Scf.iv c0_i32_14 c1_i32_16 k0_t3
  let c8_i32_46 : BitVec 32 := 8#32
  let v71 : BitVec 32 := Scalar.muli arg11 c8_i32_46
  let c3_i32_47 : BitVec 32 := 3#32
  let v72 : BitVec 32 := Scalar.addi v71 c3_i32_47
  let c0_i32_53 : BitVec 32 := 0#32
  let c0_i32_54 : BitVec 32 := 0#32
  ![v73.toNat, v72.toNat, 0, 0]
def k0_off80 (v80 : BitVec 32) : Fin 2 → Nat :=
  let c2_i32_52 : BitVec 32 := 2#32
  let v81 : BitVec 32 := Scalar.shrui v80 c2_i32_52
  let c0_i32_55 : BitVec 32 := 0#32
  ![v81.toNat, 0]

def k0_chk20 (i : grid0.Coords) (v80 : BitVec 32) : Prop :=
  (∀ (k0_h2 : k0_cond2 i = 1#1), ∀ a, (k0_off80 v80) a + S1x7168.size a ≤ S8000x7168.size a)
theorem k0_off80_inb : ∀ (i : grid0.Coords) (v80 : BitVec 32) (k0_hw20 : k0_chk20 i v80), ∀ (k0_h2 : k0_cond2 i = 1#1), ∀ a, (k0_off80 v80) a + S1x7168.size a ≤ S8000x7168.size a := fun i v80 k0_hw20 k0_h2 => k0_hw20 k0_h2

def k0_off81 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_59 : BitVec 32 := 4#32
  let v90 : BitVec 32 := Scalar.shrui v21 c4_i32_59
  let v94 : Index := Scalar.indexCast v90
  let c15_i32_60 : BitVec 32 := 15#32
  let v91 : BitVec 32 := Scalar.andi v21 c15_i32_60
  let c64_i32_61 : BitVec 32 := 64#32
  let v92 : BitVec 32 := Scalar.muli v91 c64_i32_61
  let c0_i32_14 : BitVec 32 := 0#32
  let c1_i32_16 : BitVec 32 := 1#32
  let arg11 : BitVec 32 := Scf.iv c0_i32_14 c1_i32_16 k0_t3
  let c8_i32_56 : BitVec 32 := 8#32
  let v87 : BitVec 32 := Scalar.muli arg11 c8_i32_56
  let c4_i32_57 : BitVec 32 := 4#32
  let v88 : BitVec 32 := Scalar.addi v87 c4_i32_57
  let v93 : BitVec 32 := Scalar.addi v92 v88
  let v95 : Index := Scalar.indexCast v93
  ![v94.toNat, v95.toNat]
def k0_off82 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_58 : BitVec 32 := 3#32
  let v89 : BitVec 32 := Scalar.remsi v21 c3_i32_58
  ![v89.toNat]
def k0_off83 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_58 : BitVec 32 := 3#32
  let v89 : BitVec 32 := Scalar.remsi v21 c3_i32_58
  let c0_i32_14 : BitVec 32 := 0#32
  let c1_i32_16 : BitVec 32 := 1#32
  let arg11 : BitVec 32 := Scf.iv c0_i32_14 c1_i32_16 k0_t3
  let c8_i32_56 : BitVec 32 := 8#32
  let v87 : BitVec 32 := Scalar.muli arg11 c8_i32_56
  let c4_i32_57 : BitVec 32 := 4#32
  let v88 : BitVec 32 := Scalar.addi v87 c4_i32_57
  let c0_i32_63 : BitVec 32 := 0#32
  let c0_i32_64 : BitVec 32 := 0#32
  ![v89.toNat, v88.toNat, 0, 0]
def k0_off84 (v96 : BitVec 32) : Fin 2 → Nat :=
  let c2_i32_62 : BitVec 32 := 2#32
  let v97 : BitVec 32 := Scalar.shrui v96 c2_i32_62
  let c0_i32_65 : BitVec 32 := 0#32
  ![v97.toNat, 0]

def k0_chk21 (i : grid0.Coords) (v96 : BitVec 32) : Prop :=
  (∀ (k0_h2 : k0_cond2 i = 1#1), ∀ a, (k0_off84 v96) a + S1x7168.size a ≤ S8000x7168.size a)
theorem k0_off84_inb : ∀ (i : grid0.Coords) (v96 : BitVec 32) (k0_hw21 : k0_chk21 i v96), ∀ (k0_h2 : k0_cond2 i = 1#1), ∀ a, (k0_off84 v96) a + S1x7168.size a ≤ S8000x7168.size a := fun i v96 k0_hw21 k0_h2 => k0_hw21 k0_h2

def k0_off85 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_68 : BitVec 32 := 4#32
  let v106 : BitVec 32 := Scalar.shrui v21 c4_i32_68
  let v110 : Index := Scalar.indexCast v106
  let c15_i32_69 : BitVec 32 := 15#32
  let v107 : BitVec 32 := Scalar.andi v21 c15_i32_69
  let c64_i32_70 : BitVec 32 := 64#32
  let v108 : BitVec 32 := Scalar.muli v107 c64_i32_70
  let c0_i32_14 : BitVec 32 := 0#32
  let c1_i32_16 : BitVec 32 := 1#32
  let arg11 : BitVec 32 := Scf.iv c0_i32_14 c1_i32_16 k0_t3
  let c8_i32_66 : BitVec 32 := 8#32
  let v103 : BitVec 32 := Scalar.muli arg11 c8_i32_66
  let c5_i32 : BitVec 32 := 5#32
  let v104 : BitVec 32 := Scalar.addi v103 c5_i32
  let v109 : BitVec 32 := Scalar.addi v108 v104
  let v111 : Index := Scalar.indexCast v109
  ![v110.toNat, v111.toNat]
def k0_off86 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_67 : BitVec 32 := 3#32
  let v105 : BitVec 32 := Scalar.remsi v21 c3_i32_67
  ![v105.toNat]
def k0_off87 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_67 : BitVec 32 := 3#32
  let v105 : BitVec 32 := Scalar.remsi v21 c3_i32_67
  let c0_i32_14 : BitVec 32 := 0#32
  let c1_i32_16 : BitVec 32 := 1#32
  let arg11 : BitVec 32 := Scf.iv c0_i32_14 c1_i32_16 k0_t3
  let c8_i32_66 : BitVec 32 := 8#32
  let v103 : BitVec 32 := Scalar.muli arg11 c8_i32_66
  let c5_i32 : BitVec 32 := 5#32
  let v104 : BitVec 32 := Scalar.addi v103 c5_i32
  let c0_i32_72 : BitVec 32 := 0#32
  let c0_i32_73 : BitVec 32 := 0#32
  ![v105.toNat, v104.toNat, 0, 0]
def k0_off88 (v112 : BitVec 32) : Fin 2 → Nat :=
  let c2_i32_71 : BitVec 32 := 2#32
  let v113 : BitVec 32 := Scalar.shrui v112 c2_i32_71
  let c0_i32_74 : BitVec 32 := 0#32
  ![v113.toNat, 0]

def k0_chk22 (i : grid0.Coords) (v112 : BitVec 32) : Prop :=
  (∀ (k0_h2 : k0_cond2 i = 1#1), ∀ a, (k0_off88 v112) a + S1x7168.size a ≤ S8000x7168.size a)
theorem k0_off88_inb : ∀ (i : grid0.Coords) (v112 : BitVec 32) (k0_hw22 : k0_chk22 i v112), ∀ (k0_h2 : k0_cond2 i = 1#1), ∀ a, (k0_off88 v112) a + S1x7168.size a ≤ S8000x7168.size a := fun i v112 k0_hw22 k0_h2 => k0_hw22 k0_h2

def k0_off89 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_77 : BitVec 32 := 4#32
  let v122 : BitVec 32 := Scalar.shrui v21 c4_i32_77
  let v126 : Index := Scalar.indexCast v122
  let c15_i32_78 : BitVec 32 := 15#32
  let v123 : BitVec 32 := Scalar.andi v21 c15_i32_78
  let c64_i32_79 : BitVec 32 := 64#32
  let v124 : BitVec 32 := Scalar.muli v123 c64_i32_79
  let c0_i32_14 : BitVec 32 := 0#32
  let c1_i32_16 : BitVec 32 := 1#32
  let arg11 : BitVec 32 := Scf.iv c0_i32_14 c1_i32_16 k0_t3
  let c8_i32_75 : BitVec 32 := 8#32
  let v119 : BitVec 32 := Scalar.muli arg11 c8_i32_75
  let c6_i32 : BitVec 32 := 6#32
  let v120 : BitVec 32 := Scalar.addi v119 c6_i32
  let v125 : BitVec 32 := Scalar.addi v124 v120
  let v127 : Index := Scalar.indexCast v125
  ![v126.toNat, v127.toNat]
def k0_off90 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_76 : BitVec 32 := 3#32
  let v121 : BitVec 32 := Scalar.remsi v21 c3_i32_76
  ![v121.toNat]
def k0_off91 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_76 : BitVec 32 := 3#32
  let v121 : BitVec 32 := Scalar.remsi v21 c3_i32_76
  let c0_i32_14 : BitVec 32 := 0#32
  let c1_i32_16 : BitVec 32 := 1#32
  let arg11 : BitVec 32 := Scf.iv c0_i32_14 c1_i32_16 k0_t3
  let c8_i32_75 : BitVec 32 := 8#32
  let v119 : BitVec 32 := Scalar.muli arg11 c8_i32_75
  let c6_i32 : BitVec 32 := 6#32
  let v120 : BitVec 32 := Scalar.addi v119 c6_i32
  let c0_i32_81 : BitVec 32 := 0#32
  let c0_i32_82 : BitVec 32 := 0#32
  ![v121.toNat, v120.toNat, 0, 0]
def k0_off92 (v128 : BitVec 32) : Fin 2 → Nat :=
  let c2_i32_80 : BitVec 32 := 2#32
  let v129 : BitVec 32 := Scalar.shrui v128 c2_i32_80
  let c0_i32_83 : BitVec 32 := 0#32
  ![v129.toNat, 0]

def k0_chk23 (i : grid0.Coords) (v128 : BitVec 32) : Prop :=
  (∀ (k0_h2 : k0_cond2 i = 1#1), ∀ a, (k0_off92 v128) a + S1x7168.size a ≤ S8000x7168.size a)
theorem k0_off92_inb : ∀ (i : grid0.Coords) (v128 : BitVec 32) (k0_hw23 : k0_chk23 i v128), ∀ (k0_h2 : k0_cond2 i = 1#1), ∀ a, (k0_off92 v128) a + S1x7168.size a ≤ S8000x7168.size a := fun i v128 k0_hw23 k0_h2 => k0_hw23 k0_h2

def k0_off93 (i : grid0.Coords) (k0_t3 : Fin k0_t3_loop.trips) : Fin 2 → Nat :=
  let arg0 : BitVec 32 := BitVec.ofNat 32 (i 0).val
  let c2_i32_13 : BitVec 32 := 2#32
  let v21 : BitVec 32 := Scalar.addi arg0 c2_i32_13
  let c4_i32_86 : BitVec 32 := 4#32
  let v138 : BitVec 32 := Scalar.shrui v21 c4_i32_86
  let v142 : Index := Scalar.indexCast v138
  let c15_i32_87 : BitVec 32 := 15#32
  let v139 : BitVec 32 := Scalar.andi v21 c15_i32_87
  let c64_i32_88 : BitVec 32 := 64#32
  let v140 : BitVec 32 := Scalar.muli v139 c64_i32_88
  let c0_i32_14 : BitVec 32 := 0#32
  let c1_i32_16 : BitVec 32 := 1#32
  let arg11 : BitVec 32 := Scf.iv c0_i32_14 c1_i32_16 k0_t3
  let c8_i32_84 : BitVec 32 := 8#32
  let v135 : BitVec 32 := Scalar.muli arg11 c8_i32_84
  let c7_i32 : BitVec 32 := 7#32
  let v136 : BitVec 32 := Scalar.addi v135 c7_i32
  let v141 : BitVec 32 := Scalar.addi v140 v136
  let v143 : Index := Scalar.indexCast v141
  ![v142.toNat, v143.toNat]
def k0_off94 (i : grid0.Coords) : Fin 1 → Nat :=
  let arg0 : BitVec 32 := BitVec.ofNat 32 (i 0).val
  let c2_i32_13 : BitVec 32 := 2#32
  let v21 : BitVec 32 := Scalar.addi arg0 c2_i32_13
  let c3_i32_85 : BitVec 32 := 3#32
  let v137 : BitVec 32 := Scalar.remsi v21 c3_i32_85
  ![v137.toNat]
def k0_off95 (i : grid0.Coords) (k0_t3 : Fin k0_t3_loop.trips) : Fin 4 → Nat :=
  let arg0 : BitVec 32 := BitVec.ofNat 32 (i 0).val
  let c2_i32_13 : BitVec 32 := 2#32
  let v21 : BitVec 32 := Scalar.addi arg0 c2_i32_13
  let c3_i32_85 : BitVec 32 := 3#32
  let v137 : BitVec 32 := Scalar.remsi v21 c3_i32_85
  let c0_i32_14 : BitVec 32 := 0#32
  let c1_i32_16 : BitVec 32 := 1#32
  let arg11 : BitVec 32 := Scf.iv c0_i32_14 c1_i32_16 k0_t3
  let c8_i32_84 : BitVec 32 := 8#32
  let v135 : BitVec 32 := Scalar.muli arg11 c8_i32_84
  let c7_i32 : BitVec 32 := 7#32
  let v136 : BitVec 32 := Scalar.addi v135 c7_i32
  let c0_i32_90 : BitVec 32 := 0#32
  let c0_i32_91 : BitVec 32 := 0#32
  ![v137.toNat, v136.toNat, 0, 0]
def k0_off96 (v144 : BitVec 32) : Fin 2 → Nat :=
  let c2_i32_89 : BitVec 32 := 2#32
  let v145 : BitVec 32 := Scalar.shrui v144 c2_i32_89
  let c0_i32_92 : BitVec 32 := 0#32
  ![v145.toNat, 0]

def k0_chk24 (i : grid0.Coords) (v144 : BitVec 32) : Prop :=
  (∀ (k0_h2 : k0_cond2 i = 1#1), ∀ a, (k0_off96 v144) a + S1x7168.size a ≤ S8000x7168.size a)
theorem k0_off96_inb : ∀ (i : grid0.Coords) (v144 : BitVec 32) (k0_hw24 : k0_chk24 i v144), ∀ (k0_h2 : k0_cond2 i = 1#1), ∀ a, (k0_off96 v144) a + S1x7168.size a ≤ S8000x7168.size a := fun i v144 k0_hw24 k0_h2 => k0_hw24 k0_h2

def k0_off97 (i : grid0.Coords) : Fin 1 → Nat :=
  let arg0 : BitVec 32 := BitVec.ofNat 32 (i 0).val
  let c3_i32 : BitVec 32 := 3#32
  let v10 : BitVec 32 := Scalar.remsi arg0 c3_i32
  ![v10.toNat]
def k0_off98 (i : grid0.Coords) : Fin 4 → Nat :=
  let arg0 : BitVec 32 := BitVec.ofNat 32 (i 0).val
  let c3_i32 : BitVec 32 := 3#32
  let v10 : BitVec 32 := Scalar.remsi arg0 c3_i32
  let c0_i32_4 : BitVec 32 := 0#32
  let c0_i32_5 : BitVec 32 := 0#32
  let c0_i32_6 : BitVec 32 := 0#32
  ![v10.toNat, 0, 0, 0]
@[reducible] def k0_t4_loop : Scf.Loop 32 :=
  let c0_i32_11 : BitVec 32 := 0#32
  let c8_i32 : BitVec 32 := 8#32
  let v20 : BitVec 32 := Scalar.addi c0_i32_11 c8_i32
  let c1_i32 : BitVec 32 := 1#32
  ⟨c0_i32_11, v20, c1_i32⟩
def k0_off99 (i : grid0.Coords) (k0_t4 : Fin k0_t4_loop.trips) : Fin 2 → Nat :=
  let arg0 : BitVec 32 := BitVec.ofNat 32 (i 0).val
  let c4_i32 : BitVec 32 := 4#32
  let v23 : BitVec 32 := Scalar.shrui arg0 c4_i32
  let v27 : Index := Scalar.indexCast v23
  let c15_i32 : BitVec 32 := 15#32
  let v24 : BitVec 32 := Scalar.andi arg0 c15_i32
  let c64_i32_15 : BitVec 32 := 64#32
  let v25 : BitVec 32 := Scalar.muli v24 c64_i32_15
  let c0_i32_11 : BitVec 32 := 0#32
  let c1_i32 : BitVec 32 := 1#32
  let arg11 : BitVec 32 := Scf.iv c0_i32_11 c1_i32 k0_t4
  let c8_i32_13 : BitVec 32 := 8#32
  let v21 : BitVec 32 := Scalar.muli arg11 c8_i32_13
  let c0_i32_14 : BitVec 32 := 0#32
  let v22 : BitVec 32 := Scalar.addi v21 c0_i32_14
  let v26 : BitVec 32 := Scalar.addi v25 v22
  let v28 : Index := Scalar.indexCast v26
  ![v27.toNat, v28.toNat]
def k0_mult1 (v29 : BitVec 32) : BitVec 32 :=
  let c7_i32 : BitVec 32 := 7#32
  let v32 : BitVec 32 := Scalar.shrui v29 c7_i32
  let c128_i32 : BitVec 32 := 128#32
  let v33 : BitVec 32 := Scalar.muli v32 c128_i32
  v33

def k0_off100 (v29 : BitVec 32) : Fin 2 → Nat :=
  let c0_16 : Index := 0#32
  let c7_i32 : BitVec 32 := 7#32
  let v32 : BitVec 32 := Scalar.shrui v29 c7_i32
  let c128_i32 : BitVec 32 := 128#32
  let v33 : BitVec 32 := Scalar.muli v32 c128_i32
  let v34 : BitVec 32 := v33
  let v35 : Index := Scalar.indexCast v34
  ![0, v35.toNat]

def k0_chk25 (v29 : BitVec 32) : Prop :=
  (128 ∣ (k0_mult1 v29).toNat) ∧
  (∀ a, (k0_off100 v29) a + S56x128.size a ≤ S56x32000.size a)
theorem k0_mult1_dvd : ∀ (v29 : BitVec 32) (k0_hw25 : k0_chk25 v29), 128 ∣ (k0_mult1 v29).toNat := fun v29 k0_hw25 => k0_hw25.1
theorem k0_off100_inb : ∀ (v29 : BitVec 32) (k0_hw25 : k0_chk25 v29), ∀ a, (k0_off100 v29) a + S56x128.size a ≤ S56x32000.size a := fun v29 k0_hw25 => k0_hw25.2

def k0_off101 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v50 : Index := Scalar.indexCast v10
  let c0_i32_11 : BitVec 32 := 0#32
  let c1_i32 : BitVec 32 := 1#32
  let arg11 : BitVec 32 := Scf.iv c0_i32_11 c1_i32 k0_t4
  let c8_i32_13 : BitVec 32 := 8#32
  let v21 : BitVec 32 := Scalar.muli arg11 c8_i32_13
  let c0_i32_14 : BitVec 32 := 0#32
  let v22 : BitVec 32 := Scalar.addi v21 c0_i32_14
  let v51 : Index := Scalar.indexCast v22
  let c0_21 : Index := 0#32
  let c0_22 : Index := 0#32
  ![v50.toNat, v51.toNat, 0, 0]
def k0_off102 (i : grid0.Coords) (k0_t4 : Fin k0_t4_loop.trips) : Fin 2 → Nat :=
  let arg0 : BitVec 32 := BitVec.ofNat 32 (i 0).val
  let c4_i32_25 : BitVec 32 := 4#32
  let v59 : BitVec 32 := Scalar.shrui arg0 c4_i32_25
  let v63 : Index := Scalar.indexCast v59
  let c15_i32_26 : BitVec 32 := 15#32
  let v60 : BitVec 32 := Scalar.andi arg0 c15_i32_26
  let c64_i32_27 : BitVec 32 := 64#32
  let v61 : BitVec 32 := Scalar.muli v60 c64_i32_27
  let c0_i32_11 : BitVec 32 := 0#32
  let c1_i32 : BitVec 32 := 1#32
  let arg11 : BitVec 32 := Scf.iv c0_i32_11 c1_i32 k0_t4
  let c8_i32_13 : BitVec 32 := 8#32
  let v21 : BitVec 32 := Scalar.muli arg11 c8_i32_13
  let c0_i32_14 : BitVec 32 := 0#32
  let v22 : BitVec 32 := Scalar.addi v21 c0_i32_14
  let c1_i32_24 : BitVec 32 := 1#32
  let v58 : BitVec 32 := Scalar.addi v22 c1_i32_24
  let v62 : BitVec 32 := Scalar.addi v61 v58
  let v64 : Index := Scalar.indexCast v62
  ![v63.toNat, v64.toNat]
def k0_mult2 (v65 : BitVec 32) : BitVec 32 :=
  let c7_i32_29 : BitVec 32 := 7#32
  let v68 : BitVec 32 := Scalar.shrui v65 c7_i32_29
  let c128_i32_30 : BitVec 32 := 128#32
  let v69 : BitVec 32 := Scalar.muli v68 c128_i32_30
  v69

def k0_off103 (v65 : BitVec 32) : Fin 2 → Nat :=
  let c0_31 : Index := 0#32
  let c7_i32_29 : BitVec 32 := 7#32
  let v68 : BitVec 32 := Scalar.shrui v65 c7_i32_29
  let c128_i32_30 : BitVec 32 := 128#32
  let v69 : BitVec 32 := Scalar.muli v68 c128_i32_30
  let v70 : BitVec 32 := v69
  let v71 : Index := Scalar.indexCast v70
  ![0, v71.toNat]

def k0_chk26 (v65 : BitVec 32) : Prop :=
  (128 ∣ (k0_mult2 v65).toNat) ∧
  (∀ a, (k0_off103 v65) a + S56x128.size a ≤ S56x32000.size a)
theorem k0_mult2_dvd : ∀ (v65 : BitVec 32) (k0_hw26 : k0_chk26 v65), 128 ∣ (k0_mult2 v65).toNat := fun v65 k0_hw26 => k0_hw26.1
theorem k0_off103_inb : ∀ (v65 : BitVec 32) (k0_hw26 : k0_chk26 v65), ∀ a, (k0_off103 v65) a + S56x128.size a ≤ S56x32000.size a := fun v65 k0_hw26 => k0_hw26.2

def k0_off104 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v86 : Index := Scalar.indexCast v10
  let c0_i32_11 : BitVec 32 := 0#32
  let c1_i32 : BitVec 32 := 1#32
  let arg11 : BitVec 32 := Scf.iv c0_i32_11 c1_i32 k0_t4
  let c8_i32_13 : BitVec 32 := 8#32
  let v21 : BitVec 32 := Scalar.muli arg11 c8_i32_13
  let c0_i32_14 : BitVec 32 := 0#32
  let v22 : BitVec 32 := Scalar.addi v21 c0_i32_14
  let c1_i32_24 : BitVec 32 := 1#32
  let v58 : BitVec 32 := Scalar.addi v22 c1_i32_24
  let v87 : Index := Scalar.indexCast v58
  let c0_37 : Index := 0#32
  let c0_38 : Index := 0#32
  ![v86.toNat, v87.toNat, 0, 0]
def k0_off105 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v142 : Index := Scalar.indexCast arg11
  let c0_48 : Index := 0#32
  ![v142.toNat, 0, 0, 0]
def k0_off106 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v156 : Index := Scalar.indexCast arg11
  let c0_51 : Index := 0#32
  ![v156.toNat, 8, 0, 0]
def k0_off107 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v170 : Index := Scalar.indexCast arg11
  let c0_54 : Index := 0#32
  ![v170.toNat, 16, 0, 0]
def k0_off108 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v184 : Index := Scalar.indexCast arg11
  let c0_57 : Index := 0#32
  ![v184.toNat, 24, 0, 0]
def k0_off109 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v198 : Index := Scalar.indexCast arg11
  let c0_60 : Index := 0#32
  ![v198.toNat, 32, 0, 0]
def k0_off110 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v212 : Index := Scalar.indexCast arg11
  let c0_63 : Index := 0#32
  ![v212.toNat, 40, 0, 0]
def k0_off111 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v226 : Index := Scalar.indexCast arg11
  let c0_66 : Index := 0#32
  ![v226.toNat, 48, 0, 0]
def k0_off112 (i : grid0.Coords) (k0_t4 : Fin k0_t4_loop.trips) : Fin 2 → Nat :=
  let arg0 : BitVec 32 := BitVec.ofNat 32 (i 0).val
  let c4_i32_71 : BitVec 32 := 4#32
  let v239 : BitVec 32 := Scalar.shrui arg0 c4_i32_71
  let v243 : Index := Scalar.indexCast v239
  let c15_i32_72 : BitVec 32 := 15#32
  let v240 : BitVec 32 := Scalar.andi arg0 c15_i32_72
  let c64_i32_73 : BitVec 32 := 64#32
  let v241 : BitVec 32 := Scalar.muli v240 c64_i32_73
  let c0_i32_11 : BitVec 32 := 0#32
  let c1_i32 : BitVec 32 := 1#32
  let arg11 : BitVec 32 := Scf.iv c0_i32_11 c1_i32 k0_t4
  let c8_i32_69 : BitVec 32 := 8#32
  let v237 : BitVec 32 := Scalar.muli arg11 c8_i32_69
  let c2_i32_70 : BitVec 32 := 2#32
  let v238 : BitVec 32 := Scalar.addi v237 c2_i32_70
  let v242 : BitVec 32 := Scalar.addi v241 v238
  let v244 : Index := Scalar.indexCast v242
  ![v243.toNat, v244.toNat]
def k0_mult3 (v245 : BitVec 32) : BitVec 32 :=
  let c7_i32_75 : BitVec 32 := 7#32
  let v248 : BitVec 32 := Scalar.shrui v245 c7_i32_75
  let c128_i32_76 : BitVec 32 := 128#32
  let v249 : BitVec 32 := Scalar.muli v248 c128_i32_76
  v249

def k0_off113 (v245 : BitVec 32) : Fin 2 → Nat :=
  let c0_77 : Index := 0#32
  let c7_i32_75 : BitVec 32 := 7#32
  let v248 : BitVec 32 := Scalar.shrui v245 c7_i32_75
  let c128_i32_76 : BitVec 32 := 128#32
  let v249 : BitVec 32 := Scalar.muli v248 c128_i32_76
  let v250 : BitVec 32 := v249
  let v251 : Index := Scalar.indexCast v250
  ![0, v251.toNat]

def k0_chk27 (v245 : BitVec 32) : Prop :=
  (128 ∣ (k0_mult3 v245).toNat) ∧
  (∀ a, (k0_off113 v245) a + S56x128.size a ≤ S56x32000.size a)
theorem k0_mult3_dvd : ∀ (v245 : BitVec 32) (k0_hw27 : k0_chk27 v245), 128 ∣ (k0_mult3 v245).toNat := fun v245 k0_hw27 => k0_hw27.1
theorem k0_off113_inb : ∀ (v245 : BitVec 32) (k0_hw27 : k0_chk27 v245), ∀ a, (k0_off113 v245) a + S56x128.size a ≤ S56x32000.size a := fun v245 k0_hw27 => k0_hw27.2

def k0_off114 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v266 : Index := Scalar.indexCast v10
  let c0_i32_11 : BitVec 32 := 0#32
  let c1_i32 : BitVec 32 := 1#32
  let arg11 : BitVec 32 := Scf.iv c0_i32_11 c1_i32 k0_t4
  let c8_i32_69 : BitVec 32 := 8#32
  let v237 : BitVec 32 := Scalar.muli arg11 c8_i32_69
  let c2_i32_70 : BitVec 32 := 2#32
  let v238 : BitVec 32 := Scalar.addi v237 c2_i32_70
  let v267 : Index := Scalar.indexCast v238
  let c0_83 : Index := 0#32
  let c0_84 : Index := 0#32
  ![v266.toNat, v267.toNat, 0, 0]
def k0_off115 (i : grid0.Coords) (k0_t4 : Fin k0_t4_loop.trips) : Fin 2 → Nat :=
  let arg0 : BitVec 32 := BitVec.ofNat 32 (i 0).val
  let c4_i32_87 : BitVec 32 := 4#32
  let v275 : BitVec 32 := Scalar.shrui arg0 c4_i32_87
  let v279 : Index := Scalar.indexCast v275
  let c15_i32_88 : BitVec 32 := 15#32
  let v276 : BitVec 32 := Scalar.andi arg0 c15_i32_88
  let c64_i32_89 : BitVec 32 := 64#32
  let v277 : BitVec 32 := Scalar.muli v276 c64_i32_89
  let c0_i32_11 : BitVec 32 := 0#32
  let c1_i32 : BitVec 32 := 1#32
  let arg11 : BitVec 32 := Scf.iv c0_i32_11 c1_i32 k0_t4
  let c8_i32_69 : BitVec 32 := 8#32
  let v237 : BitVec 32 := Scalar.muli arg11 c8_i32_69
  let c2_i32_70 : BitVec 32 := 2#32
  let v238 : BitVec 32 := Scalar.addi v237 c2_i32_70
  let c1_i32_86 : BitVec 32 := 1#32
  let v274 : BitVec 32 := Scalar.addi v238 c1_i32_86
  let v278 : BitVec 32 := Scalar.addi v277 v274
  let v280 : Index := Scalar.indexCast v278
  ![v279.toNat, v280.toNat]
def k0_mult4 (v281 : BitVec 32) : BitVec 32 :=
  let c7_i32_91 : BitVec 32 := 7#32
  let v284 : BitVec 32 := Scalar.shrui v281 c7_i32_91
  let c128_i32_92 : BitVec 32 := 128#32
  let v285 : BitVec 32 := Scalar.muli v284 c128_i32_92
  v285

def k0_off116 (v281 : BitVec 32) : Fin 2 → Nat :=
  let c0_93 : Index := 0#32
  let c7_i32_91 : BitVec 32 := 7#32
  let v284 : BitVec 32 := Scalar.shrui v281 c7_i32_91
  let c128_i32_92 : BitVec 32 := 128#32
  let v285 : BitVec 32 := Scalar.muli v284 c128_i32_92
  let v286 : BitVec 32 := v285
  let v287 : Index := Scalar.indexCast v286
  ![0, v287.toNat]

def k0_chk28 (v281 : BitVec 32) : Prop :=
  (128 ∣ (k0_mult4 v281).toNat) ∧
  (∀ a, (k0_off116 v281) a + S56x128.size a ≤ S56x32000.size a)
theorem k0_mult4_dvd : ∀ (v281 : BitVec 32) (k0_hw28 : k0_chk28 v281), 128 ∣ (k0_mult4 v281).toNat := fun v281 k0_hw28 => k0_hw28.1
theorem k0_off116_inb : ∀ (v281 : BitVec 32) (k0_hw28 : k0_chk28 v281), ∀ a, (k0_off116 v281) a + S56x128.size a ≤ S56x32000.size a := fun v281 k0_hw28 => k0_hw28.2

def k0_off117 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v302 : Index := Scalar.indexCast v10
  let c0_i32_11 : BitVec 32 := 0#32
  let c1_i32 : BitVec 32 := 1#32
  let arg11 : BitVec 32 := Scf.iv c0_i32_11 c1_i32 k0_t4
  let c8_i32_69 : BitVec 32 := 8#32
  let v237 : BitVec 32 := Scalar.muli arg11 c8_i32_69
  let c2_i32_70 : BitVec 32 := 2#32
  let v238 : BitVec 32 := Scalar.addi v237 c2_i32_70
  let c1_i32_86 : BitVec 32 := 1#32
  let v274 : BitVec 32 := Scalar.addi v238 c1_i32_86
  let v303 : Index := Scalar.indexCast v274
  let c0_99 : Index := 0#32
  let c0_100 : Index := 0#32
  ![v302.toNat, v303.toNat, 0, 0]
def k0_off118 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v358 : Index := Scalar.indexCast arg11
  let c0_112 : Index := 0#32
  ![v358.toNat, 0, 2, 0]
def k0_off119 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v372 : Index := Scalar.indexCast arg11
  let c0_115 : Index := 0#32
  ![v372.toNat, 8, 2, 0]
def k0_off120 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v386 : Index := Scalar.indexCast arg11
  let c0_118 : Index := 0#32
  ![v386.toNat, 16, 2, 0]
def k0_off121 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v400 : Index := Scalar.indexCast arg11
  let c0_121 : Index := 0#32
  ![v400.toNat, 24, 2, 0]
def k0_off122 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v414 : Index := Scalar.indexCast arg11
  let c0_124 : Index := 0#32
  ![v414.toNat, 32, 2, 0]
def k0_off123 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v428 : Index := Scalar.indexCast arg11
  let c0_127 : Index := 0#32
  ![v428.toNat, 40, 2, 0]
def k0_off124 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v442 : Index := Scalar.indexCast arg11
  let c0_130 : Index := 0#32
  ![v442.toNat, 48, 2, 0]
def k0_off125 (i : grid0.Coords) (k0_t4 : Fin k0_t4_loop.trips) : Fin 2 → Nat :=
  let arg0 : BitVec 32 := BitVec.ofNat 32 (i 0).val
  let c4_i32_135 : BitVec 32 := 4#32
  let v455 : BitVec 32 := Scalar.shrui arg0 c4_i32_135
  let v459 : Index := Scalar.indexCast v455
  let c15_i32_136 : BitVec 32 := 15#32
  let v456 : BitVec 32 := Scalar.andi arg0 c15_i32_136
  let c64_i32_137 : BitVec 32 := 64#32
  let v457 : BitVec 32 := Scalar.muli v456 c64_i32_137
  let c0_i32_11 : BitVec 32 := 0#32
  let c1_i32 : BitVec 32 := 1#32
  let arg11 : BitVec 32 := Scf.iv c0_i32_11 c1_i32 k0_t4
  let c8_i32_133 : BitVec 32 := 8#32
  let v453 : BitVec 32 := Scalar.muli arg11 c8_i32_133
  let c4_i32_134 : BitVec 32 := 4#32
  let v454 : BitVec 32 := Scalar.addi v453 c4_i32_134
  let v458 : BitVec 32 := Scalar.addi v457 v454
  let v460 : Index := Scalar.indexCast v458
  ![v459.toNat, v460.toNat]
def k0_mult5 (v461 : BitVec 32) : BitVec 32 :=
  let c7_i32_139 : BitVec 32 := 7#32
  let v464 : BitVec 32 := Scalar.shrui v461 c7_i32_139
  let c128_i32_140 : BitVec 32 := 128#32
  let v465 : BitVec 32 := Scalar.muli v464 c128_i32_140
  v465

def k0_off126 (v461 : BitVec 32) : Fin 2 → Nat :=
  let c0_141 : Index := 0#32
  let c7_i32_139 : BitVec 32 := 7#32
  let v464 : BitVec 32 := Scalar.shrui v461 c7_i32_139
  let c128_i32_140 : BitVec 32 := 128#32
  let v465 : BitVec 32 := Scalar.muli v464 c128_i32_140
  let v466 : BitVec 32 := v465
  let v467 : Index := Scalar.indexCast v466
  ![0, v467.toNat]

def k0_chk29 (v461 : BitVec 32) : Prop :=
  (128 ∣ (k0_mult5 v461).toNat) ∧
  (∀ a, (k0_off126 v461) a + S56x128.size a ≤ S56x32000.size a)
theorem k0_mult5_dvd : ∀ (v461 : BitVec 32) (k0_hw29 : k0_chk29 v461), 128 ∣ (k0_mult5 v461).toNat := fun v461 k0_hw29 => k0_hw29.1
theorem k0_off126_inb : ∀ (v461 : BitVec 32) (k0_hw29 : k0_chk29 v461), ∀ a, (k0_off126 v461) a + S56x128.size a ≤ S56x32000.size a := fun v461 k0_hw29 => k0_hw29.2

def k0_off127 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v482 : Index := Scalar.indexCast v10
  let c0_i32_11 : BitVec 32 := 0#32
  let c1_i32 : BitVec 32 := 1#32
  let arg11 : BitVec 32 := Scf.iv c0_i32_11 c1_i32 k0_t4
  let c8_i32_133 : BitVec 32 := 8#32
  let v453 : BitVec 32 := Scalar.muli arg11 c8_i32_133
  let c4_i32_134 : BitVec 32 := 4#32
  let v454 : BitVec 32 := Scalar.addi v453 c4_i32_134
  let v483 : Index := Scalar.indexCast v454
  let c0_147 : Index := 0#32
  let c0_148 : Index := 0#32
  ![v482.toNat, v483.toNat, 0, 0]
def k0_off128 (i : grid0.Coords) (k0_t4 : Fin k0_t4_loop.trips) : Fin 2 → Nat :=
  let arg0 : BitVec 32 := BitVec.ofNat 32 (i 0).val
  let c4_i32_151 : BitVec 32 := 4#32
  let v491 : BitVec 32 := Scalar.shrui arg0 c4_i32_151
  let v495 : Index := Scalar.indexCast v491
  let c15_i32_152 : BitVec 32 := 15#32
  let v492 : BitVec 32 := Scalar.andi arg0 c15_i32_152
  let c64_i32_153 : BitVec 32 := 64#32
  let v493 : BitVec 32 := Scalar.muli v492 c64_i32_153
  let c0_i32_11 : BitVec 32 := 0#32
  let c1_i32 : BitVec 32 := 1#32
  let arg11 : BitVec 32 := Scf.iv c0_i32_11 c1_i32 k0_t4
  let c8_i32_133 : BitVec 32 := 8#32
  let v453 : BitVec 32 := Scalar.muli arg11 c8_i32_133
  let c4_i32_134 : BitVec 32 := 4#32
  let v454 : BitVec 32 := Scalar.addi v453 c4_i32_134
  let c1_i32_150 : BitVec 32 := 1#32
  let v490 : BitVec 32 := Scalar.addi v454 c1_i32_150
  let v494 : BitVec 32 := Scalar.addi v493 v490
  let v496 : Index := Scalar.indexCast v494
  ![v495.toNat, v496.toNat]
def k0_mult6 (v497 : BitVec 32) : BitVec 32 :=
  let c7_i32_155 : BitVec 32 := 7#32
  let v500 : BitVec 32 := Scalar.shrui v497 c7_i32_155
  let c128_i32_156 : BitVec 32 := 128#32
  let v501 : BitVec 32 := Scalar.muli v500 c128_i32_156
  v501

def k0_off129 (v497 : BitVec 32) : Fin 2 → Nat :=
  let c0_157 : Index := 0#32
  let c7_i32_155 : BitVec 32 := 7#32
  let v500 : BitVec 32 := Scalar.shrui v497 c7_i32_155
  let c128_i32_156 : BitVec 32 := 128#32
  let v501 : BitVec 32 := Scalar.muli v500 c128_i32_156
  let v502 : BitVec 32 := v501
  let v503 : Index := Scalar.indexCast v502
  ![0, v503.toNat]

def k0_chk30 (v497 : BitVec 32) : Prop :=
  (128 ∣ (k0_mult6 v497).toNat) ∧
  (∀ a, (k0_off129 v497) a + S56x128.size a ≤ S56x32000.size a)
theorem k0_mult6_dvd : ∀ (v497 : BitVec 32) (k0_hw30 : k0_chk30 v497), 128 ∣ (k0_mult6 v497).toNat := fun v497 k0_hw30 => k0_hw30.1
theorem k0_off129_inb : ∀ (v497 : BitVec 32) (k0_hw30 : k0_chk30 v497), ∀ a, (k0_off129 v497) a + S56x128.size a ≤ S56x32000.size a := fun v497 k0_hw30 => k0_hw30.2

def k0_off130 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v518 : Index := Scalar.indexCast v10
  let c0_i32_11 : BitVec 32 := 0#32
  let c1_i32 : BitVec 32 := 1#32
  let arg11 : BitVec 32 := Scf.iv c0_i32_11 c1_i32 k0_t4
  let c8_i32_133 : BitVec 32 := 8#32
  let v453 : BitVec 32 := Scalar.muli arg11 c8_i32_133
  let c4_i32_134 : BitVec 32 := 4#32
  let v454 : BitVec 32 := Scalar.addi v453 c4_i32_134
  let c1_i32_150 : BitVec 32 := 1#32
  let v490 : BitVec 32 := Scalar.addi v454 c1_i32_150
  let v519 : Index := Scalar.indexCast v490
  let c0_163 : Index := 0#32
  let c0_164 : Index := 0#32
  ![v518.toNat, v519.toNat, 0, 0]
def k0_off131 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v574 : Index := Scalar.indexCast arg11
  let c0_176 : Index := 0#32
  ![v574.toNat, 0, 4, 0]
def k0_off132 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v588 : Index := Scalar.indexCast arg11
  let c0_179 : Index := 0#32
  ![v588.toNat, 8, 4, 0]
def k0_off133 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v602 : Index := Scalar.indexCast arg11
  let c0_182 : Index := 0#32
  ![v602.toNat, 16, 4, 0]
def k0_off134 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v616 : Index := Scalar.indexCast arg11
  let c0_185 : Index := 0#32
  ![v616.toNat, 24, 4, 0]
def k0_off135 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v630 : Index := Scalar.indexCast arg11
  let c0_188 : Index := 0#32
  ![v630.toNat, 32, 4, 0]
def k0_off136 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v644 : Index := Scalar.indexCast arg11
  let c0_191 : Index := 0#32
  ![v644.toNat, 40, 4, 0]
def k0_off137 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v658 : Index := Scalar.indexCast arg11
  let c0_194 : Index := 0#32
  ![v658.toNat, 48, 4, 0]
def k0_off138 (i : grid0.Coords) (k0_t4 : Fin k0_t4_loop.trips) : Fin 2 → Nat :=
  let arg0 : BitVec 32 := BitVec.ofNat 32 (i 0).val
  let c4_i32_198 : BitVec 32 := 4#32
  let v671 : BitVec 32 := Scalar.shrui arg0 c4_i32_198
  let v675 : Index := Scalar.indexCast v671
  let c15_i32_199 : BitVec 32 := 15#32
  let v672 : BitVec 32 := Scalar.andi arg0 c15_i32_199
  let c64_i32_200 : BitVec 32 := 64#32
  let v673 : BitVec 32 := Scalar.muli v672 c64_i32_200
  let c0_i32_11 : BitVec 32 := 0#32
  let c1_i32 : BitVec 32 := 1#32
  let arg11 : BitVec 32 := Scf.iv c0_i32_11 c1_i32 k0_t4
  let c8_i32_197 : BitVec 32 := 8#32
  let v669 : BitVec 32 := Scalar.muli arg11 c8_i32_197
  let c6_i32 : BitVec 32 := 6#32
  let v670 : BitVec 32 := Scalar.addi v669 c6_i32
  let v674 : BitVec 32 := Scalar.addi v673 v670
  let v676 : Index := Scalar.indexCast v674
  ![v675.toNat, v676.toNat]
def k0_mult7 (v677 : BitVec 32) : BitVec 32 :=
  let c7_i32_202 : BitVec 32 := 7#32
  let v680 : BitVec 32 := Scalar.shrui v677 c7_i32_202
  let c128_i32_203 : BitVec 32 := 128#32
  let v681 : BitVec 32 := Scalar.muli v680 c128_i32_203
  v681

def k0_off139 (v677 : BitVec 32) : Fin 2 → Nat :=
  let c0_204 : Index := 0#32
  let c7_i32_202 : BitVec 32 := 7#32
  let v680 : BitVec 32 := Scalar.shrui v677 c7_i32_202
  let c128_i32_203 : BitVec 32 := 128#32
  let v681 : BitVec 32 := Scalar.muli v680 c128_i32_203
  let v682 : BitVec 32 := v681
  let v683 : Index := Scalar.indexCast v682
  ![0, v683.toNat]

def k0_chk31 (v677 : BitVec 32) : Prop :=
  (128 ∣ (k0_mult7 v677).toNat) ∧
  (∀ a, (k0_off139 v677) a + S56x128.size a ≤ S56x32000.size a)
theorem k0_mult7_dvd : ∀ (v677 : BitVec 32) (k0_hw31 : k0_chk31 v677), 128 ∣ (k0_mult7 v677).toNat := fun v677 k0_hw31 => k0_hw31.1
theorem k0_off139_inb : ∀ (v677 : BitVec 32) (k0_hw31 : k0_chk31 v677), ∀ a, (k0_off139 v677) a + S56x128.size a ≤ S56x32000.size a := fun v677 k0_hw31 => k0_hw31.2

def k0_off140 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v698 : Index := Scalar.indexCast v10
  let c0_i32_11 : BitVec 32 := 0#32
  let c1_i32 : BitVec 32 := 1#32
  let arg11 : BitVec 32 := Scf.iv c0_i32_11 c1_i32 k0_t4
  let c8_i32_197 : BitVec 32 := 8#32
  let v669 : BitVec 32 := Scalar.muli arg11 c8_i32_197
  let c6_i32 : BitVec 32 := 6#32
  let v670 : BitVec 32 := Scalar.addi v669 c6_i32
  let v699 : Index := Scalar.indexCast v670
  let c0_210 : Index := 0#32
  let c0_211 : Index := 0#32
  ![v698.toNat, v699.toNat, 0, 0]
def k0_off141 (i : grid0.Coords) (k0_t4 : Fin k0_t4_loop.trips) : Fin 2 → Nat :=
  let arg0 : BitVec 32 := BitVec.ofNat 32 (i 0).val
  let c4_i32_214 : BitVec 32 := 4#32
  let v707 : BitVec 32 := Scalar.shrui arg0 c4_i32_214
  let v711 : Index := Scalar.indexCast v707
  let c15_i32_215 : BitVec 32 := 15#32
  let v708 : BitVec 32 := Scalar.andi arg0 c15_i32_215
  let c64_i32_216 : BitVec 32 := 64#32
  let v709 : BitVec 32 := Scalar.muli v708 c64_i32_216
  let c0_i32_11 : BitVec 32 := 0#32
  let c1_i32 : BitVec 32 := 1#32
  let arg11 : BitVec 32 := Scf.iv c0_i32_11 c1_i32 k0_t4
  let c8_i32_197 : BitVec 32 := 8#32
  let v669 : BitVec 32 := Scalar.muli arg11 c8_i32_197
  let c6_i32 : BitVec 32 := 6#32
  let v670 : BitVec 32 := Scalar.addi v669 c6_i32
  let c1_i32_213 : BitVec 32 := 1#32
  let v706 : BitVec 32 := Scalar.addi v670 c1_i32_213
  let v710 : BitVec 32 := Scalar.addi v709 v706
  let v712 : Index := Scalar.indexCast v710
  ![v711.toNat, v712.toNat]
def k0_mult8 (v713 : BitVec 32) : BitVec 32 :=
  let c7_i32_218 : BitVec 32 := 7#32
  let v716 : BitVec 32 := Scalar.shrui v713 c7_i32_218
  let c128_i32_219 : BitVec 32 := 128#32
  let v717 : BitVec 32 := Scalar.muli v716 c128_i32_219
  v717

def k0_off142 (v713 : BitVec 32) : Fin 2 → Nat :=
  let c0_220 : Index := 0#32
  let c7_i32_218 : BitVec 32 := 7#32
  let v716 : BitVec 32 := Scalar.shrui v713 c7_i32_218
  let c128_i32_219 : BitVec 32 := 128#32
  let v717 : BitVec 32 := Scalar.muli v716 c128_i32_219
  let v718 : BitVec 32 := v717
  let v719 : Index := Scalar.indexCast v718
  ![0, v719.toNat]

def k0_chk32 (v713 : BitVec 32) : Prop :=
  (128 ∣ (k0_mult8 v713).toNat) ∧
  (∀ a, (k0_off142 v713) a + S56x128.size a ≤ S56x32000.size a)
theorem k0_mult8_dvd : ∀ (v713 : BitVec 32) (k0_hw32 : k0_chk32 v713), 128 ∣ (k0_mult8 v713).toNat := fun v713 k0_hw32 => k0_hw32.1
theorem k0_off142_inb : ∀ (v713 : BitVec 32) (k0_hw32 : k0_chk32 v713), ∀ a, (k0_off142 v713) a + S56x128.size a ≤ S56x32000.size a := fun v713 k0_hw32 => k0_hw32.2

def k0_off143 (i : grid0.Coords) (k0_t4 : Fin k0_t4_loop.trips) : Fin 4 → Nat :=
  let arg0 : BitVec 32 := BitVec.ofNat 32 (i 0).val
  let c3_i32 : BitVec 32 := 3#32
  let v10 : BitVec 32 := Scalar.remsi arg0 c3_i32
  let v734 : Index := Scalar.indexCast v10
  let c0_i32_11 : BitVec 32 := 0#32
  let c1_i32 : BitVec 32 := 1#32
  let arg11 : BitVec 32 := Scf.iv c0_i32_11 c1_i32 k0_t4
  let c8_i32_197 : BitVec 32 := 8#32
  let v669 : BitVec 32 := Scalar.muli arg11 c8_i32_197
  let c6_i32 : BitVec 32 := 6#32
  let v670 : BitVec 32 := Scalar.addi v669 c6_i32
  let c1_i32_213 : BitVec 32 := 1#32
  let v706 : BitVec 32 := Scalar.addi v670 c1_i32_213
  let v735 : Index := Scalar.indexCast v706
  let c0_226 : Index := 0#32
  let c0_227 : Index := 0#32
  ![v734.toNat, v735.toNat, 0, 0]
def k0_off144 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v790 : Index := Scalar.indexCast arg11
  let c0_239 : Index := 0#32
  ![v790.toNat, 0, 6, 0]
def k0_off145 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v804 : Index := Scalar.indexCast arg11
  let c0_242 : Index := 0#32
  ![v804.toNat, 8, 6, 0]
def k0_off146 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v818 : Index := Scalar.indexCast arg11
  let c0_245 : Index := 0#32
  ![v818.toNat, 16, 6, 0]
def k0_off147 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v832 : Index := Scalar.indexCast arg11
  let c0_248 : Index := 0#32
  ![v832.toNat, 24, 6, 0]
def k0_off148 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v846 : Index := Scalar.indexCast arg11
  let c0_251 : Index := 0#32
  ![v846.toNat, 32, 6, 0]
def k0_off149 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v860 : Index := Scalar.indexCast arg11
  let c0_254 : Index := 0#32
  ![v860.toNat, 40, 6, 0]
def k0_off150 (k0_t4 : Fin k0_t4_loop.trips) : Fin 4 → Nat :=
  let c0_i32_11 : BitVec 32 := 0#32
  let c1_i32 : BitVec 32 := 1#32
  let arg11 : BitVec 32 := Scf.iv c0_i32_11 c1_i32 k0_t4
  let v874 : Index := Scalar.indexCast arg11
  let c0_257 : Index := 0#32
  ![v874.toNat, 48, 6, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S56x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x56x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x56x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
abbrev S112x128 : Shape := ⟨2, ![112, 128]⟩
variable {F : FTy → Type} [FloatOps F] [Named F]
def κ : String → Option EReal := fun
  | "inv_d" => some ((1 / 7168 : ℝ) : EReal)
  | _ => none
-- ==== ReferenceIdeal.lean ====
abbrev S4x1024 : Shape := ⟨2, ![4, 1024]⟩
abbrev S32000x7168 : Shape := ⟨2, ![32000, 7168]⟩
abbrev S32000x56 : Shape := ⟨2, ![32000, 56]⟩
abbrev S7168 : Shape := ⟨1, ![7168]⟩
abbrev S_ : Shape := ⟨0, ![]⟩
abbrev S4x1024x1 : Shape := ⟨3, ![4, 1024, 1]⟩
abbrev S4x1024x7168 : Shape := ⟨3, ![4, 1024, 7168]⟩
abbrev S4x1024x56 : Shape := ⟨3, ![4, 1024, 56]⟩
abbrev S4x1024x56x128 : Shape := ⟨4, ![4, 1024, 56, 128]⟩
abbrev S4x1024x56x1 : Shape := ⟨4, ![4, 1024, 56, 1]⟩
abbrev S1x1x7168 : Shape := ⟨3, ![1, 1, 7168]⟩

abbrev nBuf : Space → Nat
  | .hbm => 50
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S32000x7168, .i8⟩
  | .hbm, ⟨2, _⟩ => ⟨S32000x56, .f32⟩
  | .hbm, ⟨3, _⟩ => ⟨S7168, .bf16⟩
  | .hbm, ⟨4, _⟩ => ⟨S_, .i32⟩
  | .hbm, ⟨5, _⟩ => ⟨S4x1024, .i32⟩
  | .hbm, ⟨6, _⟩ => ⟨S4x1024, .i1⟩
  | .hbm, ⟨7, _⟩ => ⟨S_, .i32⟩
  | .hbm, ⟨8, _⟩ => ⟨S4x1024, .i32⟩
  | .hbm, ⟨9, _⟩ => ⟨S4x1024, .i32⟩
  | .hbm, ⟨10, _⟩ => ⟨S4x1024, .i32⟩
  | .hbm, ⟨11, _⟩ => ⟨S4x1024x1, .i32⟩
  | .hbm, ⟨12, _⟩ => ⟨S4x1024x7168, .i8⟩
  | .hbm, ⟨13, _⟩ => ⟨S_, .i32⟩
  | .hbm, ⟨14, _⟩ => ⟨S4x1024, .i32⟩
  | .hbm, ⟨15, _⟩ => ⟨S4x1024, .i1⟩
  | .hbm, ⟨16, _⟩ => ⟨S_, .i32⟩
  | .hbm, ⟨17, _⟩ => ⟨S4x1024, .i32⟩
  | .hbm, ⟨18, _⟩ => ⟨S4x1024, .i32⟩
  | .hbm, ⟨19, _⟩ => ⟨S4x1024, .i32⟩
  | .hbm, ⟨20, _⟩ => ⟨S4x1024x1, .i32⟩
  | .hbm, ⟨21, _⟩ => ⟨S4x1024x56, .f32⟩
  | .hbm, ⟨22, _⟩ => ⟨S4x1024x7168, .i32⟩
  | .hbm, ⟨23, _⟩ => ⟨S4x1024x7168, .f32⟩
  | .hbm, ⟨24, _⟩ => ⟨S4x1024x7168, .bf16⟩
  | .hbm, ⟨25, _⟩ => ⟨S4x1024x56x128, .bf16⟩
  | .hbm, ⟨26, _⟩ => ⟨S4x1024x56, .bf16⟩
  | .hbm, ⟨27, _⟩ => ⟨S4x1024x56x1, .bf16⟩
  | .hbm, ⟨28, _⟩ => ⟨S4x1024x56x128, .bf16⟩
  | .hbm, ⟨29, _⟩ => ⟨S4x1024x56x128, .bf16⟩
  | .hbm, ⟨30, _⟩ => ⟨S4x1024x7168, .bf16⟩
  | .hbm, ⟨31, _⟩ => ⟨S4x1024x7168, .f32⟩
  | .hbm, ⟨32, _⟩ => ⟨S4x1024x7168, .f32⟩
  | .hbm, ⟨33, _⟩ => ⟨S_, .f32⟩
  | .hbm, ⟨34, _⟩ => ⟨S4x1024, .f32⟩
  | .hbm, ⟨35, _⟩ => ⟨S4x1024x1, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024x1, .f32⟩
  | .hbm, ⟨43, _⟩ => ⟨S4x1024x7168, .f32⟩
  | .hbm, ⟨44, _⟩ => ⟨S4x1024x7168, .f32⟩
  | .hbm, ⟨45, _⟩ => ⟨S7168, .f32⟩
  | .hbm, ⟨46, _⟩ => ⟨S1x1x7168, .f32⟩
  | .hbm, ⟨47, _⟩ => ⟨S4x1024x7168, .f32⟩
  | .hbm, ⟨48, _⟩ => ⟨S4x1024x7168, .f32⟩
  | .hbm, ⟨49, _⟩ => ⟨S4x1024x7168, .bf16⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Preserves.lean ====
/- Each rule used to idealize the kernel is sound at the sites it was used. -/
module

public import proofs.«01_k».proof.Defs
public import Idealize.ShloMosaic.Lib.Bf16Pair

@[expose] public section

noncomputable section

namespace Cert.Proof

open Idealize.ShloMosaic

/-- The idealized kernel is the kernel, by the rules it cites: packing two values in a word, reading a word's halves, the named constant
    `1 / 7168`, and a word's halves as two rows. -/
theorem preserves : Cert.preserves_Kernel_KernelIdeal :=
  ⟨IdealRules.bf16_pair.packStatement _, IdealRules.bf16_pair.statement _ _,
    IdealRules.named_const.statement Cert.KernelIdeal.κ "inv_d" .f32 0x39124925#32 ((1 / 7168 : ℝ) : EReal) rfl,
    IdealRules.bf16_pair.statement _ _⟩

end Cert.Proof
-- ==== Proof.Rows.lean ====
/- One issue of a batch of row copies: a row of a large array copied into a row of a buffer, on a cell on which
   many such copies are in flight. Nothing here speaks of one kernel. -/
module

public import Idealize.ShloMosaic.Lib.Batch

@[expose] public section

noncomputable section

namespace Cert.Proof.Rows

open Idealize.ShloMosaic Idealize.ShloMosaic.Transfers
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}
variable (EC : UEmb Counters (MT nD τ sig Ix Val Name U Lvl))
variable (𝒱 : Variants) (c : Thread nD τ) (bd : Option 𝒱.V)
variable {α : Type} {Q : α → sProp (MT nD τ sig Ix Val Name U Lvl)} {sp sp' : Space} {s : Shape} {e : EltTy} {n : ℕ}

/-- The next copy of a batch reads an array of which a share is held whole, and its row of the destination is held
    outright. What is delivered is that row at contents `G`, once `G` agrees there with what the copy reads. The
    copy keeps half of the share of the array that was held. -/
theorem wp_rowCopy [Infinite Name] [EC.LandsIn (upEmb : UEmb _ (MT nD τ sig Ix Val Name U Lvl))]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {i : ℕ} {W : Buf Val (src.view.loc c)}
    {fd G : Buf Val (dst.view.loc c)} {S : Finset (Idx (dst.view.loc c))}
    {D : Fin n → sProp (MT nD τ sig Ix Val Name U Lvl)} {j u : ℕ}
    (ι : Ix) (N : ℕ) (hN : dst.view.amount sm = N) (hj : j < n) (hu : u ≤ j * N)
    (hS : dst.view.set = S)
    (hread : dst.view.read Val G = src.view.read Val W)
    (hD : (dst.view.loc c ↦[S]{fullShare} G) ⊢ D ⟨j, hj⟩) :
    iprop((src.view.loc c ↦[Finset.univ]{shareDrop q i} W) ∗ (dst.view.loc c ↦[S]{fullShare} fd) ∗ Batch EC c sm ι N D j u)
      ⊢ iprop((iprop((src.view.loc c ↦[Finset.univ]{shareDrop q (i + 1)} W) ∗ Batch EC c sm ι N D (j + 1) u)
              -∗ wp frame (wpE defs 𝒱 c bd) Set.univ (k ⟨⟩) Q)
          -∗ wp frame (wpE defs 𝒱 c bd) Set.univ (.op (.enqueueDma src (.here dst) sm hsrc hdst hsem) k) Q) := by
  subst hS
  iintro ⟨Hw, Hd, HB⟩ Hk
  ihave Hw' := (pointsTo_share (PosShare.mem_left_op_right (shareDrop q i))).1 $$ Hw
  icases Hw' with ⟨Hl, Hr⟩
  ihave Hr' := (pointsTo_split_subset (Finset.subset_univ src.view.set)).1 $$ Hr
  icases Hr' with ⟨Hs, -⟩
  iapply (wp_dmaBatch EC 𝒱 c bd (via := .same) (fs := W) (fd := fd) (Sd := dst.view.set) ι N hN subset_rfl hj hu ?hD) $$ [Hs Hd HB]
  case hD =>
    refine (sep_mono_left (Entails.of_eq ?_)).trans (sep_elim_left.trans hD)
    refine pointsTo_congr fun x hx => ?_
    obtain ⟨y, -, rfl⟩ := Finset.mem_map.mp hx
    rw [View.write_emb_of_mem _ _ (Finset.mem_univ _)]
    have h := congrFun hread y
    simp only [View.read] at h
    simp only [ReadAs.apply, View.read]
    rw [← h, cast_cast, cast_eq]
  · isplitl [Hs]; · iexact Hs
    isplitl [Hd]; · iexact Hd
    iexact HB
  iintro HB
  iapply Hk
  isplitl [Hl]; · iexact Hl
  iexact HB

end Cert.Proof.Rows
-- ==== Proof.Kernel.Fetch.lean ====
/- One row fetch of the kernel: the program's text, what is held before and after it. -/
module

public import Idealize.ShloMosaic.Lib.ValueIdxCore
public import proofs.«01_k».proof.Proof.Rows
public import proofs.«01_k».proof.Proof.Gen.Kernel
public import proofs.«01_k».proof.Proof.Gen.Kernel.Skeleton
public import proofs.«01_k».proof.Proof.Gen.Kernel.Loops
public import proofs.«01_k».proof.Proof.Gen.Kernel.Launch

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra: the pipeline library's, beside the counters the transfers take their tokens from. -/
abbrev UU (nD : Nat) (τ : Topo) : Type := UR sig nD τ × Counters
abbrev 𝒱₀ : Variants := Variants.none

local notation "𝕄" => MT nD τ sig Unit (Elt F) ℕ (UU nD τ) ℕ

/-- Where the counters sit in the algebra. -/
abbrev EC : UEmb Counters (MT nD τ sig Unit (Elt F) ℕ (UU nD τ) ℕ) := countersEmb

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The token table, the code words, the row buffer and its semaphores. -/
abbrev mIds : Memref sig .tc .smem S4x1024 .i32 := Memref.whole main_arg0
abbrev mWords : Memref sig .tc .hbm S8000x7168 .i32 := Memref.whole main_v2
abbrev mPool : Memref sig .tc .vmem S3x64x1x7168 .i32 := Memref.whole cc0_scratch0

/-- Token `t` of step `m`: its identifier, read off the table. -/
def idAt (ids : S4x1024.Idx → BitVec 32) (m : ℕ) (t : ℕ) : BitVec 32 :=
  ids (ValueIdx.ix2 (⟨m / 16 % 4, Nat.mod_lt _ (by decide)⟩ : Fin 4) (⟨(m % 16 * 64 + t) % 1024, Nat.mod_lt _ (by decide)⟩ : Fin 1024))

/-- The rows of the row buffer that slot `s` and token `t` name. -/
def rowSet (s t : ℕ) : Finset S3x64x1x7168.Idx := Finset.univ.filter fun x => (x 0).val = s ∧ (x 1).val = t
/-- The rows of slot `s`. -/
def slotSet (s : ℕ) : Finset S3x64x1x7168.Idx := Finset.univ.filter fun x => (x 0).val = s

/-- What step `m` fetches: row `t` of its slot is the row of words that holds the codes of token `t`. -/
def fetched (ids : S4x1024.Idx → BitVec 32) (W : S8000x7168.Idx → BitVec 32) (m : ℕ) : S3x64x1x7168.Idx → BitVec 32 := fun x =>
  W (ValueIdx.ix2 (⟨(idAt ids m (x 1).val >>> 2).toNat % 8000, Nat.mod_lt _ (by decide)⟩ : Fin 8000) (x 3))

/-- The text of one fetch: read the identifier, check that its row lies in the words, start the copy of the row. -/
def fetchOne (o1 : Fin 2 → ℕ) (h1 : ∀ a, o1 a + S1x1.size a ≤ S4x1024.size a) (o2 : Fin 1 → ℕ) (h2 : ∀ a, o2 a + S1.size a ≤ S3.size a)
    (o3 : Fin 4 → ℕ) (h3 : ∀ a, o3 a + S1x1x1x7168.size a ≤ S3x64x1x7168.size a)
    (o4 : BitVec 32 → Fin 2 → ℕ) (chk : BitVec 32 → Prop) (dec : ∀ v, Decidable (chk v))
    (h4 : ∀ v, chk v → ∀ a, o4 v a + S1x7168.size a ≤ S8000x7168.size a) :
    Prog (TpuEff nD τ sig (Elt F) Λ₀ .tc) PUnit := do
  let v : Elt F .i32 ← smemLoad mIds (Rect.unit (s := S4x1024) o1 S1x1.size h1) numel1_S1x1 rfl
  have hw : chk v := (← Prog.lift (TpuEff.assume (chk v) (dec v))).down
  Prog.lift (.enqueueDma (mWords.slice (Rect.unit (s := S8000x7168) (o4 v) S1x7168.size (h4 v hw)) (fun _ => rfl))
    (.here ((mPool.slice (Rect.unit (s := S3x64x1x7168) o3 S1x1x1x7168.size h3) (fun _ => rfl)).squeeze S1x7168 squeezes_S1x1x1x7168_S1x7168))
    (.dma ((cc0_scratch2.slice (Rect.unit (s := S3) o2 S1.size h2)).squeeze S_ squeezes_S1_S_).sem)
    (View.wordExact_bits rfl) ((View.wordExact_bits rfl).reshape _ _) ⟨Or.inl rfl, trivial⟩)

/-- The semaphore of slot `s`. -/
abbrev rowSem (s : ℕ) (h : ∀ a, (![s] : Fin 1 → ℕ) a + S1.size a ≤ S3.size a) : SemLoc sig :=
  .dma ((cc0_scratch2.slice (Rect.unit (s := S3) ![s] S1.size h)).squeeze S_ squeezes_S1_S_).sem

theorem slot_inb (m : ℕ) : ∀ a, (![m % 3] : Fin 1 → ℕ) a + S1.size a ≤ S3.size a := fun
  | 0 => by show m % 3 + 1 ≤ 3; omega

/-- The semaphore of step `m`'s slot. -/
abbrev stepSem (m : ℕ) : SemLoc sig := rowSem (m % 3) (slot_inb m)

/-- The units one row's copy signals. -/
abbrev rowUnits : ℕ := (((mPool.slice (Rect.unit (s := S3x64x1x7168) ![0, 0, 0, 0] S1x1x1x7168.size (by decide)) (fun _ => rfl)).squeeze S1x7168 squeezes_S1x1x1x7168_S1x7168).view).amount (stepSem 0)

variable (c : Dev nD) (ids : S4x1024.Idx → BitVec 32) (W : S8000x7168.Idx → BitVec 32)

/-- What the copy of step `m`, token `t` delivers: that row, fetched. -/
def rowD (m : ℕ) (t : Fin 64) : sProp 𝕄 :=
  mPool.view.loc (c : Thread nD τ) ↦[rowSet (m % 3) t.val]{fullShare} (fetched ids W m : Bf F c mPool)

instance (m : ℕ) (t : Fin 64) : Storable (upEmb : UEmb _ 𝕄) (rowD (F := F) c ids W m t) := by unfold rowD; infer_instance

/-- Step `m`'s batch with `j` of its 64 copies started. -/
abbrev stepBatch (m j : ℕ) : sProp 𝕄 := Batch (EC (F := F)) (c : Thread nD τ) (stepSem m) () rowUnits (rowD c ids W m) j 0

/-- Between two fetches of step `m`: `t` copies started, the other rows of the slot held at `f`, a share of the words. -/
def fly (f : S3x64x1x7168.Idx → BitVec 32) (m t : ℕ) : sProp 𝕄 :=
  iprop((mWords.view.loc (c : Thread nD τ) ↦[Finset.univ]{shareDrop fullShare (m * 64 + t)} (W : Bf F c mWords))
    ∗ stepBatch c ids W m t
    ∗ bigSep (pending t) (fun u : Fin 64 => mPool.view.loc (c : Thread nD τ) ↦[rowSet (m % 3) u.val]{fullShare} (f : Bf F c mPool)))

omit [BitOps F] in
/-- The row of the row buffer that a fetch of step `m`, token `t` names. -/
theorem dst_set (s t : ℕ) (h3 : ∀ a, (![s, t, 0, 0] : Fin 4 → ℕ) a + S1x1x1x7168.size a ≤ S3x64x1x7168.size a) :
    ((mPool.slice (Rect.unit (s := S3x64x1x7168) ![s, t, 0, 0] S1x1x1x7168.size h3) (fun _ => rfl)).squeeze S1x7168 squeezes_S1x1x1x7168_S1x7168).view.set
      = rowSet s t := by
  refine (Memref.set_view_squeeze _ _).trans ((View.set_slice _ _).trans ?_)
  ext x
  refine Finset.mem_map.trans ?_
  simp only [rowSet, Finset.mem_filter, Finset.mem_univ, true_and]
  constructor
  · rintro ⟨y, hy, rfl⟩
    have hy := Rect.mem_set_unit.mp hy
    have h0 := hy 0; have h1 := hy 1
    change s ≤ (y 0).val ∧ (y 0).val < s + 1 at h0
    change t ≤ (y 1).val ∧ (y 1).val < t + 1 at h1
    change (y 0).val = s ∧ (y 1).val = t
    omega
  · rintro ⟨h0, h1⟩
    refine ⟨x, Rect.mem_set_unit.mpr fun a => ?_, rfl⟩
    match a with
    | ⟨0, _⟩ => exact ⟨h0.ge, h0.le.trans_lt (Nat.lt_succ_self _)⟩
    | ⟨1, _⟩ => exact ⟨h1.ge, h1.le.trans_lt (Nat.lt_succ_self _)⟩
    | ⟨2, _⟩ => exact ⟨Nat.zero_le _, (x 2).isLt.trans_le (Nat.le_add_left _ _)⟩
    | ⟨3, _⟩ => exact ⟨Nat.zero_le _, (x 3).isLt.trans_le (Nat.le_add_left _ _)⟩

omit [BitOps F] in
/-- That row of what step `m` fetches is the row of words the identifier names. -/
theorem dst_read (m t : ℕ) (hm : m < 64) (ht : t < 64) (v : BitVec 32) (hv : v = idAt ids m t) (hlt : v.toNat < 32000)
    (h3 : ∀ a, (![m % 3, t, 0, 0] : Fin 4 → ℕ) a + S1x1x1x7168.size a ≤ S3x64x1x7168.size a)
    (h4 : ∀ a, (![(v >>> 2).toNat, 0] : Fin 2 → ℕ) a + S1x7168.size a ≤ S8000x7168.size a) :
    ((mPool.slice (Rect.unit (s := S3x64x1x7168) ![m % 3, t, 0, 0] S1x1x1x7168.size h3) (fun _ => rfl)).squeeze S1x7168 squeezes_S1x1x1x7168_S1x7168).view.read
        (Elt F) (fetched ids W m : Bf F c mPool)
      = (mWords.slice (Rect.unit (s := S8000x7168) ![(v >>> 2).toNat, 0] S1x7168.size h4) (fun _ => rfl)).view.read (Elt F) (W : Bf F c mWords) := by
  subst hv
  funext y
  show fetched ids W m ((Rect.unit (s := S3x64x1x7168) ![m % 3, t, 0, 0] S1x1x1x7168.size h3).idx (Shape.reshapeEquiv _ y))
    = W ((Rect.unit (s := S8000x7168) ![(idAt ids m t >>> 2).toNat, 0] S1x7168.size h4).idx y)
  have e : ∀ h : S1x7168.numel = S1x1x1x7168.numel, (Shape.reshapeEquiv h y : S1x1x1x7168.Idx) = ValueIdx.ix4 (0 : Fin 1) (0 : Fin 1) (0 : Fin 1) (y 1 : Fin 7168) :=
    fun h => Shape.reshapeEquiv_eq_of_rowMajor h (by
      refine (Shape.rowMajor_val_four _).trans (Eq.trans ?_ (Shape.rowMajor_val_two _).symm)
      have h0 : (y 0).val < 1 := (y 0).isLt
      show ((0 * _ + 0) * _ + 0) * 7168 + (y 1).val = (y 0).val * 7168 + (y 1).val
      omega)
  erw [e]
  show W _ = W _
  congr 1
  funext a
  match a with
  | ⟨0, _⟩ =>
    apply Fin.ext
    show (idAt ids m (t + 1 * 0) >>> 2).toNat % 8000 = (idAt ids m t >>> 2).toNat + 1 * (y 0).val
    have h0 : (y 0).val < 1 := (y 0).isLt
    have h5 := h4 0
    change (idAt ids m t >>> 2).toNat + 1 ≤ 8000 at h5
    rw [show t + 1 * 0 = t by omega, Nat.mod_eq_of_lt h5]; omega
  | ⟨1, _⟩ => exact Fin.ext (show 0 + 1 * (y 1).val = 0 + 1 * (y 1).val from rfl)

/-- One fetch of step `m`, token `t`. -/
theorem wp_fetchOne (f : S3x64x1x7168.Idx → BitVec 32) (m t : ℕ) (hm : m < 64) (ht : t < 64) (hids : ∀ x, (ids x).toNat < 32000)
    {o1 : Fin 2 → ℕ} (h1 : ∀ a, o1 a + S1x1.size a ≤ S4x1024.size a) {o2 : Fin 1 → ℕ} (h2 : ∀ a, o2 a + S1.size a ≤ S3.size a)
    {o3 : Fin 4 → ℕ} (h3 : ∀ a, o3 a + S1x1x1x7168.size a ≤ S3x64x1x7168.size a)
    {o4 : BitVec 32 → Fin 2 → ℕ} {chk : BitVec 32 → Prop} (dec : ∀ v, Decidable (chk v))
    (h4 : ∀ v, chk v → ∀ a, o4 v a + S1x7168.size a ≤ S8000x7168.size a)
    (ho1 : o1 = ![m / 16, m % 16 * 64 + t]) (ho2 : o2 = ![m % 3]) (ho3 : o3 = ![m % 3, t, 0, 0])
    (ho4 : o4 = fun v : BitVec 32 => ![(v >>> 2).toNat, 0]) (hchk : ∀ v, v.toNat < 32000 → chk v) (Q : PUnit → sProp 𝕄) :
    iprop(pt c mIds (ids : Bf F c mIds) ∗ fly c ids W f m t)
      ⊢ iprop((iprop(pt c mIds (ids : Bf F c mIds) ∗ fly c ids W f m (t + 1)) -∗ Q ⟨⟩)
        -∗ wp frame (wpE (defs₀ (F := F)) 𝒱₀ c none) Set.univ (fetchOne (F := F) o1 h1 o2 h2 o3 h3 o4 chk dec h4) Q) := by
  subst ho1 ho2 ho3 ho4
  unfold fly
  iintro ⟨Hi, Hw, HB, Hp⟩ Hk
  unfold fetchOne smemLoad
  rw [wp_bind]
  iapply (wp_smemLoadElt 𝒱₀ (c : Thread nD τ) none Set.univ (m := mIds) (r := Rect.unit (s := S4x1024) ![m / 16, m % 16 * 64 + t] S1x1.size h1)
    (q := fullShare) (f := (ids : Bf F c mIds)) (S := Finset.univ) (Finset.subset_univ _)) $$ Hi
  iintro Hi
  rw [wp_ret, wp_bind]
  generalize hv : View.read (Elt F) _ _ _ = v
  have hv' : v = idAt ids m t := by
    rw [← hv]
    show ids ((Rect.unit (s := S4x1024) ![m / 16, m % 16 * 64 + t] S1x1.size h1).idx (Shape.Idx.first _)) = _
    unfold idAt
    congr 1
    funext a
    match a with
    | ⟨0, _⟩ => exact Fin.ext (show m / 16 + 1 * 0 = m / 16 % 4 by omega)
    | ⟨1, _⟩ => exact Fin.ext (show m % 16 * 64 + t + 1 * 0 = (m % 16 * 64 + t) % 1024 by omega)
  have hlt : v.toNat < 32000 := hv' ▸ hids _
  imodintro
  unfold Prog.lift
  iapply (wp_assume 𝒱₀ (c : Thread nD τ) none Set.univ (hchk v hlt))
  rw [wp_ret]
  imodintro
  ihave Hp' := (show bigSep (pending t) (fun u : Fin 64 => (mPool.view.loc (c : Thread nD τ) ↦[rowSet (m % 3) u.val]{fullShare} (f : Bf F c mPool) : sProp 𝕄))
      ⊢ iprop((mPool.view.loc (c : Thread nD τ) ↦[rowSet (m % 3) t]{fullShare} (f : Bf F c mPool))
        ∗ bigSep (pending (t + 1)) (fun u : Fin 64 => (mPool.view.loc (c : Thread nD τ) ↦[rowSet (m % 3) u.val]{fullShare} (f : Bf F c mPool) : sProp 𝕄)))
    from Entails.of_eq (by rw [pending_succ ht, bigSep_insert (not_mem_pending_succ ht)]; rfl)) $$ Hp
  icases Hp' with ⟨Hd, Hp⟩
  have hS := dst_set (m % 3) t h3
  have hR := dst_read (F := F) ids W m t hm ht v hv' hlt h3 (h4 v (hchk v hlt))
  iapply (Rows.wp_rowCopy (EC (F := F)) 𝒱₀ (c : Thread nD τ) none
    (src := mWords.slice (Rect.unit (s := S8000x7168) ![(v >>> 2).toNat, 0] S1x7168.size (h4 v (hchk v hlt))) (fun _ => rfl))
    (dst := (mPool.slice (Rect.unit (s := S3x64x1x7168) ![m % 3, t, 0, 0] S1x1x1x7168.size h3) (fun _ => rfl)).squeeze S1x7168 squeezes_S1x1x1x7168_S1x7168)
    (sm := stepSem m) (q := fullShare) (i := m * 64 + t) (W := (W : Bf F c mWords)) (fd := (f : Bf F c mPool))
    (G := (fetched ids W m : Bf F c mPool)) (S := rowSet (m % 3) t) (D := rowD c ids W m) (j := t) (u := 0) () rowUnits ?hN ht (Nat.zero_le _)
    hS hR .rfl) $$ [Hw Hd HB]
  case hN => rfl
  · isplitl [Hw]; · iexact Hw
    isplitl [Hd]; · iexact Hd
    iexact HB
  iintro ⟨Hw, HB⟩
  rw [wp_ret]
  imodintro
  iapply Hk
  isplitl [Hi]; · iexact Hi
  isplitl [Hw]; · iexact Hw
  isplitl [HB]; · iexact HB
  iexact Hp

end Cert.Proof.Kernel
-- ==== Proof.Kernel.Trips.lean ====
/- The trips of the fetching loops of the kernel: each is eight row fetches, of the tokens and the step it names. -/
module

public import proofs.«01_k».proof.Proof.Kernel.Fetch

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

/-- One row fetch's places: where it reads the identifier, its semaphore, its row of the buffer, and its row of words. -/
structure Fetch where
  o1 : Fin 2 → ℕ
  h1 : ∀ a, o1 a + S1x1.size a ≤ S4x1024.size a
  o2 : Fin 1 → ℕ
  h2 : ∀ a, o2 a + S1.size a ≤ S3.size a
  o3 : Fin 4 → ℕ
  h3 : ∀ a, o3 a + S1x1x1x7168.size a ≤ S3x64x1x7168.size a
  o4 : BitVec 32 → Fin 2 → ℕ
  chk : BitVec 32 → Prop
  dec : ∀ v, Decidable (chk v)
  h4 : ∀ v, chk v → ∀ a, o4 v a + S1x7168.size a ≤ S8000x7168.size a

/-- Its text. -/
abbrev Fetch.prog (p : Fetch) : Prog (TpuEff nD τ sig (Elt F) Λ₀ .tc) PUnit :=
  fetchOne (F := F) p.o1 p.h1 p.o2 p.h2 p.o3 p.h3 p.o4 p.chk p.dec p.h4

/-- The fetch is the one of step `m`, token `t`. -/
structure Fetch.Is (p : Fetch) (m t : ℕ) : Prop where
  ho1 : p.o1 = ![m / 16, m % 16 * 64 + t]
  ho2 : p.o2 = ![m % 3]
  ho3 : p.o3 = ![m % 3, t, 0, 0]
  ho4 : p.o4 = fun v : BitVec 32 => ![(v >>> 2).toNat, 0]
  hchk : ∀ v, v.toNat < 32000 → p.chk v

/-- Eight fetches, one after another: a trip of a fetching loop. -/
def fetch8 (p : Fin 8 → Fetch) : Prog (TpuEff nD τ sig (Elt F) Λ₀ .tc) PUnit := do
  (p ⟨0, by decide⟩).prog; (p ⟨1, by decide⟩).prog; (p ⟨2, by decide⟩).prog; (p ⟨3, by decide⟩).prog; (p ⟨4, by decide⟩).prog; (p ⟨5, by decide⟩).prog; (p ⟨6, by decide⟩).prog; (p ⟨7, by decide⟩).prog; Prog.ret ⟨⟩

/-- The fetches of a trip of the loop over step 0's rows. -/
def trip1 (i : grid0.Coords) (h : k0_cond1 i = 1#1) (k : Fin k0_t1_loop.trips) : Fin 8 → Fetch
  | ⟨0, _⟩ => ⟨k0_off1 k, k0_off1_inb i k h, k0_off2, k0_off2_inb i h, k0_off3 k, k0_off3_inb i k h, k0_off4, k0_chk1 i, k0_chk1.dec i,
      fun v hw => k0_off4_inb i v hw h⟩
  | ⟨1, _⟩ => ⟨k0_off5 k, k0_off5_inb i k h, k0_off6, k0_off6_inb i h, k0_off7 k, k0_off7_inb i k h, k0_off8, k0_chk2 i, k0_chk2.dec i,
      fun v hw => k0_off8_inb i v hw h⟩
  | ⟨2, _⟩ => ⟨k0_off9 k, k0_off9_inb i k h, k0_off10, k0_off10_inb i h, k0_off11 k, k0_off11_inb i k h, k0_off12, k0_chk3 i, k0_chk3.dec i,
      fun v hw => k0_off12_inb i v hw h⟩
  | ⟨3, _⟩ => ⟨k0_off13 k, k0_off13_inb i k h, k0_off14, k0_off14_inb i h, k0_off15 k, k0_off15_inb i k h, k0_off16, k0_chk4 i, k0_chk4.dec i,
      fun v hw => k0_off16_inb i v hw h⟩
  | ⟨4, _⟩ => ⟨k0_off17 k, k0_off17_inb i k h, k0_off18, k0_off18_inb i h, k0_off19 k, k0_off19_inb i k h, k0_off20, k0_chk5 i, k0_chk5.dec i,
      fun v hw => k0_off20_inb i v hw h⟩
  | ⟨5, _⟩ => ⟨k0_off21 k, k0_off21_inb i k h, k0_off22, k0_off22_inb i h, k0_off23 k, k0_off23_inb i k h, k0_off24, k0_chk6 i, k0_chk6.dec i,
      fun v hw => k0_off24_inb i v hw h⟩
  | ⟨6, _⟩ => ⟨k0_off25 k, k0_off25_inb i k h, k0_off26, k0_off26_inb i h, k0_off27 k, k0_off27_inb i k h, k0_off28, k0_chk7 i, k0_chk7.dec i,
      fun v hw => k0_off28_inb i v hw h⟩
  | ⟨7, _⟩ => ⟨k0_off29 k, k0_off29_inb i k h, k0_off30, k0_off30_inb i h, k0_off31 k, k0_off31_inb i k h, k0_off32, k0_chk8 i, k0_chk8.dec i,
      fun v hw => k0_off32_inb i v hw h⟩

/-- The fetches of a trip of the loop over step 1's rows. -/
def trip2 (i : grid0.Coords) (h : k0_cond1 i = 1#1) (k : Fin k0_t2_loop.trips) : Fin 8 → Fetch
  | ⟨0, _⟩ => ⟨k0_off33 k, k0_off33_inb i k h, k0_off34, k0_off34_inb i h, k0_off35 k, k0_off35_inb i k h, k0_off36, k0_chk9 i, k0_chk9.dec i,
      fun v hw => k0_off36_inb i v hw h⟩
  | ⟨1, _⟩ => ⟨k0_off37 k, k0_off37_inb i k h, k0_off38, k0_off38_inb i h, k0_off39 k, k0_off39_inb i k h, k0_off40, k0_chk10 i, k0_chk10.dec i,
      fun v hw => k0_off40_inb i v hw h⟩
  | ⟨2, _⟩ => ⟨k0_off41 k, k0_off41_inb i k h, k0_off42, k0_off42_inb i h, k0_off43 k, k0_off43_inb i k h, k0_off44, k0_chk11 i, k0_chk11.dec i,
      fun v hw => k0_off44_inb i v hw h⟩
  | ⟨3, _⟩ => ⟨k0_off45 k, k0_off45_inb i k h, k0_off46, k0_off46_inb i h, k0_off47 k, k0_off47_inb i k h, k0_off48, k0_chk12 i, k0_chk12.dec i,
      fun v hw => k0_off48_inb i v hw h⟩
  | ⟨4, _⟩ => ⟨k0_off49 k, k0_off49_inb i k h, k0_off50, k0_off50_inb i h, k0_off51 k, k0_off51_inb i k h, k0_off52, k0_chk13 i, k0_chk13.dec i,
      fun v hw => k0_off52_inb i v hw h⟩
  | ⟨5, _⟩ => ⟨k0_off53 k, k0_off53_inb i k h, k0_off54, k0_off54_inb i h, k0_off55 k, k0_off55_inb i k h, k0_off56, k0_chk14 i, k0_chk14.dec i,
      fun v hw => k0_off56_inb i v hw h⟩
  | ⟨6, _⟩ => ⟨k0_off57 k, k0_off57_inb i k h, k0_off58, k0_off58_inb i h, k0_off59 k, k0_off59_inb i k h, k0_off60, k0_chk15 i, k0_chk15.dec i,
      fun v hw => k0_off60_inb i v hw h⟩
  | ⟨7, _⟩ => ⟨k0_off61 k, k0_off61_inb i k h, k0_off62, k0_off62_inb i h, k0_off63 k, k0_off63_inb i k h, k0_off64, k0_chk16 i, k0_chk16.dec i,
      fun v hw => k0_off64_inb i v hw h⟩

/-- The fetches of a trip of the loop over the rows of the step after next. -/
def trip3 (i : grid0.Coords) (h : k0_cond2 i = 1#1) (k : Fin k0_t3_loop.trips) : Fin 8 → Fetch
  | ⟨0, _⟩ => ⟨k0_off65 i k, k0_off65_inb i k h, (k0_off66 i), k0_off66_inb i h, k0_off67 i k, k0_off67_inb i k h, k0_off68, k0_chk17 i, k0_chk17.dec i,
      fun v hw => k0_off68_inb i v hw h⟩
  | ⟨1, _⟩ => ⟨k0_off69 i k, k0_off69_inb i k h, (k0_off70 i), k0_off70_inb i h, k0_off71 i k, k0_off71_inb i k h, k0_off72, k0_chk18 i, k0_chk18.dec i,
      fun v hw => k0_off72_inb i v hw h⟩
  | ⟨2, _⟩ => ⟨k0_off73 i k, k0_off73_inb i k h, (k0_off74 i), k0_off74_inb i h, k0_off75 i k, k0_off75_inb i k h, k0_off76, k0_chk19 i, k0_chk19.dec i,
      fun v hw => k0_off76_inb i v hw h⟩
  | ⟨3, _⟩ => ⟨k0_off77 i k, k0_off77_inb i k h, (k0_off78 i), k0_off78_inb i h, k0_off79 i k, k0_off79_inb i k h, k0_off80, k0_chk20 i, k0_chk20.dec i,
      fun v hw => k0_off80_inb i v hw h⟩
  | ⟨4, _⟩ => ⟨k0_off81 i k, k0_off81_inb i k h, (k0_off82 i), k0_off82_inb i h, k0_off83 i k, k0_off83_inb i k h, k0_off84, k0_chk21 i, k0_chk21.dec i,
      fun v hw => k0_off84_inb i v hw h⟩
  | ⟨5, _⟩ => ⟨k0_off85 i k, k0_off85_inb i k h, (k0_off86 i), k0_off86_inb i h, k0_off87 i k, k0_off87_inb i k h, k0_off88, k0_chk22 i, k0_chk22.dec i,
      fun v hw => k0_off88_inb i v hw h⟩
  | ⟨6, _⟩ => ⟨k0_off89 i k, k0_off89_inb i k h, (k0_off90 i), k0_off90_inb i h, k0_off91 i k, k0_off91_inb i k h, k0_off92, k0_chk23 i, k0_chk23.dec i,
      fun v hw => k0_off92_inb i v hw h⟩
  | ⟨7, _⟩ => ⟨k0_off93 i k, k0_off93_inb i k h, (k0_off94 i), k0_off94_inb i h, k0_off95 i k, k0_off95_inb i k h, k0_off96, k0_chk24 i, k0_chk24.dec i,
      fun v hw => k0_off96_inb i v hw h⟩

section
variable (i : grid0.Coords)
  (w : Memref sig .tc .vmem S56x128 .bf16) (hw : w.IsWhole) (o : Memref sig .tc .vmem S8x56x8x128 .bf16) (ho : o.IsWhole)
  (e : Memref sig .tc .vmem S8x56x8x128 .bf16) (he : e.IsWhole)

set_option maxRecDepth 65536 in set_option maxHeartbeats 400000 in
/-- A trip of the loop over step 0's rows is eight fetches. -/
theorem body1_eq (h : k0_cond1 i = 1#1) (k : Fin k0_t1_loop.trips) (acc : Unit) :
    k0_t1_body (F := F) i mIds (Memref.isWhole_whole _) mWords (Memref.isWhole_whole _) (Memref.whole main_v3) (Memref.isWhole_whole _) w hw o ho e he
      mPool (Memref.isWhole_whole _) (Memref.whole cc0_scratch1) (Memref.isWhole_whole _) cc0_scratch2 cc0_scratch3 h k acc
      = fetch8 (trip1 i h k) := by
  dsimp only [fetch8, Fetch.prog, trip1]
  rfl

set_option maxRecDepth 65536 in set_option maxHeartbeats 400000 in
/-- A trip of the loop over step 1's rows is eight fetches. -/
theorem body2_eq (h : k0_cond1 i = 1#1) (k : Fin k0_t2_loop.trips) (acc : Unit) :
    k0_t2_body (F := F) i mIds (Memref.isWhole_whole _) mWords (Memref.isWhole_whole _) (Memref.whole main_v3) (Memref.isWhole_whole _) w hw o ho e he
      mPool (Memref.isWhole_whole _) (Memref.whole cc0_scratch1) (Memref.isWhole_whole _) cc0_scratch2 cc0_scratch3 h k acc
      = fetch8 (trip2 i h k) := by
  dsimp only [fetch8, Fetch.prog, trip2]
  rfl

set_option maxRecDepth 65536 in set_option maxHeartbeats 400000 in
/-- A trip of the loop over the rows of the step after next is eight fetches. -/
theorem body3_eq (h : k0_cond2 i = 1#1) (v : BitVec 32) (k : Fin k0_t3_loop.trips) (acc : Unit) :
    k0_t3_body (F := F) i mIds (Memref.isWhole_whole _) mWords (Memref.isWhole_whole _) (Memref.whole main_v3) (Memref.isWhole_whole _) w hw o ho e he
      mPool (Memref.isWhole_whole _) (Memref.whole cc0_scratch1) (Memref.isWhole_whole _) cc0_scratch2 cc0_scratch3 h
      v k acc
      = fetch8 (trip3 i h k) := by
  dsimp only [fetch8, Fetch.prog, trip3]
  rfl
end

omit [BitOps F] in
/-- An identifier below the vocabulary's size names a row of words. -/
theorem words_inb (v : BitVec 32) (hv : v.toNat < 32000) :
    ∀ a, (![(v >>> 2).toNat, 0] : Fin 2 → ℕ) a + S1x7168.size a ≤ S8000x7168.size a := fun
  | ⟨0, _⟩ => by
    show (v >>> 2).toNat + 1 ≤ 8000
    rw [BitVec.toNat_ushiftRight, Nat.shiftRight_eq_div_pow]; omega
  | ⟨1, _⟩ => by show 0 + 7168 ≤ 7168; omega

/-- The fetches of a trip over step 0's rows are those of its tokens. -/
theorem trip1_is (i : grid0.Coords) (h : k0_cond1 i = 1#1) (k : Fin k0_t1_loop.trips) (c : Fin 8) : (trip1 i h k c).Is 0 (8 * k.val + c.val) := by
  match c with
  | ⟨0, _⟩ | ⟨1, _⟩ | ⟨2, _⟩ | ⟨3, _⟩ | ⟨4, _⟩ | ⟨5, _⟩ | ⟨6, _⟩ | ⟨7, _⟩ =>
    refine ⟨?_, ?_, ?_, rfl, fun v hv _ => words_inb v hv⟩ <;> dsimp only [trip1] <;> clear h <;> revert k <;> decide +kernel

/-- The fetches of a trip over step 1's rows are those of its tokens. -/
theorem trip2_is (i : grid0.Coords) (h : k0_cond1 i = 1#1) (k : Fin k0_t2_loop.trips) (c : Fin 8) : (trip2 i h k c).Is 1 (8 * k.val + c.val) := by
  match c with
  | ⟨0, _⟩ | ⟨1, _⟩ | ⟨2, _⟩ | ⟨3, _⟩ | ⟨4, _⟩ | ⟨5, _⟩ | ⟨6, _⟩ | ⟨7, _⟩ =>
    refine ⟨?_, ?_, ?_, rfl, fun v hv _ => words_inb v hv⟩ <;> dsimp only [trip2] <;> clear h <;> revert k <;> decide +kernel

/-- The grid coordinates are the one coordinate. -/
theorem coords_eq (i : grid0.Coords) : i = (fun | ⟨0, _⟩ => i 0 : grid0.Coords) := by
  funext a
  match a with
  | ⟨0, _⟩ => rfl

/-- The fetches of a trip over the rows of the step after next are those of its tokens. -/
theorem trip3_is (i : grid0.Coords) (h : k0_cond2 i = 1#1) (k : Fin k0_t3_loop.trips) (c : Fin 8) :
    (trip3 i h k c).Is ((i 0).val + 2) (8 * k.val + c.val) := by
  match c with
  | ⟨0, _⟩ | ⟨1, _⟩ | ⟨2, _⟩ | ⟨3, _⟩ | ⟨4, _⟩ | ⟨5, _⟩ | ⟨6, _⟩ | ⟨7, _⟩ =>
    refine ⟨?_, ?_, ?_, rfl, fun v hv _ => words_inb v hv⟩ <;> dsimp only [trip3] <;> clear h <;> rw [coords_eq i] <;> dsimp only <;>
      generalize (i 0 : Fin 64) = n <;> revert n k <;> decide +kernel

end Cert.Proof.Kernel
-- ==== Proof.Kernel.FetchLoops.lean ====
/- The fetching loops of the kernel: each trip is eight row fetches; a whole loop fetches the rows of one step. -/
module

public import proofs.«01_k».proof.Proof.Kernel.Trips

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

variable (c : Dev nD) (ids : S4x1024.Idx → BitVec 32) (W : S8000x7168.Idx → BitVec 32)

/-- A trip's eight fetches. -/
theorem wp_fetch8 (f : S3x64x1x7168.Idx → BitVec 32) (m k : ℕ) (hm : m < 64) (hk : k < 8) (hids : ∀ x, (ids x).toNat < 32000)
    (p : Fin 8 → Fetch) (hp : ∀ a : Fin 8, (p a).Is m (8 * k + a.val)) (Q : PUnit → sProp 𝕄) :
    iprop(pt c mIds (ids : Bf F c mIds) ∗ fly c ids W f m (8 * k))
      ⊢ iprop((iprop(pt c mIds (ids : Bf F c mIds) ∗ fly c ids W f m (8 * (k + 1))) -∗ Q ⟨⟩)
        -∗ wp frame (wpE (defs₀ (F := F)) 𝒱₀ c none) Set.univ (fetch8 (F := F) p) Q) := by
  have step (a : Fin 8) (Q : PUnit → sProp 𝕄) := wp_fetchOne (F := F) c ids W f m (8 * k + a.val) hm (by omega) hids (p a).h1 (p a).h2 (p a).h3 (p a).dec (p a).h4
    (hp a).ho1 (hp a).ho2 (hp a).ho3 (hp a).ho4 (hp a).hchk Q
  iintro H Hk
  unfold fetch8
  simp only [wp_bind]
  iapply (step 0 _) $$ H
  iintro H
  iapply (step 1 _) $$ H
  iintro H
  iapply (step 2 _) $$ H
  iintro H
  iapply (step 3 _) $$ H
  iintro H
  iapply (step 4 _) $$ H
  iintro H
  iapply (step 5 _) $$ H
  iintro H
  iapply (step 6 _) $$ H
  iintro H
  iapply (step 7 _) $$ H
  iintro H
  rw [wp_ret]
  imodintro
  iapply Hk
  iexact H

/-- A loop of eight such trips fetches the rows of step `m`. -/
theorem wp_fetchLoop (f : S3x64x1x7168.Idx → BitVec 32) (m : ℕ) (hm : m < 64) (hids : ∀ x, (ids x).toNat < 32000)
    (L : Scf.Loop 32) (hok : L.OK) (hL : L.trips = 8) (body : Fin L.trips → Unit → Prog (TpuEff nD τ sig (Elt F) Λ₀ .tc) Unit)
    (p : Fin L.trips → Fin 8 → Fetch) (hbody : ∀ k acc, body k acc = fetch8 (p k)) (hp : ∀ k a, (p k a).Is m (8 * k.val + a.val)) (Q : Unit → sProp 𝕄) :
    iprop(pt c mIds (ids : Bf F c mIds) ∗ fly c ids W f m 0)
      ⊢ iprop((iprop(pt c mIds (ids : Bf F c mIds) ∗ fly c ids W f m 64) -∗ Q ⟨⟩)
        -∗ wp frame (wpE (defs₀ (F := F)) 𝒱₀ c none) Set.univ (Scf.Loop.for L hok ⟨⟩ body) Q) := by
  iintro H Hk
  iapply (Scf.wp_for (M := 𝕄) frame (wpE (defs₀ (F := F)) 𝒱₀ c none) Set.univ L.lb L.ub L.st hok () body
    (fun k _ => iprop(pt c mIds (ids : Bf F c mIds) ∗ fly c ids W f m (8 * k)))
    (fun k acc => by
      rw [hbody]
      iintro H
      iapply (wp_fetch8 c ids W f m k.val hm (k.isLt.trans_eq hL) hids (p k) (hp k) _) $$ H
      iintro H
      iexact H))
  isplitl [H]
  · iexact H
  iintro %acc H
  iapply Hk
  rw [show Scf.trips L.lb L.ub L.st = 8 from hL]
  iexact H

end Cert.Proof.Kernel
-- ==== Proof.Kernel.TripText.lean ====
/- A trip of the loop over the step's tokens: four groups, each reading two tokens and storing seven pieces of each result. -/
module

public import proofs.«01_k».proof.Proof.Kernel.Fetch

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

/-- The scales. -/
abbrev mScale : Memref sig .tc .vmem S56x32000 .f32 := Memref.whole cc0_scratch1
/-- The row buffer, each row seen as a token's 56 by 128 words. -/
abbrev mRows : Memref sig .tc .vmem S3x64x56x128 .i32 :=
  mPool.reshape S3x64x56x128 reshapes_S3x64x1x7168_S3x64x56x128.1 reshapes_S3x64x1x7168_S3x64x56x128.2 (Memref.isWhole_whole cc0_scratch0).contiguous

/-- What is read of a token: its identifier, the column block of scales its own lies in, and its row of words. -/
abbrev Tok (F : FTy → Type) : Type := BitVec 32 × Vec F S56x128 .f32 × Vec F S1x1x56x128 .i32

/-- Where a token is read. -/
structure Rd where
  o1 : Fin 2 → ℕ
  h1 : ∀ a, o1 a + S1x1.size a ≤ S4x1024.size a
  o2 : BitVec 32 → Fin 2 → ℕ
  chk : BitVec 32 → Prop
  dec : ∀ v, Decidable (chk v)
  h2 : ∀ v, chk v → ∀ a, o2 v a + S56x128.size a ≤ S56x32000.size a
  o3 : Fin 4 → ℕ
  h3 : ∀ a, o3 a + S1x1x56x128.size a ≤ S3x64x56x128.size a

/-- The text that reads it. -/
def Rd.prog (p : Rd) : Prog (TpuEff nD τ sig (Elt F) Λ₀ .tc) (Tok F) := do
  let v : Elt F .i32 ← smemLoad mIds (Rect.unit (s := S4x1024) p.o1 S1x1.size p.h1) numel1_S1x1 rfl
  have hw : p.chk v := (← Prog.lift (TpuEff.assume (p.chk v) (p.dec v))).down
  let a : Vec F S56x128 .f32 ← Prog.lift (.load mScale (Rect.unit (s := S56x32000) (p.o2 v) S56x128.size (p.h2 v hw)).toLoadRect (View.loadsAt_vmem h_S56x128))
  let b : Vec F S1x1x56x128 .i32 ← Prog.lift (.load mRows (Rect.unit (s := S3x64x56x128) p.o3 S1x1x56x128.size p.h3).toLoadRect (View.loadsAt_vmem h_S1x1x56x128))
  Prog.ret (v, a, b)

/-- Where a piece of the results is stored. -/
structure Put where
  o : Fin 4 → ℕ
  h : ∀ a, o a + S1x8x2x128.size a ≤ S8x56x8x128.size a
  packed : (Rect.unit (s := S8x56x8x128) o S1x8x2x128.size h).PackedRows (EltTy.packing .bf16)

/-- The rectangle of it. -/
abbrev Put.rect (p : Put) : Rect S8x56x8x128 := Rect.unit (s := S8x56x8x128) p.o S1x8x2x128.size p.h

/-- The text that stores the piece `x` through `m`: the old piece is read first, and not used. -/
def Put.prog (p : Put) (m : Memref sig .tc .vmem S8x56x8x128 .bf16) (hm : m.IsWhole) (x : Vec F S1x8x2x128 .bf16) :
    Prog (TpuEff nD τ sig (Elt F) Λ₀ .tc) PUnit := do
  let _ : Vec F S1x8x2x128 .bf16 ← Prog.lift (.load m (Rect.unit (s := S8x56x8x128) p.o S1x8x2x128.size p.h).toLoadRect (View.loadsAt_vmem h_S1x8x2x128))
  Prog.lift (.store m (Rect.unit (s := S8x56x8x128) p.o S1x8x2x128.size p.h) x Finset.univ
    (View.stores_vmem h_S1x8x2x128 (hm.storeExact_slice rfl _ p.packed) (fun _ => rfl)) (.inl rfl))

theorem slices8 (g : Fin 7) : S56x128.Slices ![8 * g.val, 0] S8x128 := by revert g; decide

section
variable (o : Memref sig .tc .vmem S8x56x8x128 .bf16) (ho : o.IsWhole) (e : Memref sig .tc .vmem S8x56x8x128 .bf16) (he : e.IsWhole)

/-- The stores of a group: seven pieces of each result, alternately. -/
def stores (p : Fin 7 → Put) (xe xo : Fin 7 → Vec F S1x8x2x128 .bf16) : Prog (TpuEff nD τ sig (Elt F) Λ₀ .tc) PUnit := do
  (p ⟨0, by decide⟩).prog e he (xe ⟨0, by decide⟩); (p ⟨0, by decide⟩).prog o ho (xo ⟨0, by decide⟩)
  (p ⟨1, by decide⟩).prog e he (xe ⟨1, by decide⟩); (p ⟨1, by decide⟩).prog o ho (xo ⟨1, by decide⟩)
  (p ⟨2, by decide⟩).prog e he (xe ⟨2, by decide⟩); (p ⟨2, by decide⟩).prog o ho (xo ⟨2, by decide⟩)
  (p ⟨3, by decide⟩).prog e he (xe ⟨3, by decide⟩); (p ⟨3, by decide⟩).prog o ho (xo ⟨3, by decide⟩)
  (p ⟨4, by decide⟩).prog e he (xe ⟨4, by decide⟩); (p ⟨4, by decide⟩).prog o ho (xo ⟨4, by decide⟩)
  (p ⟨5, by decide⟩).prog e he (xe ⟨5, by decide⟩); (p ⟨5, by decide⟩).prog o ho (xo ⟨5, by decide⟩)
  (p ⟨6, by decide⟩).prog e he (xe ⟨6, by decide⟩); (p ⟨6, by decide⟩).prog o ho (xo ⟨6, by decide⟩)
  Prog.ret ⟨⟩

/-- A group: two tokens read, then their pieces of the two results stored. -/
def group (ra rb : Rd) (p : Fin 7 → Put) (xe xo : Tok F → Tok F → Fin 7 → Vec F S1x8x2x128 .bf16) : Prog (TpuEff nD τ sig (Elt F) Λ₀ .tc) PUnit := do
  let a ← ra.prog
  let b ← rb.prog
  stores o ho e he p (xe a b) (xo a b)

/-- A trip is four groups. -/
def trip (r : Fin 8 → Rd) (p : Fin 4 → Fin 7 → Put) (xe xo : Tok F → Tok F → Fin 7 → Vec F S1x8x2x128 .bf16) :
    Prog (TpuEff nD τ sig (Elt F) Λ₀ .tc) PUnit := do
  group o ho e he (r ⟨0, by decide⟩) (r ⟨1, by decide⟩) (p ⟨0, by decide⟩) xe xo
  group o ho e he (r ⟨2, by decide⟩) (r ⟨3, by decide⟩) (p ⟨1, by decide⟩) xe xo
  group o ho e he (r ⟨4, by decide⟩) (r ⟨5, by decide⟩) (p ⟨2, by decide⟩) xe xo
  group o ho e he (r ⟨6, by decide⟩) (r ⟨7, by decide⟩) (p ⟨3, by decide⟩) xe xo
  Prog.ret ⟨⟩
end

/-- The reads of a trip. -/
def rds (i : grid0.Coords) (k : Fin k0_t4_loop.trips) : Fin 8 → Rd
  | ⟨0, _⟩ => ⟨k0_off99 i k, k0_off99_inb i k, k0_off100, k0_chk25, k0_chk25.dec, k0_off100_inb, k0_off101 i k, k0_off101_inb i k⟩
  | ⟨1, _⟩ => ⟨k0_off102 i k, k0_off102_inb i k, k0_off103, k0_chk26, k0_chk26.dec, k0_off103_inb, k0_off104 i k, k0_off104_inb i k⟩
  | ⟨2, _⟩ => ⟨k0_off112 i k, k0_off112_inb i k, k0_off113, k0_chk27, k0_chk27.dec, k0_off113_inb, k0_off114 i k, k0_off114_inb i k⟩
  | ⟨3, _⟩ => ⟨k0_off115 i k, k0_off115_inb i k, k0_off116, k0_chk28, k0_chk28.dec, k0_off116_inb, k0_off117 i k, k0_off117_inb i k⟩
  | ⟨4, _⟩ => ⟨k0_off125 i k, k0_off125_inb i k, k0_off126, k0_chk29, k0_chk29.dec, k0_off126_inb, k0_off127 i k, k0_off127_inb i k⟩
  | ⟨5, _⟩ => ⟨k0_off128 i k, k0_off128_inb i k, k0_off129, k0_chk30, k0_chk30.dec, k0_off129_inb, k0_off130 i k, k0_off130_inb i k⟩
  | ⟨6, _⟩ => ⟨k0_off138 i k, k0_off138_inb i k, k0_off139, k0_chk31, k0_chk31.dec, k0_off139_inb, k0_off140 i k, k0_off140_inb i k⟩
  | ⟨7, _⟩ => ⟨k0_off141 i k, k0_off141_inb i k, k0_off142, k0_chk32, k0_chk32.dec, k0_off142_inb, k0_off143 i k, k0_off143_inb i k⟩

/-- The places of a trip's pieces. -/
def puts (k : Fin k0_t4_loop.trips) : Fin 4 → Fin 7 → Put
  | ⟨0, _⟩, ⟨0, _⟩ => ⟨k0_off105 k, k0_off105_inb k, k0_off105_packedbf16 k⟩
  | ⟨0, _⟩, ⟨1, _⟩ => ⟨k0_off106 k, k0_off106_inb k, k0_off106_packedbf16 k⟩
  | ⟨0, _⟩, ⟨2, _⟩ => ⟨k0_off107 k, k0_off107_inb k, k0_off107_packedbf16 k⟩
  | ⟨0, _⟩, ⟨3, _⟩ => ⟨k0_off108 k, k0_off108_inb k, k0_off108_packedbf16 k⟩
  | ⟨0, _⟩, ⟨4, _⟩ => ⟨k0_off109 k, k0_off109_inb k, k0_off109_packedbf16 k⟩
  | ⟨0, _⟩, ⟨5, _⟩ => ⟨k0_off110 k, k0_off110_inb k, k0_off110_packedbf16 k⟩
  | ⟨0, _⟩, ⟨6, _⟩ => ⟨k0_off111 k, k0_off111_inb k, k0_off111_packedbf16 k⟩
  | ⟨1, _⟩, ⟨0, _⟩ => ⟨k0_off118 k, k0_off118_inb k, k0_off118_packedbf16 k⟩
  | ⟨1, _⟩, ⟨1, _⟩ => ⟨k0_off119 k, k0_off119_inb k, k0_off119_packedbf16 k⟩
  | ⟨1, _⟩, ⟨2, _⟩ => ⟨k0_off120 k, k0_off120_inb k, k0_off120_packedbf16 k⟩
  | ⟨1, _⟩, ⟨3, _⟩ => ⟨k0_off121 k, k0_off121_inb k, k0_off121_packedbf16 k⟩
  | ⟨1, _⟩, ⟨4, _⟩ => ⟨k0_off122 k, k0_off122_inb k, k0_off122_packedbf16 k⟩
  | ⟨1, _⟩, ⟨5, _⟩ => ⟨k0_off123 k, k0_off123_inb k, k0_off123_packedbf16 k⟩
  | ⟨1, _⟩, ⟨6, _⟩ => ⟨k0_off124 k, k0_off124_inb k, k0_off124_packedbf16 k⟩
  | ⟨2, _⟩, ⟨0, _⟩ => ⟨k0_off131 k, k0_off131_inb k, k0_off131_packedbf16 k⟩
  | ⟨2, _⟩, ⟨1, _⟩ => ⟨k0_off132 k, k0_off132_inb k, k0_off132_packedbf16 k⟩
  | ⟨2, _⟩, ⟨2, _⟩ => ⟨k0_off133 k, k0_off133_inb k, k0_off133_packedbf16 k⟩
  | ⟨2, _⟩, ⟨3, _⟩ => ⟨k0_off134 k, k0_off134_inb k, k0_off134_packedbf16 k⟩
  | ⟨2, _⟩, ⟨4, _⟩ => ⟨k0_off135 k, k0_off135_inb k, k0_off135_packedbf16 k⟩
  | ⟨2, _⟩, ⟨5, _⟩ => ⟨k0_off136 k, k0_off136_inb k, k0_off136_packedbf16 k⟩
  | ⟨2, _⟩, ⟨6, _⟩ => ⟨k0_off137 k, k0_off137_inb k, k0_off137_packedbf16 k⟩
  | ⟨3, _⟩, ⟨0, _⟩ => ⟨k0_off144 k, k0_off144_inb k, k0_off144_packedbf16 k⟩
  | ⟨3, _⟩, ⟨1, _⟩ => ⟨k0_off145 k, k0_off145_inb k, k0_off145_packedbf16 k⟩
  | ⟨3, _⟩, ⟨2, _⟩ => ⟨k0_off146 k, k0_off146_inb k, k0_off146_packedbf16 k⟩
  | ⟨3, _⟩, ⟨3, _⟩ => ⟨k0_off147 k, k0_off147_inb k, k0_off147_packedbf16 k⟩
  | ⟨3, _⟩, ⟨4, _⟩ => ⟨k0_off148 k, k0_off148_inb k, k0_off148_packedbf16 k⟩
  | ⟨3, _⟩, ⟨5, _⟩ => ⟨k0_off149 k, k0_off149_inb k, k0_off149_packedbf16 k⟩
  | ⟨3, _⟩, ⟨6, _⟩ => ⟨k0_off150 k, k0_off150_inb k, k0_off150_packedbf16 k⟩

/-- The piece `g` of two tokens' values, packed pairwise into words. -/
def piece (w : IVec S56x128 32) (g : Fin 7) : Vec F S1x8x2x128 .bf16 :=
  bitcastToFloat .bf16 (bitcast S1x8x2x128 16
    (shapeCast S1x8x1x128 (shapeCast S1x8x128 (extractStridedSlice S8x128 ![8 * g.val, 0] w (slices8 g)) shapeCasts_S8x128_S1x8x128) shapeCasts_S1x8x128_S1x8x1x128)
    bitcasts_S1x8x1x128_w32_S1x8x2x128_w16)

/-- The embeddings of two tokens, before they are rounded: the even token's; -/
def embLo (a b : Tok F) : FVec F S56x128 .f32 := k0_pay7 (k0_pay4 a.1 a.2.1) (k0_pay5 a.1 a.2.2) b.1 b.2.1
/-- the odd token's. -/
def embHi (a b : Tok F) : FVec F S56x128 .f32 := k0_pay8 (k0_pay4 a.1 a.2.1) b.1 b.2.1 b.2.2

/-- The pieces of the embeddings of two tokens. -/
def embPiece (a b : Tok F) : Fin 7 → Vec F S1x8x2x128 .bf16 := piece (k0_pay9 (embLo a b) (embHi a b))

/-- The pieces of the normalized embeddings of two tokens, with the weights `w`. -/
def outPiece (w : Vec F S56x128 .bf16) (a b : Tok F) : Fin 7 → Vec F S1x8x2x128 .bf16 :=
  piece (k0_pay10 (k0_pay1 w) (embLo a b) (embHi a b))

set_option maxRecDepth 65536 in set_option maxHeartbeats 4000000 in
/-- A trip of the loop over the step's tokens is the four groups. -/
theorem body4_eq (i : grid0.Coords) (w : Memref sig .tc .vmem S56x128 .bf16) (hw : w.IsWhole) (o : Memref sig .tc .vmem S8x56x8x128 .bf16) (ho : o.IsWhole)
    (e : Memref sig .tc .vmem S8x56x8x128 .bf16) (he : e.IsWhole) (v0 v10 : BitVec 32) (v17 : Vec F S56x128 .bf16) (k : Fin k0_t4_loop.trips) (acc : Unit) :
    k0_t4_body (F := F) i mIds (Memref.isWhole_whole _) mWords (Memref.isWhole_whole _) (Memref.whole main_v3) (Memref.isWhole_whole _) w hw o ho e he
      mPool (Memref.isWhole_whole _) mScale (Memref.isWhole_whole _) cc0_scratch2 cc0_scratch3 v0 v10 v17 k acc
      = trip o ho e he (rds i k) (puts k) embPiece (outPiece v17) := by
  dsimp only [trip, group, stores, Rd.prog, Put.prog, rds, puts, embPiece, outPiece, piece, embLo, embHi]
  rfl

end Cert.Proof.Kernel
-- ==== Proof.Kernel.TripRun.lean ====
/- A trip of the loop over the step's tokens, run: what it reads, and that every piece of the results it stores is good. -/
module

public import Idealize.ShloMosaic.Lib.Writes
public import proofs.«01_k».proof.Proof.Kernel.TripText

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

/-- What is read of token `t` of step `m`: its identifier, the block of 128 columns of scales its own lies in, its row of words. -/
def tokAt (ids : S4x1024.Idx → BitVec 32) (SC : S56x32000.Idx → F .f32) (W : S8000x7168.Idx → BitVec 32) (m t : ℕ) : Tok F :=
  (idAt ids m t,
    fun y => SC (ValueIdx.ix2 (y 0 : Fin 56) (⟨(((idAt ids m t) >>> 7).toNat * 128 + (y 1).val) % 32000, Nat.mod_lt _ (by decide)⟩ : Fin 32000)),
    fun y => W (ValueIdx.ix2 (⟨(idAt ids m t >>> 2).toNat % 8000, Nat.mod_lt _ (by decide)⟩ : Fin 8000)
      (⟨((y 2).val * 128 + (y 3).val) % 7168, Nat.mod_lt _ (by decide)⟩ : Fin 7168)))

/-- The place reads token `t` of step `m`. -/
structure Rd.Is (p : Rd) (m t : ℕ) : Prop where
  ho1 : p.o1 = ![m / 16, m % 16 * 64 + t]
  ho2 : p.o2 = fun v : BitVec 32 => ![0, (v >>> 7 * 128#32).toNat]
  ho3 : p.o3 = ![m % 3, t, 0, 0]
  hchk : ∀ v, v.toNat < 32000 → p.chk v

variable (c : Dev nD) (ids : S4x1024.Idx → BitVec 32) (SC : S56x32000.Idx → F .f32) (W : S8000x7168.Idx → BitVec 32)

/-- What the reads need: the identifiers, the scales, and the slot of step `m` with its rows fetched. -/
def readable (m : ℕ) : sProp 𝕄 :=
  iprop(pt c mIds (ids : Bf F c mIds) ∗ pt c mScale (SC : Bf F c mScale)
    ∗ (mPool.view.loc (c : Thread nD τ) ↦[slotSet (m % 3)]{fullShare} (fetched ids W m : Bf F c mPool)))

omit [BitOps F] in
/-- An element of the row buffer seen as tokens' 56 by 128 words is that row's element. -/
theorem rows_idx (h : S3x64x56x128.numel = S3x64x1x7168.numel) (y : S3x64x56x128.Idx) :
    (Shape.reshapeEquiv h y : S3x64x1x7168.Idx) = ValueIdx.ix4 (y 0 : Fin 3) (y 1 : Fin 64) (0 : Fin 1)
      (⟨(y 2).val * 128 + (y 3).val, by have h2 : (y 2).val < 56 := (y 2).isLt; have h3 : (y 3).val < 128 := (y 3).isLt; omega⟩ : Fin 7168) :=
  Shape.reshapeEquiv_eq_of_rowMajor h (by
    refine (Shape.rowMajor_val_four _).trans (Eq.trans ?_ (Shape.rowMajor_val_four _).symm)
    show (((y 0).val * 64 + (y 1).val) * 1 + 0) * 7168 + ((y 2).val * 128 + (y 3).val) = (((y 0).val * 64 + (y 1).val) * 56 + (y 2).val) * 128 + (y 3).val
    omega)

/-- A token is read. -/
theorem wp_rd (m t : ℕ) (hm : m < 64) (ht : t < 64) (hids : ∀ x, (ids x).toNat < 32000) (p : Rd) (hp : p.Is m t) (Q : Tok F → sProp 𝕄) :
    readable c ids SC W m ⊢ iprop((readable c ids SC W m -∗ Q (tokAt ids SC W m t))
        -∗ wp frame (wpE (defs₀ (F := F)) 𝒱₀ c none) Set.univ (p.prog (F := F)) Q) := by
  obtain ⟨o1, h1, o2, chk, dec, h2, o3, h3⟩ := p
  obtain ⟨ho1, ho2, ho3, hchk⟩ := hp
  dsimp only at ho1 ho2 ho3 hchk
  subst ho1 ho2 ho3
  unfold readable
  iintro ⟨Hi, Hs, Hr⟩ Hk
  unfold Rd.prog smemLoad
  rw [wp_bind]
  iapply (wp_smemLoadElt 𝒱₀ (c : Thread nD τ) none Set.univ (m := mIds) (r := Rect.unit (s := S4x1024) ![m / 16, m % 16 * 64 + t] S1x1.size h1)
    (q := fullShare) (f := (ids : Bf F c mIds)) (S := Finset.univ) (Finset.subset_univ _)) $$ Hi
  iintro Hi
  rw [wp_ret, wp_bind]
  generalize hv : View.read (Elt F) _ _ _ = v
  have hv' : v = idAt ids m t := by
    rw [← hv]
    show ids ((Rect.unit (s := S4x1024) ![m / 16, m % 16 * 64 + t] S1x1.size h1).idx (Shape.Idx.first _)) = _
    unfold idAt
    congr 1
    funext a
    match a with
    | ⟨0, _⟩ => exact Fin.ext (show m / 16 + 1 * 0 = m / 16 % 4 by omega)
    | ⟨1, _⟩ => exact Fin.ext (show m % 16 * 64 + t + 1 * 0 = (m % 16 * 64 + t) % 1024 by omega)
  have hlt : v.toNat < 32000 := hv' ▸ hids _
  imodintro
  unfold Prog.lift
  iapply (wp_assume 𝒱₀ (c : Thread nD τ) none Set.univ (hchk v hlt))
  rw [wp_ret]
  imodintro
  rw [wp_bind]
  iapply (wp_load 𝒱₀ (c : Thread nD τ) none Set.univ (m := mScale)
    (r := (Rect.unit (s := S56x32000) ![0, (v >>> 7 * 128#32).toNat] S56x128.size (h2 v (hchk v hlt))).toLoadRect)
    (q := fullShare) (f := (SC : Bf F c mScale)) (S := Finset.univ) (Finset.subset_univ _)) $$ Hs
  iintro Hs
  rw [wp_ret]
  imodintro
  rw [wp_bind]
  have hsub : mRows.view.setOn (Rect.unit (s := S3x64x56x128) ![m % 3, t, 0, 0] S1x1x56x128.size h3).toLoadRect.set ⊆ slotSet (m % 3) := by
    intro x hx
    obtain ⟨y, hy, rfl⟩ := Finset.mem_map.mp hx
    have hy := Rect.mem_set_unit.mp (show y ∈ (Rect.unit (s := S3x64x56x128) ![m % 3, t, 0, 0] S1x1x56x128.size h3).set from hy)
    have h0 := hy 0
    change m % 3 ≤ (y 0).val ∧ (y 0).val < m % 3 + 1 at h0
    refine Finset.mem_filter.mpr ⟨Finset.mem_univ _, ?_⟩
    exact (congrArg (fun z : S3x64x1x7168.Idx => (z 0).val) (rows_idx (by decide) y)).trans (show (y 0).val = m % 3 by omega)
  iapply (wp_load 𝒱₀ (c : Thread nD τ) none Set.univ (m := mRows)
    (r := (Rect.unit (s := S3x64x56x128) ![m % 3, t, 0, 0] S1x1x56x128.size h3).toLoadRect)
    (q := fullShare) (f := (fetched ids W m : Bf F c mPool)) (S := slotSet (m % 3)) hsub) $$ Hr
  iintro Hr
  rw [wp_ret]
  imodintro
  rw [wp_ret]
  imodintro
  have e : (v, mScale.view.readAt (Elt F) (Rect.unit (s := S56x32000) ![0, (v >>> 7 * 128#32).toNat] S56x128.size (h2 v (hchk v hlt))).toLoadRect (SC : Bf F c mScale),
      mRows.view.readAt (Elt F) (Rect.unit (s := S3x64x56x128) ![m % 3, t, 0, 0] S1x1x56x128.size h3).toLoadRect (fetched ids W m : Bf F c mPool))
      = tokAt ids SC W m t := by
    subst hv'
    have hb := BitVec.toNat_ushiftRight (idAt ids m t) 7
    rw [Nat.shiftRight_eq_div_pow] at hb
    have hw := BitVec.toNat_ushiftRight (idAt ids m t) 2
    rw [Nat.shiftRight_eq_div_pow] at hw
    have hmul : (idAt ids m t >>> 7 * 128#32).toNat = (idAt ids m t >>> 7).toNat * 128 := by
      rw [BitVec.toNat_mul]
      show _ * 128 % 2 ^ 32 = _
      omega
    refine Prod.ext rfl (Prod.ext (funext fun y => ?_) (funext fun y => ?_))
    · show SC ((Rect.unit (s := S56x32000) ![0, (idAt ids m t >>> 7 * 128#32).toNat] S56x128.size _).idx y) = SC _
      congr 1
      funext a
      have h1 : (y 1).val < 128 := (y 1).isLt
      match a with
      | ⟨0, _⟩ => exact Fin.ext (show 0 + 1 * (y 0).val = (y 0).val by omega)
      | ⟨1, _⟩ =>
        refine Fin.ext ((congrArg (fun n => n + 1 * (y 1).val) hmul).trans ?_)
        show (idAt ids m t >>> 7).toNat * 128 + 1 * (y 1).val = ((idAt ids m t >>> 7).toNat * 128 + (y 1).val) % 32000
        omega
    · refine (congrArg (fetched ids W m) (rows_idx (by decide) ((Rect.unit (s := S3x64x56x128) ![m % 3, t, 0, 0] S1x1x56x128.size h3).idx y))).trans ?_
      have h1 : (y 1).val < 1 := (y 1).isLt
      have h2 : (y 2).val < 56 := (y 2).isLt
      have h3 : (y 3).val < 128 := (y 3).isLt
      show W (ValueIdx.ix2 (⟨(idAt ids m (t + 1 * (y 1).val) >>> 2).toNat % 8000, _⟩ : Fin 8000) (⟨(0 + 1 * (y 2).val) * 128 + (0 + 1 * (y 3).val), _⟩ : Fin 7168)) = _
      congr 2
      · exact Fin.ext (congrArg (fun u => (idAt ids m u >>> 2).toNat % 8000) (show t + 1 * (y 1).val = t by omega))
      · exact Fin.ext (show (0 + 1 * (y 2).val) * 128 + (0 + 1 * (y 3).val) = ((y 2).val * 128 + (y 3).val) % 7168 by omega)
  ihave Hk := Hk $$ [Hi Hs Hr]
  · isplitl [Hi]; · iexact Hi
    isplitl [Hs]; · iexact Hs
    iexact Hr
  rw [← e]
  iexact Hk

/-! ## The stores -/

/-- A result's buffer is held, and its elements that `D` names are good. -/
def held (m : Memref sig .tc .vmem S8x56x8x128 .bf16) (G : S8x56x8x128.Idx → Elt F .bf16 → Prop) (D : S8x56x8x128.Idx → Prop) : sProp 𝕄 :=
  iprop(∃ X : S8x56x8x128.Idx → Elt F .bf16, ⌜∀ x, D x → G x (X x)⌝ ∗ owns (c : Thread nD τ) m fullShare X)

/-- Elements stored before piece `g` of group `j` of trip `k`. -/
def doneAt (k j g : ℕ) (x : S8x56x8x128.Idx) : Prop :=
  (x 0).val < k ∨ (x 0).val = k ∧ ((x 2).val < 2 * j ∨ (x 2).val < 2 * j + 2 ∧ (x 1).val < 8 * g)

omit [BitOps F] in
theorem held_mono (m : Memref sig .tc .vmem S8x56x8x128 .bf16) (G : S8x56x8x128.Idx → Elt F .bf16 → Prop) {D D' : S8x56x8x128.Idx → Prop}
    (h : ∀ x, D' x → D x) : held c m G D ⊢ held c m G D' := by
  unfold held
  iintro ⟨%X, %hX, H⟩
  iexists X
  isplitr
  · ipureintro; exact fun x hx => hX x (h x hx)
  iexact H

/-- The place is piece `g` of group `j` of trip `k`. -/
abbrev Put.Is (p : Put) (k j g : ℕ) : Prop := p.o = ![k, 8 * g, 2 * j, 0]

/-- The element of the block that element `y` of piece `g` of group `j` of trip `k` is. -/
def pieceIdx (k : Fin 8) (j : Fin 4) (g : Fin 7) (y : S1x8x2x128.Idx) : S8x56x8x128.Idx :=
  ValueIdx.ix4 k (⟨8 * g.val + (y 1).val, by have : (y 1).val < 8 := (y 1).isLt; omega⟩ : Fin 56)
    (⟨2 * j.val + (y 2).val, by have : (y 2).val < 2 := (y 2).isLt; omega⟩ : Fin 8) (y 3 : Fin 128)

omit [BitOps F] in
/-- After a good piece is stored, the elements stored so far are good. -/
theorem put_good (v : View sig .tc .vmem S8x56x8x128 .bf16) (G : S8x56x8x128.Idx → Elt F .bf16 → Prop) (k : Fin 8) (j : Fin 4) (g : Fin 7)
    (h : ∀ a, (![k.val, 8 * g.val, 2 * j.val, 0] : Fin 4 → ℕ) a + S1x8x2x128.size a ≤ S8x56x8x128.size a)
    (x : Vec F S1x8x2x128 .bf16) (hx : ∀ y, G (pieceIdx k j g y) (x y)) (f : v.ty.Contents (Elt F)) (hf : ∀ z, doneAt k j g z → G z (v.read (Elt F) f z))
    (z : S8x56x8x128.Idx) (hz : doneAt k j (g.val + 1) z) :
    G z (v.read (Elt F) ((v.slice (Rect.unit (s := S8x56x8x128) ![k.val, 8 * g.val, 2 * j.val, 0] S1x8x2x128.size h)).write (Elt F) f x Finset.univ) z) := by
  by_cases hr : z ∈ (Rect.unit (s := S8x56x8x128) ![k.val, 8 * g.val, 2 * j.val, 0] S1x8x2x128.size h).set
  · obtain ⟨y, rfl⟩ := (Rect.unit (s := S8x56x8x128) ![k.val, 8 * g.val, 2 * j.val, 0] S1x8x2x128.size h).exists_idx_of_mem hr
    have e : (Rect.unit (s := S8x56x8x128) ![k.val, 8 * g.val, 2 * j.val, 0] S1x8x2x128.size h).idx y = pieceIdx k j g y := by
      funext a
      match a with
      | ⟨0, _⟩ => exact Fin.ext (show k.val + 1 * (y 0).val = k.val by have : (y 0).val < 1 := (y 0).isLt; omega)
      | ⟨1, _⟩ => exact Fin.ext (show 8 * g.val + 1 * (y 1).val = 8 * g.val + (y 1).val by omega)
      | ⟨2, _⟩ => exact Fin.ext (show 2 * j.val + 1 * (y 2).val = 2 * j.val + (y 2).val by omega)
      | ⟨3, _⟩ => exact Fin.ext (show 0 + 1 * (y 3).val = (y 3).val by omega)
    have e2 := View.read_slice_write_emb (v := v) (Val := Elt F) (Rect.unit (s := S8x56x8x128) ![k.val, 8 * g.val, 2 * j.val, 0] S1x8x2x128.size h) f x
      (Finset.mem_univ y)
    refine Eq.mpr (congrArg (G _) e2) ?_
    exact Eq.mpr (congrArg (fun i => G i (x y)) e) (hx y)
  · have e2 := View.read_slice_write_of_not_mem (v := v) (Val := Elt F) (Rect.unit (s := S8x56x8x128) ![k.val, 8 * g.val, 2 * j.val, 0] S1x8x2x128.size h) f x
      Finset.univ (y := z) (by rw [Rect.map_emb_univ]; exact hr)
    refine Eq.mpr (congrArg (G _) e2) (hf z ?_)
    have hr' : ¬ ((z 0).val = k.val ∧ (8 * g.val ≤ (z 1).val ∧ (z 1).val < 8 * g.val + 8) ∧ (2 * j.val ≤ (z 2).val ∧ (z 2).val < 2 * j.val + 2)) := by
      rintro ⟨h0, h1, h2⟩
      refine hr (Rect.mem_set_unit.mpr fun a => ?_)
      match a with
      | ⟨0, _⟩ => exact ⟨h0.ge, h0.le.trans_lt (Nat.lt_succ_self _)⟩
      | ⟨1, _⟩ => exact h1
      | ⟨2, _⟩ => exact h2
      | ⟨3, _⟩ => exact ⟨Nat.zero_le _, (z 3).isLt.trans_le (Nat.le_add_left _ _)⟩
    unfold doneAt at hz ⊢
    omega

/-- A good piece is stored. -/
theorem wp_put (m : Memref sig .tc .vmem S8x56x8x128 .bf16) (hm : m.IsWhole) (G : S8x56x8x128.Idx → Elt F .bf16 → Prop)
    (k : Fin 8) (j : Fin 4) (g : Fin 7) (p : Put) (hp : p.Is k j g) (x : Vec F S1x8x2x128 .bf16) (hx : ∀ y, G (pieceIdx k j g y) (x y)) (Q : PUnit → sProp 𝕄) :
    held c m G (doneAt k j g) ⊢ iprop((held c m G (doneAt k j (g.val + 1)) -∗ Q ⟨⟩)
        -∗ wp frame (wpE (defs₀ (F := F)) 𝒱₀ c none) Set.univ (p.prog (F := F) m hm x) Q) := by
  obtain ⟨o, h, hpk⟩ := p
  change o = _ at hp
  subst hp
  unfold held owns
  iintro ⟨%X, %hX, ⟨%f, %hf, H⟩⟩ Hk
  unfold Put.prog Prog.lift
  rw [wp_bind]
  iapply (wp_load 𝒱₀ (c : Thread nD τ) none Set.univ (m := m)
    (r := (Rect.unit (s := S8x56x8x128) ![k.val, 8 * g.val, 2 * j.val, 0] S1x8x2x128.size h).toLoadRect)
    (q := fullShare) (f := f) (S := m.view.set) (View.setOn_subset_set _ _)) $$ H
  iintro H
  rw [wp_ret]
  imodintro
  iapply (wp_store 𝒱₀ (c : Thread nD τ) none Set.univ (m := m)
    (r := Rect.unit (s := S8x56x8x128) ![k.val, 8 * g.val, 2 * j.val, 0] S1x8x2x128.size h) (Mk := Finset.univ) (w := x)
    (f := f) (S := m.view.set) (m.setOn_access_subset _ _)) $$ H
  iintro H
  rw [wp_ret]
  imodintro
  iapply Hk
  iexists _
  isplitr
  swap
  · iexists _
    isplitr
    swap
    · iexact H
    ipureintro; rfl
  ipureintro
  exact put_good m.view G k j g h x hx f (fun z hz => by rw [hf]; exact hX z hz)

/-- The seven pieces of each result are stored. -/
theorem wp_stores (o : Memref sig .tc .vmem S8x56x8x128 .bf16) (ho : o.IsWhole) (e : Memref sig .tc .vmem S8x56x8x128 .bf16) (he : e.IsWhole)
    (Ge Go : S8x56x8x128.Idx → Elt F .bf16 → Prop) (k : Fin 8) (j : Fin 4) (p : Fin 7 → Put) (hp : ∀ g : Fin 7, (p g).Is k j g)
    (xe xo : Fin 7 → Vec F S1x8x2x128 .bf16) (hxe : ∀ g y, Ge (pieceIdx k j g y) (xe g y)) (hxo : ∀ g y, Go (pieceIdx k j g y) (xo g y)) (Q : PUnit → sProp 𝕄) :
    iprop(held c e Ge (doneAt k j 0) ∗ held c o Go (doneAt k j 0))
      ⊢ iprop((iprop(held c e Ge (doneAt k (j.val + 1) 0) ∗ held c o Go (doneAt k (j.val + 1) 0)) -∗ Q ⟨⟩)
        -∗ wp frame (wpE (defs₀ (F := F)) 𝒱₀ c none) Set.univ (stores (F := F) o ho e he p xe xo) Q) := by
  have se (g : Fin 7) (n n' : ℕ) (hn : g.val = n) (hn' : g.val + 1 = n') (Q : PUnit → sProp 𝕄) :
      held c e Ge (doneAt k j n) ⊢ iprop((held c e Ge (doneAt k j n') -∗ Q ⟨⟩)
        -∗ wp frame (wpE (defs₀ (F := F)) 𝒱₀ c none) Set.univ ((p g).prog (F := F) e he (xe g)) Q) := by
    subst hn hn'
    exact wp_put (F := F) c e he Ge k j g (p g) (hp g) (xe g) (hxe g) Q
  have so (g : Fin 7) (n n' : ℕ) (hn : g.val = n) (hn' : g.val + 1 = n') (Q : PUnit → sProp 𝕄) :
      held c o Go (doneAt k j n) ⊢ iprop((held c o Go (doneAt k j n') -∗ Q ⟨⟩)
        -∗ wp frame (wpE (defs₀ (F := F)) 𝒱₀ c none) Set.univ ((p g).prog (F := F) o ho (xo g)) Q) := by
    subst hn hn'
    exact wp_put (F := F) c o ho Go k j g (p g) (hp g) (xo g) (hxo g) Q
  have fin (x : S8x56x8x128.Idx) : doneAt k (j.val + 1) 0 x → doneAt k j 7 x := by
    have h1 : (x 1).val < 56 := (x 1).isLt
    unfold doneAt; omega
  iintro ⟨He, Ho⟩ Hk
  unfold stores
  simp only [wp_bind]
  iapply (se 0 0 1 rfl rfl _) $$ He
  iintro He
  iapply (so 0 0 1 rfl rfl _) $$ Ho
  iintro Ho
  iapply (se 1 1 2 rfl rfl _) $$ He
  iintro He
  iapply (so 1 1 2 rfl rfl _) $$ Ho
  iintro Ho
  iapply (se 2 2 3 rfl rfl _) $$ He
  iintro He
  iapply (so 2 2 3 rfl rfl _) $$ Ho
  iintro Ho
  iapply (se 3 3 4 rfl rfl _) $$ He
  iintro He
  iapply (so 3 3 4 rfl rfl _) $$ Ho
  iintro Ho
  iapply (se 4 4 5 rfl rfl _) $$ He
  iintro He
  iapply (so 4 4 5 rfl rfl _) $$ Ho
  iintro Ho
  iapply (se 5 5 6 rfl rfl _) $$ He
  iintro He
  iapply (so 5 5 6 rfl rfl _) $$ Ho
  iintro Ho
  iapply (se 6 6 7 rfl rfl _) $$ He
  iintro He
  iapply (so 6 6 7 rfl rfl _) $$ Ho
  iintro Ho
  rw [wp_ret]
  imodintro
  iapply Hk
  isplitl [He]
  · iapply (held_mono c e Ge fin) $$ He
  iapply (held_mono c o Go fin) $$ Ho

/-- A group is run: two tokens read, their pieces stored. -/
theorem wp_group (o : Memref sig .tc .vmem S8x56x8x128 .bf16) (ho : o.IsWhole) (e : Memref sig .tc .vmem S8x56x8x128 .bf16) (he : e.IsWhole)
    (Ge Go : S8x56x8x128.Idx → Elt F .bf16 → Prop) (m : ℕ) (hm : m < 64) (hids : ∀ x, (ids x).toNat < 32000) (k : Fin 8) (j : Fin 4) (ra rb : Rd)
    (hra : ra.Is m (8 * k.val + 2 * j.val)) (hrb : rb.Is m (8 * k.val + 2 * j.val + 1))
    (p : Fin 7 → Put) (hp : ∀ g : Fin 7, (p g).Is k j g) (xe xo : Tok F → Tok F → Fin 7 → Vec F S1x8x2x128 .bf16)
    (hxe : ∀ g y, Ge (pieceIdx k j g y) (xe (tokAt ids SC W m (8 * k.val + 2 * j.val)) (tokAt ids SC W m (8 * k.val + 2 * j.val + 1)) g y))
    (hxo : ∀ g y, Go (pieceIdx k j g y) (xo (tokAt ids SC W m (8 * k.val + 2 * j.val)) (tokAt ids SC W m (8 * k.val + 2 * j.val + 1)) g y))
    (Q : PUnit → sProp 𝕄) :
    iprop(readable c ids SC W m ∗ held c e Ge (doneAt k j 0) ∗ held c o Go (doneAt k j 0))
      ⊢ iprop((iprop(readable c ids SC W m ∗ held c e Ge (doneAt k (j.val + 1) 0) ∗ held c o Go (doneAt k (j.val + 1) 0)) -∗ Q ⟨⟩)
        -∗ wp frame (wpE (defs₀ (F := F)) 𝒱₀ c none) Set.univ (group (F := F) o ho e he ra rb p xe xo) Q) := by
  iintro ⟨Hr, H⟩ Hk
  unfold group
  simp only [wp_bind]
  iapply (wp_rd c ids SC W m _ hm (by omega) hids ra hra _) $$ Hr
  iintro Hr
  iapply (wp_rd c ids SC W m _ hm (by omega) hids rb hrb _) $$ Hr
  iintro Hr
  iapply (wp_stores c o ho e he Ge Go k j p hp _ _ hxe hxo _) $$ H
  iintro H
  iapply Hk
  isplitl [Hr]; · iexact Hr
  iexact H

/-- A trip is run: the eight tokens of the trip, of step `m`. -/
theorem wp_trip (o : Memref sig .tc .vmem S8x56x8x128 .bf16) (ho : o.IsWhole) (e : Memref sig .tc .vmem S8x56x8x128 .bf16) (he : e.IsWhole)
    (Ge Go : S8x56x8x128.Idx → Elt F .bf16 → Prop) (m : ℕ) (hm : m < 64) (hids : ∀ x, (ids x).toNat < 32000) (k : Fin 8) (r : Fin 8 → Rd)
    (hr : ∀ a, (r a).Is m (8 * k.val + a.val)) (p : Fin 4 → Fin 7 → Put) (hp : ∀ (j : Fin 4) (g : Fin 7), (p j g).Is k j g)
    (xe xo : Tok F → Tok F → Fin 7 → Vec F S1x8x2x128 .bf16)
    (hxe : ∀ (j : Fin 4) g y, Ge (pieceIdx k j g y) (xe (tokAt ids SC W m (8 * k.val + 2 * j.val)) (tokAt ids SC W m (8 * k.val + 2 * j.val + 1)) g y))
    (hxo : ∀ (j : Fin 4) g y, Go (pieceIdx k j g y) (xo (tokAt ids SC W m (8 * k.val + 2 * j.val)) (tokAt ids SC W m (8 * k.val + 2 * j.val + 1)) g y))
    (Q : PUnit → sProp 𝕄) :
    iprop(readable c ids SC W m ∗ held c e Ge (fun x => (x 0).val < k.val) ∗ held c o Go (fun x => (x 0).val < k.val))
      ⊢ iprop((iprop(readable c ids SC W m ∗ held c e Ge (fun x => (x 0).val < k.val + 1) ∗ held c o Go (fun x => (x 0).val < k.val + 1)) -∗ Q ⟨⟩)
        -∗ wp frame (wpE (defs₀ (F := F)) 𝒱₀ c none) Set.univ (trip (F := F) o ho e he r p xe xo) Q) := by
  have s (j : Fin 4) (a b : Fin 8) (n n' : ℕ) (hn : j.val = n) (hn' : j.val + 1 = n') (ha : a.val = 2 * j.val) (hb : b.val = 2 * j.val + 1) (Q : PUnit → sProp 𝕄) :
      iprop(readable c ids SC W m ∗ held c e Ge (doneAt k n 0) ∗ held c o Go (doneAt k n 0))
      ⊢ iprop((iprop(readable c ids SC W m ∗ held c e Ge (doneAt k n' 0) ∗ held c o Go (doneAt k n' 0)) -∗ Q ⟨⟩)
        -∗ wp frame (wpE (defs₀ (F := F)) 𝒱₀ c none) Set.univ (group (F := F) o ho e he (r a) (r b) (p j) xe xo) Q) := by
    subst hn hn'
    exact wp_group (F := F) c ids SC W o ho e he Ge Go m hm hids k j (r a) (r b) (ha ▸ hr a) (by have := hr b; rw [hb] at this; exact this) (p j) (hp j) xe xo
      (hxe j) (hxo j) Q
  have start (x : S8x56x8x128.Idx) : doneAt k 0 0 x → (x 0).val < k.val := by unfold doneAt; omega
  have fin (x : S8x56x8x128.Idx) : (x 0).val < k.val + 1 → doneAt k 4 0 x := by
    have h2 : (x 2).val < 8 := (x 2).isLt
    unfold doneAt; omega
  iintro ⟨Hr, He, Ho⟩ Hk
  ihave He := (held_mono c e Ge start) $$ He
  ihave Ho := (held_mono c o Go start) $$ Ho
  unfold trip
  simp only [wp_bind]
  iapply (s 0 0 1 0 1 rfl rfl rfl rfl _) $$ [Hr He Ho]
  · isplitl [Hr]; · iexact Hr
    isplitl [He]; · iexact He
    iexact Ho
  iintro H
  iapply (s 1 2 3 1 2 rfl rfl rfl rfl _) $$ H
  iintro H
  iapply (s 2 4 5 2 3 rfl rfl rfl rfl _) $$ H
  iintro H
  iapply (s 3 6 7 3 4 rfl rfl rfl rfl _) $$ H
  iintro ⟨Hr, He, Ho⟩
  rw [wp_ret]
  imodintro
  iapply Hk
  isplitl [Hr]; · iexact Hr
  isplitl [He]
  · iapply (held_mono c e Ge fin) $$ He
  iapply (held_mono c o Go fin) $$ Ho

end Cert.Proof.Kernel
-- ==== Proof.Kernel.Tokens.lean ====
/- The loop over the step's tokens, run. -/
module

public import proofs.«01_k».proof.Proof.Kernel.TripRun

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

omit [BitOps F] in
/-- An identifier below the vocabulary's size lies in a block of 128 columns of scales. -/
theorem scales_inb (v : BitVec 32) (hv : v.toNat < 32000) :
    128 ∣ (v >>> 7 * 128#32).toNat ∧ ∀ a, (![0, (v >>> 7 * 128#32).toNat] : Fin 2 → ℕ) a + S56x128.size a ≤ S56x32000.size a := by
  have hb := BitVec.toNat_ushiftRight v 7
  rw [Nat.shiftRight_eq_div_pow] at hb
  have hmul : (v >>> 7 * 128#32).toNat = (v >>> 7).toNat * 128 := by
    rw [BitVec.toNat_mul]
    show _ * 128 % 2 ^ 32 = _
    omega
  rw [hmul]
  refine ⟨Nat.dvd_mul_left _ _, fun a => ?_⟩
  match a with
  | ⟨0, _⟩ => show 0 + 56 ≤ 56; omega
  | ⟨1, _⟩ => show (v >>> 7).toNat * 128 + 128 ≤ 32000; omega

omit [BitOps F] in
/-- The grid coordinates are the one coordinate. -/
theorem coord_eq (i : grid0.Coords) : i = (fun | ⟨0, _⟩ => i 0 : grid0.Coords) := by
  funext a
  match a with
  | ⟨0, _⟩ => rfl

/-- A trip reads its eight tokens of the step. -/
theorem rds_is (i : grid0.Coords) (k : Fin k0_t4_loop.trips) (a : Fin 8) : (rds i k a).Is (i 0).val (8 * k.val + a.val) := by
  match a with
  | ⟨0, _⟩ | ⟨1, _⟩ | ⟨2, _⟩ | ⟨3, _⟩ | ⟨4, _⟩ | ⟨5, _⟩ | ⟨6, _⟩ | ⟨7, _⟩ =>
    refine ⟨?_, rfl, ?_, fun v hv => scales_inb v hv⟩ <;> dsimp only [rds] <;> rw [coord_eq i] <;> dsimp only <;>
      generalize (i 0 : Fin 64) = n <;> revert n k <;> decide +kernel

/-- A trip stores its twenty-eight pieces of each result. -/
theorem puts_is (k : Fin k0_t4_loop.trips) (j : Fin 4) (g : Fin 7) : (puts k j g).Is k.val j.val g.val := by
  match j with
  | ⟨0, _⟩ | ⟨1, _⟩ | ⟨2, _⟩ | ⟨3, _⟩ =>
    match g with
    | ⟨0, _⟩ | ⟨1, _⟩ | ⟨2, _⟩ | ⟨3, _⟩ | ⟨4, _⟩ | ⟨5, _⟩ | ⟨6, _⟩ =>
      show Put.o (puts k _ _) = _
      dsimp only [puts]
      revert k
      decide +kernel

variable (c : Dev nD) (ids : S4x1024.Idx → BitVec 32) (SC : S56x32000.Idx → F .f32) (W : S8000x7168.Idx → BitVec 32)

/-- The loop is run: from any contents of the two results' blocks, every element of both is good. -/
theorem wp_tokens (i : grid0.Coords) (hids : ∀ x, (ids x).toNat < 32000) (w : Memref sig .tc .vmem S56x128 .bf16) (hw : w.IsWhole)
    (o : Memref sig .tc .vmem S8x56x8x128 .bf16) (ho : o.IsWhole) (e : Memref sig .tc .vmem S8x56x8x128 .bf16) (he : e.IsWhole)
    (Ge Go : S8x56x8x128.Idx → Elt F .bf16 → Prop) (v0 v10 : BitVec 32) (v17 : Vec F S56x128 .bf16)
    (hxe : ∀ (k : Fin 8) (j : Fin 4) g y, Ge (pieceIdx k j g y)
      (embPiece (tokAt ids SC W (i 0).val (8 * k.val + 2 * j.val)) (tokAt ids SC W (i 0).val (8 * k.val + 2 * j.val + 1)) g y))
    (hxo : ∀ (k : Fin 8) (j : Fin 4) g y, Go (pieceIdx k j g y)
      (outPiece v17 (tokAt ids SC W (i 0).val (8 * k.val + 2 * j.val)) (tokAt ids SC W (i 0).val (8 * k.val + 2 * j.val + 1)) g y))
    (Xe Xo : S8x56x8x128.Idx → Elt F .bf16) (Q : Unit → sProp 𝕄) :
    iprop(readable c ids SC W (i 0).val ∗ owns (c : Thread nD τ) e fullShare Xe ∗ owns (c : Thread nD τ) o fullShare Xo)
      ⊢ iprop((iprop(readable c ids SC W (i 0).val ∗ (∃ X : S8x56x8x128.Idx → Elt F .bf16, ⌜∀ x, Ge x (X x)⌝ ∗ owns (c : Thread nD τ) e fullShare X)
          ∗ (∃ X : S8x56x8x128.Idx → Elt F .bf16, ⌜∀ x, Go x (X x)⌝ ∗ owns (c : Thread nD τ) o fullShare X)) -∗ Q ⟨⟩)
        -∗ wp frame (wpE (defs₀ (F := F)) 𝒱₀ c none) Set.univ (Scf.Loop.for k0_t4_loop k0_t4_ok ⟨⟩
          (k0_t4_body (F := F) i mIds (Memref.isWhole_whole _) mWords (Memref.isWhole_whole _) (Memref.whole main_v3) (Memref.isWhole_whole _) w hw o ho e he
            mPool (Memref.isWhole_whole _) mScale (Memref.isWhole_whole _) cc0_scratch2 cc0_scratch3 v0 v10 v17)) Q) := by
  iintro ⟨Hr, He, Ho⟩ Hk
  iapply (Scf.wp_for (M := 𝕄) frame (wpE (defs₀ (F := F)) 𝒱₀ c none) Set.univ k0_t4_loop.lb k0_t4_loop.ub k0_t4_loop.st k0_t4_ok () _
    (fun k _ => iprop(readable c ids SC W (i 0).val ∗ held c e Ge (fun x => (x 0).val < k) ∗ held c o Go (fun x => (x 0).val < k)))
    (fun k acc => by
      rw [body4_eq]
      iintro H
      iapply (wp_trip c ids SC W o ho e he Ge Go (i 0).val (i 0).isLt hids ⟨k.val, k.isLt⟩ (rds i k) (rds_is i k) (puts k) (puts_is k)
        embPiece (outPiece v17) (hxe ⟨k.val, k.isLt⟩) (hxo ⟨k.val, k.isLt⟩) _) $$ H
      iintro H
      iexact H))
  isplitl [Hr He Ho]
  · isplitl [Hr]; · iexact Hr
    unfold held
    isplitl [He]
    · iexists Xe
      isplitr
      · ipureintro; exact fun x hx => absurd hx (Nat.not_lt_zero _)
      iexact He
    iexists Xo
    isplitr
    · ipureintro; exact fun x hx => absurd hx (Nat.not_lt_zero _)
    iexact Ho
  iintro %acc ⟨Hr, He, Ho⟩
  iapply Hk
  isplitl [Hr]; · iexact Hr
  unfold held
  icases He with ⟨%X, %hX, He⟩
  icases Ho with ⟨%Y, %hY, Ho⟩
  isplitl [He]
  · iexists X
    isplitr
    · ipureintro; exact fun x => hX x (x 0).isLt
    iexact He
  iexists Y
  isplitr
  · ipureintro; exact fun x => hY x (x 0).isLt
  iexact Ho

end Cert.Proof.Kernel
-- ==== Proof.Kernel.Slots.lean ====
/- The row buffer's three slots: a slot at rest, a slot a step's rows are being copied into, and a slot they have all arrived in. -/
module

public import proofs.«01_k».proof.Proof.Kernel.Tokens

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

/-- The scales' source. -/
abbrev mScaleSrc : Memref sig .tc .hbm S56x32000 .f32 := Memref.whole main_v3
/-- The scales' semaphore. -/
abbrev scaleSem : SemLoc sig := .dma cc0_scratch3.sem
/-- The units the scales' copy signals. -/
abbrev scaleUnits : ℕ := mScale.view.amount scaleSem

variable (c : Dev nD) (ids : S4x1024.Idx → BitVec 32) (SC : S56x32000.Idx → F .f32) (W : S8000x7168.Idx → BitVec 32)

/-- Step `m`'s slot at rest: its rows at something, its semaphore at zero. -/
def idle (m : ℕ) : sProp 𝕄 :=
  iprop(∃ f : S3x64x1x7168.Idx → BitVec 32, (mPool.view.loc (c : Thread nD τ) ↦[slotSet (m % 3)]{fullShare} (f : Bf F c mPool)) ∗ semVal ((c : Thread nD τ), stepSem m) 0)

/-- Step `m`'s slot: while the step is ahead, its copies in flight; no step past the last, and the slot at rest. -/
def slotSt (m : ℕ) : sProp 𝕄 := if m < 64 then stepBatch c ids W m 64 else idle c m

/-- The words, held at the share that the copies of the first `m` steps leave. -/
abbrev wordsAt (m : ℕ) : sProp 𝕄 := mWords.view.loc (c : Thread nD τ) ↦[Finset.univ]{shareDrop fullShare (m * 64)} (W : Bf F c mWords)

omit [BitOps F] in
theorem idle_mod {m m' : ℕ} (h : m % 3 = m' % 3) : idle (F := F) c m = idle c m' := by
  unfold idle stepSem
  simp only [h]

omit [BitOps F] in
/-- A slot is its 64 rows. -/
theorem slotSet_rows (s : ℕ) : slotSet s = Finset.univ.biUnion (fun t : Fin 64 => rowSet s t.val) := by
  ext x
  simp only [slotSet, rowSet, Finset.mem_filter, Finset.mem_univ, true_and, Finset.mem_biUnion]
  exact ⟨fun h => ⟨x 1, h, rfl⟩, fun ⟨_, h, _⟩ => h⟩

omit [BitOps F] in
theorem rowSet_disj (s : ℕ) : ∀ t ∈ (Finset.univ : Finset (Fin 64)), ∀ t' ∈ (Finset.univ : Finset (Fin 64)), t ≠ t' →
    Disjoint (rowSet s t.val) (rowSet s t'.val) := by
  intro t _ t' _ h
  refine Finset.disjoint_left.mpr fun x hx hx' => h (Fin.ext ?_)
  simp only [rowSet, Finset.mem_filter, Finset.mem_univ, true_and] at hx hx'
  exact hx.2.symm.trans hx'.2

omit [BitOps F] in
/-- A slot held is its rows held. -/
theorem slot_rows (s : ℕ) (f : S3x64x1x7168.Idx → BitVec 32) :
    (mPool.view.loc (c : Thread nD τ) ↦[slotSet s]{fullShare} (f : Bf F c mPool) : sProp 𝕄)
      = bigSep Finset.univ (fun t : Fin 64 => mPool.view.loc (c : Thread nD τ) ↦[rowSet s t.val]{fullShare} (f : Bf F c mPool)) := by
  rw [slotSet_rows]
  exact pointsTo_biUnion (ℓ := mPool.view.loc (c : Thread nD τ)) Finset.univ (fun t : Fin 64 => rowSet s t.val) (rowSet_disj s)

/-- A step starts from a slot at rest. -/
theorem step_start (m : ℕ) :
    iprop(idle (F := F) c m ∗ wordsAt c W m) ⊢ |={Set.univ}=> iprop(∃ f : S3x64x1x7168.Idx → BitVec 32, fly c ids W f m 0) := by
  unfold idle
  iintro ⟨⟨%f, Hp, Hs⟩, Hw⟩
  imod (batch_alloc' (EC (F := F)) (c := (c : Thread nD τ)) () rowUnits (rowD c ids W m) (E := Set.univ)) $$ Hs with HB
  imodintro
  iexists f
  unfold fly
  isplitl [Hw]; · iexact Hw
  isplitl [HB]; · iexact HB
  iapply (show (mPool.view.loc (c : Thread nD τ) ↦[slotSet (m % 3)]{fullShare} (f : Bf F c mPool) : sProp 𝕄)
      ⊢ bigSep (pending 0) (fun u : Fin 64 => mPool.view.loc (c : Thread nD τ) ↦[rowSet (m % 3) u.val]{fullShare} (f : Bf F c mPool))
    from Entails.of_eq (by rw [slot_rows, pending_zero])) $$ Hp

/-- All its copies started, a step leaves the words at the next share and its slot in flight. -/
theorem step_flying (f : S3x64x1x7168.Idx → BitVec 32) (m : ℕ) (hm : m < 64) :
    fly (F := F) c ids W f m 64 ⊢ iprop(wordsAt c W (m + 1) ∗ slotSt c ids W m) := by
  unfold fly slotSt
  rw [if_pos hm, show m * 64 + 64 = (m + 1) * 64 by omega]
  iintro ⟨Hw, HB, -⟩
  isplitl [Hw]; · iexact Hw
  iexact HB

/-- Every row of a step arrived is its slot at what the step fetches. -/
theorem step_arrived (m : ℕ) :
    bigSep Finset.univ (rowD (F := F) c ids W m) ⊢ (mPool.view.loc (c : Thread nD τ) ↦[slotSet (m % 3)]{fullShare} (fetched ids W m : Bf F c mPool)) := by
  rw [slot_rows]
  exact Entails.of_eq rfl

/-- The scales' copy in flight. -/
abbrev scaleFly : sProp 𝕄 :=
  Batch (EC (F := F)) (c : Thread nD τ) scaleSem () scaleUnits (fun _ : Fin 1 => pt c mScale (SC : Bf F c mScale)) 1 0
/-- The scales arrived. -/
abbrev scaleHere : sProp 𝕄 := iprop(pt c mScale (SC : Bf F c mScale) ∗ semVal ((c : Thread nD τ), scaleSem) 0)
/-- The scales not yet copied. -/
abbrev scaleAway : sProp 𝕄 :=
  iprop((∃ f : Bf F c mScale, pt c mScale f) ∗ semVal ((c : Thread nD τ), scaleSem) 0 ∗ pt c mScaleSrc (SC : Bf F c mScaleSrc))

/-- The scales once step `n` has started. -/
def scaleSt (n : ℕ) : sProp 𝕄 := if n = 0 then scaleFly c SC else scaleHere c SC

/-- The scales' copy started. -/
theorem wp_scaleStart (k : PUnit → Prog (TpuEff nD τ sig (Elt F) Λ₀ .tc) PUnit) (Q : PUnit → sProp 𝕄) hs hd ht :
    scaleAway c SC
      ⊢ iprop((scaleFly c SC -∗ wp frame (wpE (defs₀ (F := F)) 𝒱₀ c none) Set.univ (k ⟨⟩) Q)
        -∗ wp frame (wpE (defs₀ (F := F)) 𝒱₀ c none) Set.univ (.op (.enqueueDma mScaleSrc (.here mScale) scaleSem hs hd ht) k) Q) := by
  iintro ⟨⟨%f, Hd⟩, Hs, Hsrc⟩ Hk
  iapply (fupd_wp frame (wpE (defs₀ (F := F)) 𝒱₀ c none) Set.univ _ _)
  imod (batch_alloc' (EC (F := F)) (c := (c : Thread nD τ)) () scaleUnits (fun _ : Fin 1 => pt c mScale (SC : Bf F c mScale)) (E := Set.univ)) $$ Hs with HB
  imodintro
  iapply (Rows.wp_rowCopy (EC (F := F)) 𝒱₀ (c : Thread nD τ) none
    (src := mScaleSrc) (dst := mScale) (sm := scaleSem) (q := fullShare) (i := 0) (W := (SC : Bf F c mScaleSrc)) (fd := f)
    (G := (SC : Bf F c mScale)) (S := Finset.univ) (D := fun _ : Fin 1 => pt c mScale (SC : Bf F c mScale)) (j := 0) (u := 0) () scaleUnits rfl Nat.one_pos (Nat.zero_le _)
    (Memref.isWhole_whole _).set_eq_univ rfl .rfl) $$ [Hsrc Hd HB]
  · isplitl [Hsrc]; · iexact Hsrc
    isplitl [Hd]; · iexact Hd
    iexact HB
  iintro ⟨-, HB⟩
  iapply Hk
  iexact HB

/-- The scales' copy waited for. -/
theorem wp_scaleWait (k : PUnit → Prog (TpuEff nD τ sig (Elt F) Λ₀ .tc) PUnit) (Q : PUnit → sProp 𝕄) hs hd {O : Waits sig Unit} :
    iprop(scaleFly c SC ∗ owes (c : Thread nD τ) 0 O)
      ⊢ iprop((iprop(scaleHere c SC ∗ ∃ O, owes (c : Thread nD τ) 0 O) -∗ wp frame (wpE (defs₀ (F := F)) 𝒱₀ c none) Set.univ (k ⟨⟩) Q)
        -∗ wp frame (wpE (defs₀ (F := F)) 𝒱₀ c none) Set.univ (.op (.waitDma2 cc0_scratch3.sem mScaleSrc mScale hs hd) k) Q) := by
  iintro H Hk
  iapply (wp_waitBatchAll (EC (F := F)) 𝒱₀ (c : Thread nD τ) none () (J := scaleUnits) (N := scaleUnits) rfl (by decide) (by decide)) $$ H
  iintro ⟨HD, Hs, HO⟩
  iapply Hk
  isplitl [HD Hs]
  · isplitl [HD]
    · iapply (show bigSep (Finset.univ : Finset (Fin 1)) (fun _ => pt c mScale (SC : Bf F c mScale)) ⊢ pt c mScale (SC : Bf F c mScale)
        from Entails.of_eq (by rw [show (Finset.univ : Finset (Fin 1)) = {0} from rfl, bigSep_singleton])) $$ HD
    iexact Hs
  iexists _
  iexact HO

/-- The rows of step `m` waited for. -/
theorem wp_stepWait (m : ℕ) (hm : m < 64) {o1 : Fin 1 → ℕ} (h1 : ∀ a, o1 a + S1.size a ≤ S3.size a) {o2 : Fin 4 → ℕ}
    (h2 : ∀ a, o2 a + S1x64x1x7168.size a ≤ S3x64x1x7168.size a) (ho1 : o1 = ![m % 3]) (ho2 : o2 = ![m % 3, 0, 0, 0])
    (k : PUnit → Prog (TpuEff nD τ sig (Elt F) Λ₀ .tc) PUnit) (Q : PUnit → sProp 𝕄) hs hd {O : Waits sig Unit} :
    iprop(slotSt c ids W m ∗ owes (c : Thread nD τ) 0 O)
      ⊢ iprop((iprop((mPool.view.loc (c : Thread nD τ) ↦[slotSet (m % 3)]{fullShare} (fetched ids W m : Bf F c mPool)) ∗ semVal ((c : Thread nD τ), stepSem m) 0
            ∗ ∃ O, owes (c : Thread nD τ) 0 O) -∗ wp frame (wpE (defs₀ (F := F)) 𝒱₀ c none) Set.univ (k ⟨⟩) Q)
        -∗ wp frame (wpE (defs₀ (F := F)) 𝒱₀ c none) Set.univ (.op (.waitDma2 ((cc0_scratch2.slice (Rect.unit (s := S3) o1 S1.size h1)).squeeze S_ squeezes_S1_S_).sem
            ((mPool.slice (Rect.unit (s := S3x64x1x7168) o2 S1x64x1x7168.size h2) (fun _ => rfl)).squeeze S64x1x7168 squeezes_S1x64x1x7168_S64x1x7168)
            ((mPool.slice (Rect.unit (s := S3x64x1x7168) o2 S1x64x1x7168.size h2) (fun _ => rfl)).squeeze S64x1x7168 squeezes_S1x64x1x7168_S64x1x7168) hs hd) k) Q) := by
  subst ho1 ho2
  unfold slotSt
  rw [if_pos hm]
  iintro H Hk
  iapply (wp_waitBatchAll (EC (F := F)) 𝒱₀ (c : Thread nD τ) none (ι := ()) (J := rowUnits * 64) (N := rowUnits) (D := rowD c ids W m) (u := 0)
    ?hJ ?hN (Nat.zero_add _)) $$ H
  case hJ => rfl
  case hN => decide
  iintro ⟨HD, Hs, HO⟩
  iapply Hk
  isplitl [HD]
  · iapply (step_arrived c ids W m) $$ HD
  isplitl [Hs]; · iexact Hs
  iexists _
  iexact HO

end Cert.Proof.Kernel
-- ==== Proof.Kernel.Body.lean ====
/- The kernel's body at one grid step: its four parts in turn, each run. -/
module

public import proofs.«01_k».proof.Proof.Kernel.FetchLoops
public import proofs.«01_k».proof.Proof.Kernel.Slots

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

section Text

variable (i : grid0.Coords) (w : Memref sig .tc .vmem S56x128 .bf16) (hw : w.IsWhole) (o : Memref sig .tc .vmem S8x56x8x128 .bf16) (ho : o.IsWhole)
  (e : Memref sig .tc .vmem S8x56x8x128 .bf16) (he : e.IsWhole) (k : PUnit.{1} → Prog (TpuEff nD τ sig (Elt F) Λ₀ .tc) PUnit)

/-- At the first step: the scales' copy and the first two steps' row copies are started. -/
def part1 : Prog (TpuEff nD τ sig (Elt F) Λ₀ .tc) PUnit :=
  if k0_h1 : k0_cond1 i = 1#1 then do
    Prog.lift (.enqueueDma mScaleSrc (.here mScale) (.dma cc0_scratch3.sem) (Memref.isWhole_whole _).wordExact (Memref.isWhole_whole _).wordExact ⟨Or.inl rfl, trivial⟩)
    Scf.Loop.for k0_t1_loop (k0_t1_ok i k0_h1) ⟨⟩ (k0_t1_body (F := F) i mIds (Memref.isWhole_whole _) mWords (Memref.isWhole_whole _) mScaleSrc (Memref.isWhole_whole _) w hw o ho e he mPool (Memref.isWhole_whole _) mScale (Memref.isWhole_whole _) cc0_scratch2 cc0_scratch3 k0_h1)
    Scf.Loop.for k0_t2_loop (k0_t2_ok i k0_h1) ⟨⟩ (k0_t2_body (F := F) i mIds (Memref.isWhole_whole _) mWords (Memref.isWhole_whole _) mScaleSrc (Memref.isWhole_whole _) w hw o ho e he mPool (Memref.isWhole_whole _) mScale (Memref.isWhole_whole _) cc0_scratch2 cc0_scratch3 k0_h1)
    k ⟨⟩
  else k ⟨⟩

/-- While there is a step after next: its row copies are started. -/
def part2 : Prog (TpuEff nD τ sig (Elt F) Λ₀ .tc) PUnit :=
  if k0_h2 : k0_cond2 i = 1#1 then do
    Scf.Loop.for k0_t3_loop (k0_t3_ok i k0_h2) ⟨⟩ (k0_t3_body (F := F) i mIds (Memref.isWhole_whole _) mWords (Memref.isWhole_whole _) mScaleSrc (Memref.isWhole_whole _) w hw o ho e he mPool (Memref.isWhole_whole _) mScale (Memref.isWhole_whole _) cc0_scratch2 cc0_scratch3 k0_h2 (Scalar.addi (BitVec.ofNat 32 (i 0).val) 2#32))
    k ⟨⟩
  else k ⟨⟩

/-- At the first step: the scales' copy is waited for. -/
def part3 : Prog (TpuEff nD τ sig (Elt F) Λ₀ .tc) PUnit :=
  if Scalar.cmpi .ne (Scalar.extui (Scalar.cmpi .eq (BitVec.ofNat 32 (i 0).val) 0#32) : BitVec 32) 0#32 = 1#1 then do
    Prog.lift (.waitDma2 cc0_scratch3.sem mScaleSrc mScale (Memref.isWhole_whole _).wordExact (Memref.isWhole_whole _).wordExact)
    k ⟨⟩
  else k ⟨⟩

/-- The step's rows are waited for, the weights read, and the step's tokens computed. -/
def part4 : Prog (TpuEff nD τ sig (Elt F) Λ₀ .tc) PUnit := do
  Prog.lift (.waitDma2 ((cc0_scratch2.slice (Rect.unit (s := S3) (k0_off97 i) S1.size (k0_off97_inb i))).squeeze S_ squeezes_S1_S_).sem
    ((mPool.slice (Rect.unit (s := S3x64x1x7168) (k0_off98 i) S1x64x1x7168.size (k0_off98_inb i)) (fun _ => rfl)).squeeze S64x1x7168 squeezes_S1x64x1x7168_S64x1x7168)
    ((mPool.slice (Rect.unit (s := S3x64x1x7168) (k0_off98 i) S1x64x1x7168.size (k0_off98_inb i)) (fun _ => rfl)).squeeze S64x1x7168 squeezes_S1x64x1x7168_S64x1x7168)
    ((View.wordExact_bits rfl).reshape _ _) ((View.wordExact_bits rfl).reshape _ _))
  let v17 : Vec F S56x128 .bf16 ← Prog.lift (.load w (Rect.unit (s := S56x128) ![0, 0] S56x128.size inb_S56x128_S56x128_0_0).toLoadRect (View.loadsAt_vmem h_S56x128))
  Scf.Loop.for k0_t4_loop k0_t4_ok ⟨⟩ (k0_t4_body (F := F) i mIds (Memref.isWhole_whole _) mWords (Memref.isWhole_whole _) mScaleSrc (Memref.isWhole_whole _) w hw o ho e he mPool (Memref.isWhole_whole _) mScale (Memref.isWhole_whole _) cc0_scratch2 cc0_scratch3 (BitVec.ofNat 32 (i 0).val) (Scalar.remsi (BitVec.ofNat 32 (i 0).val) 3#32) v17)
  Prog.ret ⟨⟩

set_option maxRecDepth 65536 in
/-- The body is its four parts. -/
theorem body_eq : cc0_embed_rmsnorm (F := F) i mIds (Memref.isWhole_whole _) mWords (Memref.isWhole_whole _) mScaleSrc (Memref.isWhole_whole _) w hw o ho e he mPool (Memref.isWhole_whole _) mScale (Memref.isWhole_whole _) cc0_scratch2 cc0_scratch3
    = part1 i w hw o ho e he fun _ => part2 i w hw o ho e he fun _ => part3 i fun _ => part4 i w hw o ho e he := by
  rw [cc0_embed_rmsnorm_eq_skeleton]
  rfl

end Text

omit [BitOps F] in
theorem cond1_iff (i : grid0.Coords) : k0_cond1 i = 1#1 ↔ (i 0).val = 0 := by
  unfold k0_cond1
  generalize (i 0 : Fin 64) = n
  revert n
  decide +kernel

omit [BitOps F] in
theorem cond2_iff (i : grid0.Coords) : k0_cond2 i = 1#1 ↔ (i 0).val + 2 < 64 := by
  unfold k0_cond2
  generalize (i 0 : Fin 64) = n
  revert n
  decide +kernel

omit [BitOps F] in
theorem cond3_iff (n : Fin 64) :
    Scalar.cmpi .ne (Scalar.extui (Scalar.cmpi .eq (BitVec.ofNat 32 n.val) 0#32) : BitVec 32) 0#32 = 1#1 ↔ n.val = 0 := by
  revert n
  decide +kernel

omit [BitOps F] in
theorem off97_eq (i : grid0.Coords) : k0_off97 i = ![(i 0).val % 3] := by
  unfold k0_off97
  generalize (i 0 : Fin 64) = n
  revert n
  decide +kernel

omit [BitOps F] in
theorem off98_eq (i : grid0.Coords) : k0_off98 i = ![(i 0).val % 3, 0, 0, 0] := by
  unfold k0_off98
  generalize (i 0 : Fin 64) = n
  revert n
  decide +kernel

variable (c : Dev nD) (ids : S4x1024.Idx → BitVec 32) (SC : S56x32000.Idx → F .f32) (W : S8000x7168.Idx → BitVec 32)

/-- What the row buffer and the words are at the start of step `n`, the first steps' copies started. -/
def mid (n : ℕ) : sProp 𝕄 :=
  iprop(slotSt c ids W n ∗ slotSt c ids W (n + 1) ∗ idle c (n + 2) ∗ wordsAt c W (min (n + 2) 64))

/-- What they are before anything is started. -/
def fresh : sProp 𝕄 := iprop(idle (F := F) c 0 ∗ idle c 1 ∗ idle c 2 ∗ pt c mWords (W : Bf F c mWords))

/-- The invariant before step `n` (and after step `n - 1`). -/
def Inv (n : ℕ) : sProp 𝕄 :=
  iprop(pt c mIds (ids : Bf F c mIds)
    ∗ if n = 0 then iprop(fresh c W ∗ scaleAway c SC) else iprop(mid c ids W n ∗ scaleHere c SC))

variable (i : grid0.Coords) (w : Memref sig .tc .vmem S56x128 .bf16) (hw : w.IsWhole) (o : Memref sig .tc .vmem S8x56x8x128 .bf16) (ho : o.IsWhole)
  (e : Memref sig .tc .vmem S8x56x8x128 .bf16) (he : e.IsWhole) (hids : ∀ x, (ids x).toNat < 32000)

include hids in
/-- The first part, run. -/
theorem wp_part1 (k : PUnit.{1} → Prog (TpuEff nD τ sig (Elt F) Λ₀ .tc) PUnit) (Q : PUnit → sProp 𝕄) :
    Inv c ids SC W (i 0).val
      ⊢ iprop((iprop(pt c mIds (ids : Bf F c mIds) ∗ mid c ids W (i 0).val ∗ scaleSt c SC (i 0).val) -∗ wp frame (wpE (defs₀ (F := F)) 𝒱₀ c none) Set.univ (k ⟨⟩) Q)
        -∗ wp frame (wpE (defs₀ (F := F)) 𝒱₀ c none) Set.univ (part1 i w hw o ho e he k) Q) := by
  unfold Inv scaleSt part1
  by_cases h : k0_cond1 i = 1#1
  · have h0 := (cond1_iff i).mp h
    rw [dif_pos h, if_pos h0, if_pos h0, h0]
    unfold fresh
    iintro ⟨Hi, ⟨H0, H1, H2, Hw⟩, Hsc⟩ Hk
    unfold Prog.lift
    rw [wp_bind]
    iapply (wp_scaleStart c SC _ _ _ _ _) $$ Hsc
    iintro Hsc
    rw [wp_ret]
    imodintro
    iapply (fupd_wp frame (wpE (defs₀ (F := F)) 𝒱₀ c none) Set.univ _ _)
    imod (step_start c ids W 0) $$ [H0 Hw] with ⟨%f, Hf⟩
    · isplitl [H0]; · iexact H0
      iexact Hw
    imodintro
    rw [wp_bind]
    iapply (wp_fetchLoop c ids W f 0 (by decide) hids k0_t1_loop (k0_t1_ok i h) rfl _ (trip1 i h) (body1_eq i w hw o ho e he h) (trip1_is i h) _) $$ [Hi Hf]
    · isplitl [Hi]; · iexact Hi
      iexact Hf
    iintro ⟨Hi, Hf⟩
    ihave Hf := (step_flying c ids W f 0 (by decide)) $$ Hf
    icases Hf with ⟨Hw, H0⟩
    iapply (fupd_wp frame (wpE (defs₀ (F := F)) 𝒱₀ c none) Set.univ _ _)
    imod (step_start c ids W 1) $$ [H1 Hw] with ⟨%f, Hf⟩
    · isplitl [H1]; · iexact H1
      iexact Hw
    imodintro
    rw [wp_bind]
    iapply (wp_fetchLoop c ids W f 1 (by decide) hids k0_t2_loop (k0_t2_ok i h) rfl _ (trip2 i h) (body2_eq i w hw o ho e he h) (trip2_is i h) _) $$ [Hi Hf]
    · isplitl [Hi]; · iexact Hi
      iexact Hf
    iintro ⟨Hi, Hf⟩
    ihave Hf := (step_flying c ids W f 1 (by decide)) $$ Hf
    icases Hf with ⟨Hw, H1⟩
    iapply Hk
    isplitl [Hi]; · iexact Hi
    isplitr [Hsc]
    · unfold mid
      isplitl [H0]; · iexact H0
      isplitl [H1]; · iexact H1
      isplitl [H2]; · iexact H2
      iexact Hw
    iexact Hsc
  · have h0 : ¬(i 0).val = 0 := fun h0 => h ((cond1_iff i).mpr h0)
    rw [dif_neg h, if_neg h0, if_neg h0]
    iintro ⟨Hi, H⟩ Hk
    iapply Hk
    isplitl [Hi]; · iexact Hi
    iexact H

include hids in
/-- The second part, run. -/
theorem wp_part2 (k : PUnit.{1} → Prog (TpuEff nD τ sig (Elt F) Λ₀ .tc) PUnit) (Q : PUnit → sProp 𝕄) :
    iprop(pt c mIds (ids : Bf F c mIds) ∗ mid c ids W (i 0).val)
      ⊢ iprop((iprop(pt c mIds (ids : Bf F c mIds) ∗ slotSt c ids W (i 0).val ∗ slotSt c ids W ((i 0).val + 1) ∗ slotSt c ids W ((i 0).val + 2)
            ∗ wordsAt c W (min ((i 0).val + 3) 64)) -∗ wp frame (wpE (defs₀ (F := F)) 𝒱₀ c none) Set.univ (k ⟨⟩) Q)
        -∗ wp frame (wpE (defs₀ (F := F)) 𝒱₀ c none) Set.univ (part2 i w hw o ho e he k) Q) := by
  unfold mid part2
  by_cases h : k0_cond2 i = 1#1
  · have h0 := (cond2_iff i).mp h
    rw [dif_pos h, Nat.min_eq_left h0.le, Nat.min_eq_left (show (i 0).val + 3 ≤ 64 by omega)]
    iintro ⟨Hi, H0, H1, H2, Hw⟩ Hk
    iapply (fupd_wp frame (wpE (defs₀ (F := F)) 𝒱₀ c none) Set.univ _ _)
    imod (step_start c ids W ((i 0).val + 2)) $$ [H2 Hw] with ⟨%f, Hf⟩
    · isplitl [H2]; · iexact H2
      iexact Hw
    imodintro
    rw [wp_bind]
    iapply (wp_fetchLoop c ids W f ((i 0).val + 2) h0 hids k0_t3_loop (k0_t3_ok i h) rfl _ (trip3 i h) (body3_eq i w hw o ho e he h _) (trip3_is i h) _) $$ [Hi Hf]
    · isplitl [Hi]; · iexact Hi
      iexact Hf
    iintro ⟨Hi, Hf⟩
    ihave Hf := (step_flying c ids W f ((i 0).val + 2) h0) $$ Hf
    icases Hf with ⟨Hw, H2⟩
    iapply Hk
    isplitl [Hi]; · iexact Hi
    isplitl [H0]; · iexact H0
    isplitl [H1]; · iexact H1
    isplitl [H2]; · iexact H2
    iexact Hw
  · have h0 : ¬(i 0).val + 2 < 64 := fun h0 => h ((cond2_iff i).mpr h0)
    rw [dif_neg h, Nat.min_eq_right (by omega), Nat.min_eq_right (by omega)]
    iintro ⟨Hi, H0, H1, H2, Hw⟩ Hk
    iapply Hk
    isplitl [Hi]; · iexact Hi
    isplitl [H0]; · iexact H0
    isplitl [H1]; · iexact H1
    isplitl [H2]
    · rw [show slotSt (F := F) c ids W ((i 0).val + 2) = idle c ((i 0).val + 2) from if_neg h0]
      iexact H2
    iexact Hw

/-- The third part, run. -/
theorem wp_part3 (k : PUnit.{1} → Prog (TpuEff nD τ sig (Elt F) Λ₀ .tc) PUnit) (Q : PUnit → sProp 𝕄) {O : Waits sig Unit} :
    iprop(scaleSt c SC (i 0).val ∗ owes (c : Thread nD τ) 0 O)
      ⊢ iprop((iprop(scaleHere c SC ∗ ∃ O, owes (c : Thread nD τ) 0 O) -∗ wp frame (wpE (defs₀ (F := F)) 𝒱₀ c none) Set.univ (k ⟨⟩) Q)
        -∗ wp frame (wpE (defs₀ (F := F)) 𝒱₀ c none) Set.univ (part3 i k) Q) := by
  unfold scaleSt part3
  by_cases h0 : (i 0).val = 0
  · rw [if_pos h0, if_pos ((cond3_iff (i 0)).mpr h0)]
    iintro H Hk
    unfold Prog.lift
    rw [wp_bind]
    iapply (wp_scaleWait c SC _ _ _ _) $$ H
    iintro H
    rw [wp_ret]
    imodintro
    iapply Hk
    iexact H
  · rw [if_neg h0, if_neg (fun h => h0 ((cond3_iff (i 0)).mp h))]
    iintro ⟨H, HO⟩ Hk
    iapply Hk
    isplitl [H]; · iexact H
    iexists _
    iexact HO

/-- An element of a step's block, by its token pair, its rows of lanes and its place in the pair's piece. -/
def atPiece {α : Type} (g : ℕ → Fin 7 → S1x8x2x128.Idx → α) (x : S8x56x8x128.Idx) : α :=
  g (8 * (x 0).val + 2 * ((x 2).val / 2)) ⟨(x 1).val / 8, by have : (x 1).val < 56 := (x 1).isLt; omega⟩
    (ValueIdx.ix4 (0 : Fin 1) (⟨(x 1).val % 8, Nat.mod_lt _ (by decide)⟩ : Fin 8) (⟨(x 2).val % 2, Nat.mod_lt _ (by decide)⟩ : Fin 2) (x 3 : Fin 128))

omit [BitOps F] in
theorem atPiece_piece {α : Type} (g : ℕ → Fin 7 → S1x8x2x128.Idx → α) (k : Fin 8) (j : Fin 4) (l : Fin 7) (y : S1x8x2x128.Idx) :
    atPiece g (pieceIdx k j l y) = g (8 * k.val + 2 * j.val) l y := by
  have h1 : (y 1).val < 8 := (y 1).isLt
  have h2 : (y 2).val < 2 := (y 2).isLt
  have e1 : 8 * k.val + 2 * ((2 * j.val + (y 2).val) / 2) = 8 * k.val + 2 * j.val := by omega
  have e2 : (⟨(8 * l.val + (y 1).val) / 8, by omega⟩ : Fin 7) = l := Fin.ext (by show (8 * l.val + (y 1).val) / 8 = l.val; omega)
  have e3 : ValueIdx.ix4 (0 : Fin 1) (⟨(8 * l.val + (y 1).val) % 8, Nat.mod_lt _ (by decide)⟩ : Fin 8)
      (⟨(2 * j.val + (y 2).val) % 2, Nat.mod_lt _ (by decide)⟩ : Fin 2) (y 3 : Fin 128) = y := by
    funext a
    match a with
    | ⟨0, _⟩ => exact Fin.ext (show 0 = (y 0).val by have : (y 0).val < 1 := (y 0).isLt; omega)
    | ⟨1, _⟩ => exact Fin.ext (show (8 * l.val + (y 1).val) % 8 = (y 1).val by omega)
    | ⟨2, _⟩ => exact Fin.ext (show (2 * j.val + (y 2).val) % 2 = (y 2).val by omega)
    | ⟨3, _⟩ => rfl
  show g (8 * k.val + 2 * ((2 * j.val + (y 2).val) / 2)) ⟨(8 * l.val + (y 1).val) / 8, _⟩ _ = _
  rw [e1]
  exact (congrArg (fun q => g _ q _) e2).trans (congrArg (g _ l) e3)

/-- What step `n` leaves in the embeddings' block. -/
def stepEmb (n : ℕ) : S8x56x8x128.Idx → Elt F .bf16 :=
  atPiece fun t l y => embPiece (tokAt ids SC W n t) (tokAt ids SC W n (t + 1)) l y

/-- What it leaves in the normalized block, the weights at `v`. -/
def stepOut (v : S56x128.Idx → Elt F .bf16) (n : ℕ) : S8x56x8x128.Idx → Elt F .bf16 :=
  atPiece fun t l y => outPiece v (tokAt ids SC W n t) (tokAt ids SC W n (t + 1)) l y

omit [BitOps F] in
/-- The weights' block read whole is the block. -/
theorem weights_read (v : View sig .tc .vmem S56x128 .bf16) (f : v.ty.Contents (Elt F)) :
    v.readAt (Elt F) (Rect.unit (s := S56x128) ![0, 0] S56x128.size inb_S56x128_S56x128_0_0).toLoadRect f = v.read (Elt F) f := by
  funext y
  have e : (Rect.unit (s := S56x128) ![0, 0] S56x128.size inb_S56x128_S56x128_0_0).idx y = y := by
    funext a
    match a with
    | ⟨0, _⟩ => exact Fin.ext (show 0 + 1 * (y 0).val = (y 0).val by omega)
    | ⟨1, _⟩ => exact Fin.ext (show 0 + 1 * (y 1).val = (y 1).val by omega)
  exact congrArg (v.read (Elt F) f) e

include hids in
/-- The last part, run. -/
theorem wp_part4 (v : S56x128.Idx → Elt F .bf16) (Xe Xo : S8x56x8x128.Idx → Elt F .bf16) (Q : PUnit → sProp 𝕄) {O : Waits sig Unit} :
    iprop(pt c mIds (ids : Bf F c mIds) ∗ slotSt c ids W (i 0).val ∗ scaleHere c SC ∗ owes (c : Thread nD τ) 0 O
        ∗ owns (c : Thread nD τ) w fullShare v ∗ owns (c : Thread nD τ) o fullShare Xo ∗ owns (c : Thread nD τ) e fullShare Xe)
      ⊢ iprop((iprop(pt c mIds (ids : Bf F c mIds) ∗ idle c (i 0).val ∗ scaleHere c SC ∗ (∃ O, owes (c : Thread nD τ) 0 O)
          ∗ owns (c : Thread nD τ) w fullShare v ∗ owns (c : Thread nD τ) o fullShare (stepOut ids SC W v (i 0).val)
          ∗ owns (c : Thread nD τ) e fullShare (stepEmb ids SC W (i 0).val)) -∗ Q ⟨⟩)
        -∗ wp frame (wpE (defs₀ (F := F)) 𝒱₀ c none) Set.univ (part4 i w hw o ho e he) Q) := by
  iintro ⟨Hi, Hslot, ⟨Hsc, Hss⟩, HO, Hw, Ho, He⟩ Hk
  unfold part4 Prog.lift
  rw [wp_bind]
  iapply (wp_stepWait c ids W (i 0).val (i 0).isLt (k0_off97_inb i) (k0_off98_inb i) (off97_eq i) (off98_eq i) _ _ _ _) $$ [Hslot HO]
  · isplitl [Hslot]; · iexact Hslot
    iexact HO
  iintro ⟨Hp, Hs, HO⟩
  rw [wp_ret, wp_bind]
  imodintro
  unfold owns
  icases Hw with ⟨%fw, %hfw, Hw⟩
  iapply (wp_load 𝒱₀ (c : Thread nD τ) none Set.univ (m := w)
    (r := (Rect.unit (s := S56x128) ![0, 0] S56x128.size inb_S56x128_S56x128_0_0).toLoadRect)
    (q := fullShare) (f := fw) (S := w.view.set) (View.setOn_subset_set _ _)) $$ Hw
  iintro Hw
  rw [wp_ret, wp_bind]
  imodintro
  rw [show w.view.readAt (Elt F) (Rect.unit (s := S56x128) ![0, 0] S56x128.size inb_S56x128_S56x128_0_0).toLoadRect fw = v
    from (weights_read w.view fw).trans hfw]
  iapply (wp_tokens c ids SC W i hids w hw o ho e he (fun x y => y = stepEmb ids SC W (i 0).val x) (fun x y => y = stepOut ids SC W v (i 0).val x) _ _ v
    (fun k j g y => (atPiece_piece (fun t l y => embPiece (tokAt ids SC W (i 0).val t) (tokAt ids SC W (i 0).val (t + 1)) l y) k j g y).symm)
    (fun k j g y => (atPiece_piece (fun t l y => outPiece v (tokAt ids SC W (i 0).val t) (tokAt ids SC W (i 0).val (t + 1)) l y) k j g y).symm) Xe Xo _) $$ [Hi Hsc Hp Ho He]
  · unfold readable owns
    isplitl [Hi Hsc Hp]
    · isplitl [Hi]; · iexact Hi
      isplitl [Hsc]; · iexact Hsc
      iexact Hp
    isplitl [He]; · iexact He
    iexact Ho
  unfold readable owns
  iintro ⟨⟨Hi, Hsc, Hp⟩, ⟨%Ye, %hYe, He⟩, ⟨%Yo, %hYo, Ho⟩⟩
  rw [wp_ret]
  imodintro
  obtain rfl : Ye = stepEmb ids SC W (i 0).val := funext hYe
  obtain rfl : Yo = stepOut ids SC W v (i 0).val := funext hYo
  iapply Hk
  isplitl [Hi]; · iexact Hi
  isplitl [Hp Hs]
  · unfold idle
    iexists (fetched ids W (i 0).val)
    isplitl [Hp]; · iexact Hp
    iexact Hs
  isplitl [Hsc Hss]
  · isplitl [Hsc]; · iexact Hsc
    iexact Hss
  isplitl [HO]; · iexact HO
  isplitl [Hw]
  · iexists fw
    isplitr; · ipureintro; exact hfw
    iexact Hw
  isplitl [Ho]; · iexact Ho
  iexact He

include hids in
/-- The body at one step, run: from the invariant before it to the invariant after it, both results' blocks at what the step leaves in them. -/
theorem wp_body (v : S56x128.Idx → Elt F .bf16) (Xe Xo : S8x56x8x128.Idx → Elt F .bf16) (Q : PUnit → sProp 𝕄) {O : Waits sig Unit} :
    iprop(Inv c ids SC W (i 0).val ∗ owes (c : Thread nD τ) 0 O
        ∗ owns (c : Thread nD τ) w fullShare v ∗ owns (c : Thread nD τ) o fullShare Xo ∗ owns (c : Thread nD τ) e fullShare Xe)
      ⊢ iprop((iprop(Inv c ids SC W ((i 0).val + 1) ∗ (∃ O, owes (c : Thread nD τ) 0 O)
          ∗ owns (c : Thread nD τ) w fullShare v ∗ owns (c : Thread nD τ) o fullShare (stepOut ids SC W v (i 0).val)
          ∗ owns (c : Thread nD τ) e fullShare (stepEmb ids SC W (i 0).val)) -∗ Q ⟨⟩)
        -∗ wp frame (wpE (defs₀ (F := F)) 𝒱₀ c none) Set.univ (cc0_embed_rmsnorm (F := F) i mIds (Memref.isWhole_whole _) mWords (Memref.isWhole_whole _) mScaleSrc (Memref.isWhole_whole _) w hw o ho e he mPool (Memref.isWhole_whole _) mScale (Memref.isWhole_whole _) cc0_scratch2 cc0_scratch3) Q) := by
  rw [body_eq]
  iintro ⟨HI, HO, Hw, Ho, He⟩ Hk
  iapply (wp_part1 c ids SC W i w hw o ho e he hids _ _) $$ HI
  iintro ⟨Hi, Hm, Hsc⟩
  iapply (wp_part2 c ids W i w hw o ho e he hids _ _) $$ [Hi Hm]
  · isplitl [Hi]; · iexact Hi
    iexact Hm
  iintro ⟨Hi, H0, H1, H2, Hww⟩
  iapply (wp_part3 c SC i _ _) $$ [Hsc HO]
  · isplitl [Hsc]; · iexact Hsc
    iexact HO
  iintro ⟨Hsc, ⟨%O, HO⟩⟩
  iapply (wp_part4 c ids SC W i w hw o ho e he hids v Xe Xo _) $$ [Hi H0 Hsc HO Hw Ho He]
  · isplitl [Hi]; · iexact Hi
    isplitl [H0]; · iexact H0
    isplitl [Hsc]; · iexact Hsc
    isplitl [HO]; · iexact HO
    isplitl [Hw]; · iexact Hw
    isplitl [Ho]; · iexact Ho
    iexact He
  iintro ⟨Hi, H0, Hsc, HO, Hw, Ho, He⟩
  iapply Hk
  isplitr [HO Hw Ho He]
  · ihave H0 := (Entails.of_eq (idle_mod (F := F) c (show (i 0).val % 3 = ((i 0).val + 1 + 2) % 3 by omega))) $$ H0
    unfold Inv mid
    rw [if_neg (Nat.succ_ne_zero _)]
    isplitl [Hi]; · iexact Hi
    isplitr [Hsc]
    · isplitl [H1]; · iexact H1
      isplitl [H2]; · iexact H2
      isplitl [H0]; · iexact H0
      iexact Hww
    iexact Hsc
  isplitl [HO]; · iexact HO
  isplitl [Hw]; · iexact Hw
  isplitl [Ho]; · iexact Ho
  iexact He

end Cert.Proof.Kernel
-- ==== Proof.Kernel.Region.lean ====
/- The launch's region: what the pipeline holds between two grid steps, the body at a step, the row buffer cut into its three slots. -/
module

public import proofs.«01_k».proof.Proof.Kernel.Body
public import proofs.«01_k».proof.Proof.Gen.Kernel.Launch
public import Idealize.ShloMosaic.Lib.Pipeline.Regions
public import Idealize.ShloMosaic.Lib.Pipeline.FrameBody

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

open Idealize.ShloMosaic.Pipeline (Dat Cfg Window BodyObligation cellOf)

variable (m : (ℓ : Loc nD τ sig) → Buf (Elt F) ℓ)

/-- The token identifiers as launched. -/
abbrev idsOf : S4x1024.Idx → BitVec 32 := m (((0 : Dev nD) : Thread nD τ).loc main_arg0)

/-- The prefetched table's contents: the identifiers. -/
def adm : (pcfg0 (F := F)).Adm := ⟨fun | 0 => idsOf m | ⟨_ + 1, h⟩ => absurd h (Nat.not_lt.2 (Nat.le_add_left _ _)), trivial⟩

/-- The pipeline at that table. -/
abbrev cfgA : Cfg sig Λ₀ := cfg0 (adm m)

/-- Core `c`'s buffers at launch; -/
abbrev V₀ (c : Dev nD) : Valuation τ sig (Elt F) := fun b => m ((c : Dev nD), b)
/-- and when the region is entered: the five host operations have run. -/
abbrev V (c : Dev nD) (b : Ref sig .tc) : Buf (Elt F) ((c : Thread nD τ).loc b) := StableHlo.after hostOps0 (V₀ m c) b

/-- The region's inputs: the code words and the scales by block column. -/
abbrev wordsOf (c : Dev nD) : S8000x7168.Idx → BitVec 32 := V m c main_v2
abbrev scalesOf (c : Dev nD) : S56x32000.Idx → F .f32 := V m c main_v3

/-- The region's data: the arrays as entered; after a step the weights as fetched and the two blocks the step stores; the
    invariant; nothing owed. -/
def dats (_ : Fin 1) (c : Dev nD) : Dat τ (Elt F) Unit ℕ (UU nD τ) ℕ (cfgA m) c where
  A w := V m c (Pipeline.arrRef spec0 w)
  after w t := match w with
    | ⟨0, _⟩ => (((cfgA m).win 0).blk t).view.read (Elt F) (V m c main_v4)
    | ⟨1, _⟩ => stepOut (idsOf m) (scalesOf m c) (wordsOf m c) (((cfgA m).win 0).blk t |>.view.read (Elt F) (V m c main_v4)) t.val
    | ⟨2, _⟩ => stepEmb (idsOf m) (scalesOf m c) (wordsOf m c) t.val
  Φ t := Inv c (idsOf m) (scalesOf m c) (wordsOf m c) t.val
  q _ := fullShare
  owed _ := 0

theorem A_eq (c : Dev nD) (w : Fin 3) : (dats m 0 c).A w = V m c (Pipeline.arrRef spec0 w) := by
  dsimp only [dats]

/-- The weights' buffer holds the weights whenever the body runs. -/
theorem before_in (c : Dev nD) (t : Fin (cfgA m).N) (d : ((cfgA m).win 0).block.Idx → Elt F ((cfgA m).win 0).elt) :
    (dats m 0 c).before 0 t d = (((cfgA m).win 0).blk t).view.read (Elt F) (V m c main_v4) := by
  rw [(dats m 0 c).before_in_eq_fetched 0 rfl (fun _ => rfl) (fun _ _ _ => rfl)
    (fun t => by unfold Dat.blockOf; dsimp only [dats]; rfl) t d]
  unfold Dat.fetched Dat.blockOf; dsimp only [dats]; rfl

theorem coord0 : ∀ t : Fin grid0.N, (grid0.coords t 0).val = t.val := by decide

theorem defs_tc : (defs₀ (F := F)) .tc (cfgA m).body
    = fun a : Fin grid0.N × ((w : Fin 3) → Fin (spec0 w).nbuf) => cc0_embed_rmsnorm (F := F) (grid0.coords a.1) mIds (Memref.isWhole_whole _) mWords (Memref.isWhole_whole _) mScaleSrc (Memref.isWhole_whole _) (spec0_0.stage (a.2 0)) (hstage0_0 ((a.2 0).cast nbuf0_0)) (spec0_1.stage (a.2 1)) (hstage0_1 ((a.2 1).cast nbuf0_1)) (spec0_2.stage (a.2 2)) (hstage0_2 ((a.2 2).cast nbuf0_2)) mPool (Memref.isWhole_whole _) mScale (Memref.isWhole_whole _) cc0_scratch2 cc0_scratch3 := rfl

/-- The body at step `t`, on its staging buffers. -/
theorem prog_eq (t : Fin (cfgA m).N) : (defs₀ (F := F)) .tc (cfgA m).body ((cfgA m).bodyArgs t ((cfgA m).slots t))
    = cc0_embed_rmsnorm (F := F) (grid0.coords t) mIds (Memref.isWhole_whole _) mWords (Memref.isWhole_whole _) mScaleSrc (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) mPool (Memref.isWhole_whole _) mScale (Memref.isWhole_whole _) cc0_scratch2 cc0_scratch3 :=
  (congrFun (defs_tc m) _).trans rfl

variable (hids : ∀ x, (idsOf m x).toNat < 32000)

include hids in
set_option backward.isDefEq.respectTransparency.types false in
/-- The body takes the invariant from step to step. -/
theorem body_obligation (c : Dev nD) : BodyObligation (dats m 0 c) (defs₀ (F := F)) 𝒱₀ () Set.univ := fun t => by
  rw [bigSep_W0, bigSep_W0]
  dsimp only
  simp only [before_in]
  rw [show (dats m 0 c).Φ t.castSucc = Inv c (idsOf m) (scalesOf m c) (wordsOf m c) (grid0.coords t 0).val from by rw [coord0]; rfl,
    show (dats m 0 c).Φ t.succ = Inv c (idsOf m) (scalesOf m c) (wordsOf m c) ((grid0.coords t 0).val + 1) from by rw [coord0]; rfl,
    show (dats m 0 c).after 1 t = stepOut (idsOf m) (scalesOf m c) (wordsOf m c) (((cfgA m).win 0).blk t |>.view.read (Elt F) (V m c main_v4)) (grid0.coords t 0).val from by rw [coord0]; rfl,
    show (dats m 0 c).after 2 t = stepEmb (idsOf m) (scalesOf m c) (wordsOf m c) (grid0.coords t 0).val from by rw [coord0]; rfl,
    show (dats m 0 c).after 0 t = (((cfgA m).win 0).blk t).view.read (Elt F) (V m c main_v4) from rfl]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩⟩
  sl_rw [prog_eq m t]
  iapply (wp_body c (idsOf m) (scalesOf m c) (wordsOf m c) (grid0.coords t) _ _ _ _ _ _ hids (((cfgA m).win 0).blk t |>.view.read (Elt F) (V m c main_v4)) _ _ _ (O := W)) $$ [HI HW H0 H1 H2]
  · isplitl [HI]; · iexact HI
    isplitl [HW]; · iexact HW
    isplitl [H0]; · iexact H0
    isplitl [H1]; · iexact H1
    iexact H2
  iintro ⟨HI, ⟨%W', HW⟩, H0, H1, H2⟩
  isplitl [HI]; · iexact HI
  isplitl [HW]
  · iexists W'; isplitr; · ipureintro; exact fun _ _ => Or.inl trivial
    iexact HW
  isplitl [H0]; · iexact H0
  isplitl [H1]; · iexact H1
  iexact H2

/-! ## The row buffer and its slots -/

/-- The kernel's own semaphores. -/
abbrev osem : Fin 4 → SemLoc sig := ![stepSem 0, stepSem 1, stepSem 2, scaleSem]

theorem ownSemFacts : Pipeline.OwnSemFacts spec0 osem := by decide

/-- They at zero, one by one. -/
theorem ownSems0_eq (c : Dev nD) :
    (Pipeline.ownSems0 (Ix := Unit) (Name := ℕ) (U := UU nD τ) (Lvl := ℕ) (Val := Elt F) (τ := τ) osem c : sProp 𝕄)
      = iprop(semVal ((c : Thread nD τ), stepSem 0) 0 ∗ semVal ((c : Thread nD τ), stepSem 1) 0 ∗ semVal ((c : Thread nD τ), stepSem 2) 0
          ∗ semVal ((c : Thread nD τ), scaleSem) 0) :=
  Pipeline.ownSems0_eq_of_list c osem [0, 1, 2, 3] (by decide) (by decide)

theorem pool_slots : (Finset.univ : Finset S3x64x1x7168.Idx) = Finset.univ.biUnion (fun s : Fin 3 => slotSet s.val) := by
  ext x
  simp only [slotSet, Finset.mem_filter, Finset.mem_univ, true_and, Finset.mem_biUnion, true_iff]
  exact ⟨x 0, rfl⟩

theorem slots_disj : ∀ s ∈ (Finset.univ : Finset (Fin 3)), ∀ s' ∈ (Finset.univ : Finset (Fin 3)), s ≠ s' → Disjoint (slotSet s.val) (slotSet s'.val) := by
  intro s _ s' _ h
  refine Finset.disjoint_left.mpr fun x hx hx' => h (Fin.ext ?_)
  simp only [slotSet, Finset.mem_filter, Finset.mem_univ, true_and] at hx hx'
  exact hx.symm.trans hx'

/-- The row buffer held whole, its semaphores at zero: three slots at rest. -/
theorem pool_cut (c : Dev nD) (f : Bf F c mPool) :
    iprop(pt c mPool f ∗ semVal ((c : Thread nD τ), stepSem 0) 0 ∗ semVal ((c : Thread nD τ), stepSem 1) 0 ∗ semVal ((c : Thread nD τ), stepSem 2) 0)
      ⊢ (iprop(idle c 0 ∗ idle c 1 ∗ idle c 2) : sProp 𝕄) := by
  have h : (pt c mPool f : sProp 𝕄) = bigSep Finset.univ (fun s : Fin 3 => mPool.view.loc (c : Thread nD τ) ↦[slotSet s.val]{fullShare} f) :=
    (congrArg (fun K => (mPool.view.loc (c : Thread nD τ) ↦[K]{fullShare} f : sProp 𝕄)) pool_slots).trans
      (pointsTo_biUnion (ℓ := mPool.view.loc (c : Thread nD τ)) Finset.univ (fun s : Fin 3 => slotSet s.val) slots_disj)
  rw [h, bigSep_W0]
  unfold idle
  iintro ⟨⟨H0, H1, H2⟩, S0, S1, S2⟩
  isplitl [H0 S0]; · iexists f; isplitl [H0]; · iexact H0
                     iexact S0
  isplitl [H1 S1]; · iexists f; isplitl [H1]; · iexact H1
                     iexact S1
  iexists f; isplitl [H2]; · iexact H2
  iexact S2

/-- And back. -/
theorem pool_whole (c : Dev nD) :
    (iprop(idle c 0 ∗ idle c 1 ∗ idle c 2) : sProp 𝕄)
      ⊢ iprop((∃ f : Bf F c mPool, pt c mPool f) ∗ semVal ((c : Thread nD τ), stepSem 0) 0 ∗ semVal ((c : Thread nD τ), stepSem 1) 0 ∗ semVal ((c : Thread nD τ), stepSem 2) 0) := by
  unfold idle
  iintro ⟨⟨%f0, H0, S0⟩, ⟨%f1, H1, S1⟩, ⟨%f2, H2, S2⟩⟩
  isplitl [H0 H1 H2]
  · ihave H := (pointsTo_biUnion_join (ℓ := mPool.view.loc (c : Thread nD τ)) (q := fullShare) Finset.univ (fun s : Fin 3 => slotSet s.val) (![f0, f1, f2] : Fin 3 → Bf F c mPool) f0 slots_disj) $$ [H0 H1 H2]
    · rw [bigSep_W0]
      isplitl [H0]; · iexact H0
      isplitl [H1]; · iexact H1
      iexact H2
    icases H with ⟨%g, -, H⟩
    iexists g
    iapply (show (mPool.view.loc (c : Thread nD τ) ↦[Finset.univ.biUnion (fun s : Fin 3 => slotSet s.val)]{fullShare} g : sProp 𝕄) ⊢ pt c mPool g from
      Entails.of_eq (congrArg (fun K => (mPool.view.loc (c : Thread nD τ) ↦[K]{fullShare} g : sProp 𝕄)) pool_slots.symm)) $$ H
  isplitl [S0]; · iexact S0
  isplitl [S1]; · iexact S1
  iexact S2

end Cert.Proof.Kernel

end
-- ==== Proof.Kernel.Run.lean ====
/- The launch: the host operations before the region, the region, the host operations after it, and what the run leaves. -/
module

public import proofs.«01_k».proof.Proof.Kernel.Region

@[expose] public section

noncomputable section

namespace Cert.Proof.Kernel

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

open Idealize.ShloMosaic.Rounds
open Idealize.ShloMosaic.Pipeline (Dat Cfg Window BodyObligation cellOf ucRefs)

/-- The pipeline library's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-- No host operation before the region writes an argument. -/
theorem not_written (b : Ref sig .tc) (hb : b ≠ main_v0 ∧ b ≠ main_v1 ∧ b ≠ main_v2 ∧ b ≠ main_v3 ∧ b ≠ main_v4) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

/-- Nor does one after it. -/
theorem not_written' (b : Ref sig .tc) (hb : b ≠ main_v6 ∧ b ≠ main_v7 ∧ b ≠ main_v8 ∧ b ≠ main_v9) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- The references the host operations after the region run within, and the arguments. -/
abbrev tailList : List (Ref sig .tc) :=
  [main_arg0, main_arg1, main_arg2, main_arg3, main_v5_0, main_v5_1, main_v6, main_v7, main_v8, main_v9]
abbrev tailRefs : Finset (DevRef τ sig) := tailList.toFinset.map ⟨Proc.devRef .tc, Proc.devRef_injective _⟩

/-- A result array's contents after the region. -/
abbrev outArr (c : Dev nD) : S512x56x8x128.Idx → F .bf16 := (dats m 0 c).arrAt 1 (cfgA m).N
abbrev embArr (c : Dev nD) : S512x56x8x128.Idx → F .bf16 := (dats m 0 c).arrAt 2 (cfgA m).N

/-- The buffers as the region leaves them. -/
def V₁ (c : Dev nD) : Valuation τ sig (Elt F) :=
  Function.update (Function.update (StableHlo.after hostOps0 (V₀ m c)) (Proc.devRef .tc main_v5_0) (outArr m c)) (Proc.devRef .tc main_v5_1) (embArr m c)

/-- A buffer the region's pipeline does not write back is as the region found it. -/
theorem V₁_other (c : Dev nD) (b : Ref sig .tc) (h0 : b ≠ main_v5_0) (h1 : b ≠ main_v5_1) : V₁ m c (Proc.devRef .tc b) = V m c b := by
  unfold V₁
  rw [Function.update_of_ne (StableHlo.devRef_ne_of_ne h1), Function.update_of_ne (StableHlo.devRef_ne_of_ne h0)]

theorem V₁_out (c : Dev nD) : V₁ m c (Proc.devRef .tc main_v5_0) = outArr m c := by
  unfold V₁
  rw [Function.update_of_ne (StableHlo.devRef_ne_of_ne (by decide)), Function.update_self]

theorem V₁_emb (c : Dev nD) : V₁ m c (Proc.devRef .tc main_v5_1) = embArr m c := by
  unfold V₁
  rw [Function.update_self]

/-- The tail's buffers, one by one. -/
theorem held_tail (c : Dev nD) (X : Valuation τ sig (Elt F)) :
    (StableHlo.held (c : Thread nD τ) tailRefs X : sProp 𝕄)
      = iprop((((c : Thread nD τ).loc main_arg0) ↦{fullShare} X main_arg0) ∗ (((c : Thread nD τ).loc main_arg1) ↦{fullShare} X main_arg1)
        ∗ (((c : Thread nD τ).loc main_arg2) ↦{fullShare} X main_arg2) ∗ (((c : Thread nD τ).loc main_arg3) ↦{fullShare} X main_arg3)
        ∗ (((c : Thread nD τ).loc main_v5_0) ↦{fullShare} X main_v5_0) ∗ (((c : Thread nD τ).loc main_v5_1) ↦{fullShare} X main_v5_1)
        ∗ (((c : Thread nD τ).loc main_v6) ↦{fullShare} X main_v6) ∗ (((c : Thread nD τ).loc main_v7) ↦{fullShare} X main_v7)
        ∗ (((c : Thread nD τ).loc main_v8) ↦{fullShare} X main_v8) ∗ (((c : Thread nD τ).loc main_v9) ↦{fullShare} X main_v9)) := by
  unfold StableHlo.held tailRefs
  rw [bigSep_map, bigSep_eq_bigSepL_of_eq tailList (by decide) (by decide)]
  rfl

/-- The prefetched table, held. -/
theorem prefHeld_one (c : Dev nD) (q : Fin 1 → PosShare TreeShare) (v : pre0.Contents (Elt F)) :
    (Pipeline.prefHeld pre0 c q v : sProp 𝕄)
      = (((c : Thread nD τ).loc main_arg0) ↦{q 0} (show Buf (Elt F) ((c : Thread nD τ).loc main_arg0) from v 0)) := by
  unfold Pipeline.prefHeld
  rw [show (Finset.univ : Finset (Fin 1)) = {0} from by decide, bigSep_singleton]
  rfl

/-- The arguments reach the region as launched. -/
theorem V_arg (c : Dev nD) (b : Ref sig .tc) (hb : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) hostOps0 (V₀ m c) (not_written b hb)

/-- The results: the two arrays, their axes put in order. -/
abbrev res (c : Dev nD) (b : Ref sig .tc) : Buf (Elt F) ((c : Thread nD τ).loc b) := StableHlo.after hostOps1 (V₁ m c) b

/-- And the end. -/
theorem res_arg (c : Dev nD) (b : Ref sig .tc) (hb : b ≠ main_v0 ∧ b ≠ main_v1 ∧ b ≠ main_v2 ∧ b ≠ main_v3 ∧ b ≠ main_v4)
    (hb' : b ≠ main_v6 ∧ b ≠ main_v7 ∧ b ≠ main_v8 ∧ b ≠ main_v9) (h0 : b ≠ main_v5_0) (h1 : b ≠ main_v5_1) :
    res m c b = m ((c : Thread nD τ).loc b) :=
  (StableHlo.after_of_forall_not_mem (b := Proc.devRef .tc b) hostOps1 (V₁ m c) (not_written' b hb')).trans
    ((V₁_other m c b h0 h1).trans (V_arg m c b hb))

/-! ## The segments -/

/-- No core owes another anything. -/
abbrev L : GSem nD τ sig → Finset Unit := fun _ => ∅
abbrev lv : GSem nD τ sig → Unit → ℕ := fun _ _ => 0

/-- What rides beside the buffers. -/
abbrev R (c : Dev nD) : sProp 𝕄 := iprop(∃ W, owes (c : Thread nD τ) (0 : CellTallies nD τ sig Unit) W)

/-- The five operations before the region. -/
def seg0 : Pipeline.HostSeg (Name := ℕ) (U := UU nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m) R

theorem tail_sub : ∀ op ∈ (hostOps1 (F := F)), op.bufs ⊆ tailRefs := by
  intro op hop
  simp only [List.mem_cons, List.mem_nil_iff, or_false] at hop
  rcases hop with rfl | rfl | rfl | rfl <;>
    simp only [StableHlo.unary_bufs, StableHlo.reshape_bufs] <;> decide

/-- The four after it. -/
def seg1 : Pipeline.HostSeg (Name := ℕ) (U := UU nD τ) (pcfgs (F := F)) defs₀ 𝒱₀ L lv :=
  Pipeline.HostSeg.ofOps _ _ _ _ _ tailRefs hostOps1
    tail_sub
    (by intro _ h; (repeat (cases h with | head => rfl | tail _ h => ?_)); exact nomatch h) (V₁ m) R

variable (hids : ∀ x, (idsOf m x).toNat < 32000)

/-- What enters the invariant: the kernel's semaphores at zero, the words and the scales. -/
abbrev X (c : Dev nD) : sProp 𝕄 :=
  iprop((semVal ((c : Thread nD τ), stepSem 0) 0 ∗ semVal ((c : Thread nD τ), stepSem 1) 0 ∗ semVal ((c : Thread nD τ), stepSem 2) 0
      ∗ semVal ((c : Thread nD τ), scaleSem) 0)
    ∗ pt c mWords (wordsOf m c : Bf F c mWords) ∗ pt c mScaleSrc (scalesOf m c : Bf F c mScaleSrc))

/-- What bypasses the region. -/
abbrev Z (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg3) ↦{fullShare} V m c main_arg3)
    ∗ (((c : Thread nD τ).loc main_v6) ↦{fullShare} V m c main_v6) ∗ (((c : Thread nD τ).loc main_v7) ↦{fullShare} V m c main_v7)
    ∗ (((c : Thread nD τ).loc main_v8) ↦{fullShare} V m c main_v8) ∗ (((c : Thread nD τ).loc main_v9) ↦{fullShare} V m c main_v9))

set_option backward.isDefEq.respectTransparency.types false in
/-- The unscoped buffers at the region's entry: its arrays, its table, the words and the scales, and the rest. -/
theorem entry_split (c : Dev nD) :
    (StableHlo.held (c : Thread nD τ) (ucRefs τ sig) (StableHlo.after hostOps0 (V₀ m c)) : sProp 𝕄)
      ⊢ iprop((dats m 0 c).arrays ((dats m 0 c).arrAt · 0) ∗ Pipeline.prefHeld pre0 c (fun _ => fullShare) (adm m).1
        ∗ (pt c mWords (wordsOf m c : Bf F c mWords) ∗ pt c mScaleSrc (scalesOf m c : Bf F c mScaleSrc)) ∗ Z m c) := by
  have hc : c = 0 := Subsingleton.elim _ _
  subst hc
  rw [show (StableHlo.held ((0 : Dev nD) : Thread nD τ) (ucRefs τ sig) (StableHlo.after hostOps0 (V₀ m 0)) : sProp 𝕄) = unscopedBufs 0 (V m 0) from
    (Pipeline.unscopedBufs_held (c := (0 : Dev nD)) _).symm]
  have hsplit := (Pipeline.arrays_of_unscopedBufs (pcfgs (F := F)) (fun _ => adm m) (dats m) (p := 0) (launch0 (F := F)).win (launch0 (F := F)).arr_whole (0 : Dev nD)
      ((dats m 0 0).share_full fun _ => rfl) (V m 0) (A_eq m 0)).trans
    (sep_mono .rfl ((Entails.of_eq (Pipeline.unscopedRest_split (launch0 (F := F)).pre (0 : Dev nD) (V m 0))).trans (sep_mono .rfl (Entails.of_eq (unscopedRestP0_eq 0 (V m 0))))))
  refine hsplit.trans ?_
  have ht : (Pipeline.prefHeld pre0 (0 : Dev nD) (fun _ => fullShare) (fun k => V m 0 (pre0.ref k)) : sProp 𝕄) = Pipeline.prefHeld pre0 0 (fun _ => fullShare) (adm m).1 := by
    rw [prefHeld_one, prefHeld_one]
    exact congrArg (fun f => ((((0 : Dev nD) : Thread nD τ).loc main_arg0) ↦{fullShare} f : sProp 𝕄)) (V_arg m 0 main_arg0 (by decide))
  iintro ⟨Ha, Hp, H1, H2, H3, -, -, Hw, Hs, H6, H7, H8, H9⟩
  isplitl [Ha]; · iexact Ha
  isplitl [Hp]
  · iapply (Entails.of_eq ht) $$ Hp
  isplitl [Hw Hs]
  · isplitl [Hw]; · iexact Hw
    iexact Hs
  isplitl [H1]; · iexact H1
  isplitl [H2]; · iexact H2
  isplitl [H3]; · iexact H3
  isplitl [H6]; · iexact H6
  isplitl [H7]; · iexact H7
  isplitl [H8]; · iexact H8
  iexact H9

/-- The invariant before the first step. -/
theorem enter (c : Dev nD) :
    (iprop(X m c ∗ Pipeline.prefHeld pre0 c (fun _ => fullShare) (adm m).1 ∗ Pipeline.scopedRest spec0 c) : sProp 𝕄)
      ⊢ Inv c (idsOf m) (scalesOf m c) (wordsOf m c) 0 := by
  rw [prefHeld_one, scopedRest0_eq]
  unfold Inv fresh
  rw [if_pos rfl]
  iintro ⟨⟨⟨S0, S1, S2, S3⟩, HW, HS⟩, HI, ⟨%f, Hp⟩, Hc⟩
  isplitl [HI]; · iexact HI
  ihave HP := (pool_cut c f) $$ [Hp S0 S1 S2]
  · isplitl [Hp]; · iexact Hp
    isplitl [S0]; · iexact S0
    isplitl [S1]; · iexact S1
    iexact S2
  icases HP with ⟨H0, H1, H2⟩
  isplitl [H0 H1 H2 HW]
  · isplitl [H0]; · iexact H0
    isplitl [H1]; · iexact H1
    isplitl [H2]; · iexact H2
    iexact HW
  isplitl [Hc]; · iexact Hc
  isplitl [S3]; · iexact S3
  iexact HS

/-- The invariant after the last step. -/
theorem leave (c : Dev nD) :
    Inv c (idsOf m) (scalesOf m c) (wordsOf m c) 64
      ⊢ (iprop(pt c mIds (idsOf m : Bf F c mIds) ∗ Pipeline.ownSems0 osem c ∗ Pipeline.scopedRest spec0 c) : sProp 𝕄) := by
  rw [ownSems0_eq, scopedRest0_eq]
  unfold Inv mid slotSt
  rw [if_neg (by decide), if_neg (by decide), if_neg (by decide), idle_mod c (m := 64) (m' := 1) rfl, idle_mod c (m := 64 + 1) (m' := 2) rfl,
    idle_mod c (m := 64 + 2) (m' := 0) rfl]
  iintro ⟨HI, ⟨H1, H2, H0, -⟩, HS, S3⟩
  ihave HP := (pool_whole c) $$ [H0 H1 H2]
  · isplitl [H0]; · iexact H0
    isplitl [H1]; · iexact H1
    iexact H2
  icases HP with ⟨Hp, S0, S1, S2⟩
  isplitl [HI]; · iexact HI
  isplitl [S0 S1 S2 S3]
  · isplitl [S0]; · iexact S0
    isplitl [S1]; · iexact S1
    isplitl [S2]; · iexact S2
    iexact S3
  isplitl [Hp]; · iexact Hp
  iexists _; iexact HS

set_option backward.isDefEq.respectTransparency.types false in
/-- The buffers the operations after the region run within, as the region leaves them. -/
theorem exit_join (c : Dev nD) :
    iprop((dats m 0 c).arrays ((dats m 0 c).arrAt · (cfgA m).N) ∗ pt c mIds (idsOf m : Bf F c mIds) ∗ Z m c)
      ⊢ (StableHlo.held (c : Thread nD τ) tailRefs (V₁ m c) : sProp 𝕄) := by
  have hc : c = 0 := Subsingleton.elim _ _
  subst hc
  rw [held_tail, V₁_out, V₁_emb, V₁_other m 0 main_arg0 (by decide) (by decide), V₁_other m 0 main_arg1 (by decide) (by decide),
    V₁_other m 0 main_arg2 (by decide) (by decide), V₁_other m 0 main_arg3 (by decide) (by decide), V₁_other m 0 main_v6 (by decide) (by decide),
    V₁_other m 0 main_v7 (by decide) (by decide), V₁_other m 0 main_v8 (by decide) (by decide), V₁_other m 0 main_v9 (by decide) (by decide),
    V_arg m 0 main_arg0 (by decide),
    show (dats m 0 0).arrays ((dats m 0 0).arrAt · (cfgA m).N) = bigSep Finset.univ (fun w : Fin 3 => ((((0 : Dev nD) : Thread nD τ).loc (Pipeline.arrRef spec0 w)) ↦{fullShare} (dats m 0 0).arrAt w (cfgA m).N : sProp 𝕄)) from
      Pipeline.arrays_eq (Pipeline.pin (pcfgs (F := F)) fun _ => adm m) (dats m) 0 (0 : Dev nD) (launch0 (F := F)).arr_whole ((dats m 0 0).share_full fun _ => rfl) _,
    bigSep_W0]
  iintro ⟨⟨-, Ho, He⟩, HI, H1, H2, H3, H6, H7, H8, H9⟩
  isplitl [HI]; · iexact HI
  isplitl [H1]; · iexact H1
  isplitl [H2]; · iexact H2
  isplitl [H3]; · iexact H3
  isplitl [Ho]; · iexact Ho
  isplitl [He]; · iexact He
  isplitl [H6]; · iexact H6
  isplitl [H7]; · iexact H7
  isplitl [H8]; · iexact H8
  iexact H9

set_option backward.isDefEq.respectTransparency.types false in
/-- The region. -/
def reg0 : Pipeline.RegionSeg (pcfgs (F := F)) (fun _ => adm m) (dats m) () defs₀ 𝒱₀ L lv 0 where
  win := (launch0 (F := F)).win.to₀
  block_pos := (launch0 (F := F)).block_pos
  stage_whole := (launch0 (F := F)).stage_whole
  K := Fin 4
  osem := osem
  ho := ownSemFacts
  hbody c := (body_obligation m hids c).loose
  hwaits := Pipeline.hwaits_of_owed_zero _ _ _ _ L lv 0 fun _ _ => rfl
  pre c := iprop(StableHlo.held (c : Thread nD τ) (ucRefs τ sig) (StableHlo.after hostOps0 (V₀ m c)) ∗ R c)
  post c := iprop(StableHlo.held (c : Thread nD τ) tailRefs (V₁ m c) ∗ R c)
  X c := X m c
  Y c := pt c mIds (idsOf m : Bf F c mIds)
  Z c := Z m c
  hentry c := by
    rw [ownSems0_eq]
    iintro ⟨⟨Hub, HO⟩, Hos, -⟩
    ihave H := (entry_split m c) $$ Hub
    icases H with ⟨Ha, Hp, HX, HZ⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hos HX]
    · isplitl [Hos]; · iexact Hos
      iexact HX
    iexact HZ
  hin c := enter m c
  hout c := leave m c
  hexit c := by
    iintro ⟨Ha, HO, HY, HZ⟩
    imodintro
    isplitr [HO]
    · iapply (exit_join m c)
      isplitl [Ha]; · iexact Ha
      isplitl [HY]; · iexact HY
      iexact HZ
    · unfold Pipeline.Dat.owesAt Pipeline.owesWithin
      icases HO with ⟨%W, -, HO⟩; iexists W; iexact HO

/-- The three in order. -/
abbrev segs : List (Pipeline.Seg (pcfgs (F := F)) (fun _ => adm m) (dats m) () defs₀ 𝒱₀ L lv) := [.host (seg0 m), .region (reg0 m hids), .host (seg1 m)]

/-- The launch's element of the algebra. -/
def u₀ : UU nD τ :=
  (initOf (Pipeline.cells (Pipeline.pin (pcfgs (F := F)) fun _ => adm m) (cellOf_inj fun _ => adm m))
    (Pipeline.launchToks (Pipeline.pin (pcfgs (F := F)) fun _ => adm m) (cellOf_inj fun _ => adm m)), 1)

/-- What the run leaves on core `c`: the arguments as launched, the two results. -/
def QC (c : Dev nD) (s : MemSt nD τ sig (Elt F)) : Prop :=
  (s.mem ((c : Thread nD τ).loc main_v7) = res m c main_v7 ∧ s.mem ((c : Thread nD τ).loc main_v9) = res m c main_v9)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

set_option backward.isDefEq.respectTransparency.types false in
include hids in
/-- From any memory whose identifiers are below 32000 and whose counters are zero, every run ends, the arguments as launched,
    the results at `res`, every counter at zero. -/
theorem run_main : θ_run defs (onTc (τ := τ) (main (F := F))) ⟨m, fun _ => 0, ρ⟩ (fun r => (∀ c, QC m c r.2) ∧ r.2.sem = fun _ => 0) :=
  Pipeline.θ_run_regions_kit_sems (pcfgs (F := F)) (fun _ => adm m) (dats m) () (cellOf_inj fun _ => adm m) EP defs₀ 𝒱₀ L lv m ρ main (segs m hids)
    (fun c Q => by rw [main_segs (fun _ => adm m) (dats m) () 𝒱₀ L lv (seg0 m) (seg1 m) (reg0 m hids) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) tailRefs (StableHlo.after hostOps1 (V₁ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held (c := c) (V₀ m c)]
      iintro ⟨⟨Hh, -, HO, -, -, -⟩, -⟩
      imodintro
      isplitl [Hh]; · iexact Hh
      iexists ∅; iexact HO)
    (QY := QC m)
    (hfin := fun c s' => by
      rw [held_tail]
      unfold QC
      rw [← res_arg m c main_arg0 (by decide) (by decide) (by decide) (by decide), ← res_arg m c main_arg1 (by decide) (by decide) (by decide) (by decide),
        ← res_arg m c main_arg2 (by decide) (by decide) (by decide) (by decide), ← res_arg m c main_arg3 (by decide) (by decide) (by decide) (by decide)]
      iintro ⟨⟨H0, H1, H2, H3, -, -, -, H7, -, H9⟩, HSI⟩
      icombine HSI H0 gives %h0
      icombine HSI H1 gives %h1
      icombine HSI H2 gives %h2
      icombine HSI H3 gives %h3
      icombine HSI H7 gives %h7
      icombine HSI H9 gives %h9
      imodintro
      isplitr
      · ipureintro
        exact ⟨⟨Buf.eq_of_forall_mem_univ h7, Buf.eq_of_forall_mem_univ h9⟩, Buf.eq_of_forall_mem_univ h0, Buf.eq_of_forall_mem_univ h1,
          Buf.eq_of_forall_mem_univ h2, Buf.eq_of_forall_mem_univ h3⟩
      iexact HSI)
    (hQ := fun _ h hz => ⟨h, funext fun g => hz g (.inr (by revert g; decide))⟩)

end Cert.Proof.Kernel

end
-- ==== Proof.KernelIdeal.Fetch.lean ====
/- One row fetch of the kernel: the program's text, what is held before and after it. -/
module

public import Idealize.ShloMosaic.Lib.ValueIdxCore
public import proofs.«01_k».proof.Proof.Rows
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the pipeline library's, beside the counters the transfers take their tokens from. -/
abbrev UU (nD : Nat) (τ : Topo) : Type := UR sig nD τ × Counters
abbrev 𝒱₀ : Variants := Variants.none

local notation "𝕄" => MT nD τ sig Unit (Elt F) ℕ (UU nD τ) ℕ

/-- Where the counters sit in the algebra. -/
abbrev EC : UEmb Counters (MT nD τ sig Unit (Elt F) ℕ (UU nD τ) ℕ) := countersEmb

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The token table, the code words, the row buffer and its semaphores. -/
abbrev mIds : Memref sig .tc .smem S4x1024 .i32 := Memref.whole main_arg0
abbrev mWords : Memref sig .tc .hbm S8000x7168 .i32 := Memref.whole main_v2
abbrev mPool : Memref sig .tc .vmem S3x64x1x7168 .i32 := Memref.whole cc0_scratch0

/-- Token `t` of step `m`: its identifier, read off the table. -/
def idAt (ids : S4x1024.Idx → BitVec 32) (m : ℕ) (t : ℕ) : BitVec 32 :=
  ids (ValueIdx.ix2 (⟨m / 16 % 4, Nat.mod_lt _ (by decide)⟩ : Fin 4) (⟨(m % 16 * 64 + t) % 1024, Nat.mod_lt _ (by decide)⟩ : Fin 1024))

/-- The rows of the row buffer that slot `s` and token `t` name. -/
def rowSet (s t : ℕ) : Finset S3x64x1x7168.Idx := Finset.univ.filter fun x => (x 0).val = s ∧ (x 1).val = t
/-- The rows of slot `s`. -/
def slotSet (s : ℕ) : Finset S3x64x1x7168.Idx := Finset.univ.filter fun x => (x 0).val = s

/-- What step `m` fetches: row `t` of its slot is the row of words that holds the codes of token `t`. -/
def fetched (ids : S4x1024.Idx → BitVec 32) (W : S8000x7168.Idx → BitVec 32) (m : ℕ) : S3x64x1x7168.Idx → BitVec 32 := fun x =>
  W (ValueIdx.ix2 (⟨(idAt ids m (x 1).val >>> 2).toNat % 8000, Nat.mod_lt _ (by decide)⟩ : Fin 8000) (x 3))

/-- The text of one fetch: read the identifier, check that its row lies in the words, start the copy of the row. -/
def fetchOne (o1 : Fin 2 → ℕ) (h1 : ∀ a, o1 a + S1x1.size a ≤ S4x1024.size a) (o2 : Fin 1 → ℕ) (h2 : ∀ a, o2 a + S1.size a ≤ S3.size a)
    (o3 : Fin 4 → ℕ) (h3 : ∀ a, o3 a + S1x1x1x7168.size a ≤ S3x64x1x7168.size a)
    (o4 : BitVec 32 → Fin 2 → ℕ) (chk : BitVec 32 → Prop) (dec : ∀ v, Decidable (chk v))
    (h4 : ∀ v, chk v → ∀ a, o4 v a + S1x7168.size a ≤ S8000x7168.size a) :
    Prog (TpuEff nD τ sig (Elt F) Λ₀ .tc) PUnit := do
  let v : Elt F .i32 ← smemLoad mIds (Rect.unit (s := S4x1024) o1 S1x1.size h1) numel1_S1x1 rfl
  have hw : chk v := (← Prog.lift (TpuEff.assume (chk v) (dec v))).down
  Prog.lift (.enqueueDma (mWords.slice (Rect.unit (s := S8000x7168) (o4 v) S1x7168.size (h4 v hw)) (fun _ => rfl))
    (.here ((mPool.slice (Rect.unit (s := S3x64x1x7168) o3 S1x1x1x7168.size h3) (fun _ => rfl)).squeeze S1x7168 squeezes_S1x1x1x7168_S1x7168))
    (.dma ((cc0_scratch2.slice (Rect.unit (s := S3) o2 S1.size h2)).squeeze S_ squeezes_S1_S_).sem)
    (View.wordExact_bits rfl) ((View.wordExact_bits rfl).reshape _ _) ⟨Or.inl rfl, trivial⟩)

/-- The semaphore of slot `s`. -/
abbrev rowSem (s : ℕ) (h : ∀ a, (![s] : Fin 1 → ℕ) a + S1.size a ≤ S3.size a) : SemLoc sig :=
  .dma ((cc0_scratch2.slice (Rect.unit (s := S3) ![s] S1.size h)).squeeze S_ squeezes_S1_S_).sem

theorem slot_inb (m : ℕ) : ∀ a, (![m % 3] : Fin 1 → ℕ) a + S1.size a ≤ S3.size a := fun
  | 0 => by show m % 3 + 1 ≤ 3; omega

/-- The semaphore of step `m`'s slot. -/
abbrev stepSem (m : ℕ) : SemLoc sig := rowSem (m % 3) (slot_inb m)

/-- The units one row's copy signals. -/
abbrev rowUnits : ℕ := (((mPool.slice (Rect.unit (s := S3x64x1x7168) ![0, 0, 0, 0] S1x1x1x7168.size (by decide)) (fun _ => rfl)).squeeze S1x7168 squeezes_S1x1x1x7168_S1x7168).view).amount (stepSem 0)

variable (c : Dev nD) (ids : S4x1024.Idx → BitVec 32) (W : S8000x7168.Idx → BitVec 32)

/-- What the copy of step `m`, token `t` delivers: that row, fetched. -/
def rowD (m : ℕ) (t : Fin 64) : sProp 𝕄 :=
  mPool.view.loc (c : Thread nD τ) ↦[rowSet (m % 3) t.val]{fullShare} (fetched ids W m : Bf F c mPool)

instance (m : ℕ) (t : Fin 64) : Storable (upEmb : UEmb _ 𝕄) (rowD (F := F) c ids W m t) := by unfold rowD; infer_instance

/-- Step `m`'s batch with `j` of its 64 copies started. -/
abbrev stepBatch (m j : ℕ) : sProp 𝕄 := Batch (EC (F := F)) (c : Thread nD τ) (stepSem m) () rowUnits (rowD c ids W m) j 0

/-- Between two fetches of step `m`: `t` copies started, the other rows of the slot held at `f`, a share of the words. -/
def fly (f : S3x64x1x7168.Idx → BitVec 32) (m t : ℕ) : sProp 𝕄 :=
  iprop((mWords.view.loc (c : Thread nD τ) ↦[Finset.univ]{shareDrop fullShare (m * 64 + t)} (W : Bf F c mWords))
    ∗ stepBatch c ids W m t
    ∗ bigSep (pending t) (fun u : Fin 64 => mPool.view.loc (c : Thread nD τ) ↦[rowSet (m % 3) u.val]{fullShare} (f : Bf F c mPool)))

omit [FloatOps F] [Named F] in
/-- The row of the row buffer that a fetch of step `m`, token `t` names. -/
theorem dst_set (s t : ℕ) (h3 : ∀ a, (![s, t, 0, 0] : Fin 4 → ℕ) a + S1x1x1x7168.size a ≤ S3x64x1x7168.size a) :
    ((mPool.slice (Rect.unit (s := S3x64x1x7168) ![s, t, 0, 0] S1x1x1x7168.size h3) (fun _ => rfl)).squeeze S1x7168 squeezes_S1x1x1x7168_S1x7168).view.set
      = rowSet s t := by
  refine (Memref.set_view_squeeze _ _).trans ((View.set_slice _ _).trans ?_)
  ext x
  refine Finset.mem_map.trans ?_
  simp only [rowSet, Finset.mem_filter, Finset.mem_univ, true_and]
  constructor
  · rintro ⟨y, hy, rfl⟩
    have hy := Rect.mem_set_unit.mp hy
    have h0 := hy 0; have h1 := hy 1
    change s ≤ (y 0).val ∧ (y 0).val < s + 1 at h0
    change t ≤ (y 1).val ∧ (y 1).val < t + 1 at h1
    change (y 0).val = s ∧ (y 1).val = t
    omega
  · rintro ⟨h0, h1⟩
    refine ⟨x, Rect.mem_set_unit.mpr fun a => ?_, rfl⟩
    match a with
    | ⟨0, _⟩ => exact ⟨h0.ge, h0.le.trans_lt (Nat.lt_succ_self _)⟩
    | ⟨1, _⟩ => exact ⟨h1.ge, h1.le.trans_lt (Nat.lt_succ_self _)⟩
    | ⟨2, _⟩ => exact ⟨Nat.zero_le _, (x 2).isLt.trans_le (Nat.le_add_left _ _)⟩
    | ⟨3, _⟩ => exact ⟨Nat.zero_le _, (x 3).isLt.trans_le (Nat.le_add_left _ _)⟩

omit [FloatOps F] [Named F] in
/-- That row of what step `m` fetches is the row of words the identifier names. -/
theorem dst_read (m t : ℕ) (hm : m < 64) (ht : t < 64) (v : BitVec 32) (hv : v = idAt ids m t) (hlt : v.toNat < 32000)
    (h3 : ∀ a, (![m % 3, t, 0, 0] : Fin 4 → ℕ) a + S1x1x1x7168.size a ≤ S3x64x1x7168.size a)
    (h4 : ∀ a, (![(v >>> 2).toNat, 0] : Fin 2 → ℕ) a + S1x7168.size a ≤ S8000x7168.size a) :
    ((mPool.slice (Rect.unit (s := S3x64x1x7168) ![m % 3, t, 0, 0] S1x1x1x7168.size h3) (fun _ => rfl)).squeeze S1x7168 squeezes_S1x1x1x7168_S1x7168).view.read
        (Elt F) (fetched ids W m : Bf F c mPool)
      = (mWords.slice (Rect.unit (s := S8000x7168) ![(v >>> 2).toNat, 0] S1x7168.size h4) (fun _ => rfl)).view.read (Elt F) (W : Bf F c mWords) := by
  subst hv
  funext y
  show fetched ids W m ((Rect.unit (s := S3x64x1x7168) ![m % 3, t, 0, 0] S1x1x1x7168.size h3).idx (Shape.reshapeEquiv _ y))
    = W ((Rect.unit (s := S8000x7168) ![(idAt ids m t >>> 2).toNat, 0] S1x7168.size h4).idx y)
  have e : ∀ h : S1x7168.numel = S1x1x1x7168.numel, (Shape.reshapeEquiv h y : S1x1x1x7168.Idx) = ValueIdx.ix4 (0 : Fin 1) (0 : Fin 1) (0 : Fin 1) (y 1 : Fin 7168) :=
    fun h => Shape.reshapeEquiv_eq_of_rowMajor h (by
      refine (Shape.rowMajor_val_four _).trans (Eq.trans ?_ (Shape.rowMajor_val_two _).symm)
      have h0 : (y 0).val < 1 := (y 0).isLt
      show ((0 * _ + 0) * _ + 0) * 7168 + (y 1).val = (y 0).val * 7168 + (y 1).val
      omega)
  erw [e]
  show W _ = W _
  congr 1
  funext a
  match a with
  | ⟨0, _⟩ =>
    apply Fin.ext
    show (idAt ids m (t + 1 * 0) >>> 2).toNat % 8000 = (idAt ids m t >>> 2).toNat + 1 * (y 0).val
    have h0 : (y 0).val < 1 := (y 0).isLt
    have h5 := h4 0
    change (idAt ids m t >>> 2).toNat + 1 ≤ 8000 at h5
    rw [show t + 1 * 0 = t by omega, Nat.mod_eq_of_lt h5]; omega
  | ⟨1, _⟩ => exact Fin.ext (show 0 + 1 * (y 1).val = 0 + 1 * (y 1).val from rfl)

/-- One fetch of step `m`, token `t`. -/
theorem wp_fetchOne (f : S3x64x1x7168.Idx → BitVec 32) (m t : ℕ) (hm : m < 64) (ht : t < 64) (hids : ∀ x, (ids x).toNat < 32000)
    {o1 : Fin 2 → ℕ} (h1 : ∀ a, o1 a + S1x1.size a ≤ S4x1024.size a) {o2 : Fin 1 → ℕ} (h2 : ∀ a, o2 a + S1.size a ≤ S3.size a)
    {o3 : Fin 4 → ℕ} (h3 : ∀ a, o3 a + S1x1x1x7168.size a ≤ S3x64x1x7168.size a)
    {o4 : BitVec 32 → Fin 2 → ℕ} {chk : BitVec 32 → Prop} (dec : ∀ v, Decidable (chk v))
    (h4 : ∀ v, chk v → ∀ a, o4 v a + S1x7168.size a ≤ S8000x7168.size a)
    (ho1 : o1 = ![m / 16, m % 16 * 64 + t]) (ho2 : o2 = ![m % 3]) (ho3 : o3 = ![m % 3, t, 0, 0])
    (ho4 : o4 = fun v : BitVec 32 => ![(v >>> 2).toNat, 0]) (hchk : ∀ v, v.toNat < 32000 → chk v) (Q : PUnit → sProp 𝕄) :
    iprop(pt c mIds (ids : Bf F c mIds) ∗ fly c ids W f m t)
      ⊢ iprop((iprop(pt c mIds (ids : Bf F c mIds) ∗ fly c ids W f m (t + 1)) -∗ Q ⟨⟩)
        -∗ wp frame (wpE (defs₀ (F := F)) 𝒱₀ c none) Set.univ (fetchOne (F := F) o1 h1 o2 h2 o3 h3 o4 chk dec h4) Q) := by
  subst ho1 ho2 ho3 ho4
  unfold fly
  iintro ⟨Hi, Hw, HB, Hp⟩ Hk
  unfold fetchOne smemLoad
  rw [wp_bind]
  iapply (wp_smemLoadElt 𝒱₀ (c : Thread nD τ) none Set.univ (m := mIds) (r := Rect.unit (s := S4x1024) ![m / 16, m % 16 * 64 + t] S1x1.size h1)
    (q := fullShare) (f := (ids : Bf F c mIds)) (S := Finset.univ) (Finset.subset_univ _)) $$ Hi
  iintro Hi
  rw [wp_ret, wp_bind]
  generalize hv : View.read (Elt F) _ _ _ = v
  have hv' : v = idAt ids m t := by
    rw [← hv]
    show ids ((Rect.unit (s := S4x1024) ![m / 16, m % 16 * 64 + t] S1x1.size h1).idx (Shape.Idx.first _)) = _
    unfold idAt
    congr 1
    funext a
    match a with
    | ⟨0, _⟩ => exact Fin.ext (show m / 16 + 1 * 0 = m / 16 % 4 by omega)
    | ⟨1, _⟩ => exact Fin.ext (show m % 16 * 64 + t + 1 * 0 = (m % 16 * 64 + t) % 1024 by omega)
  have hlt : v.toNat < 32000 := hv' ▸ hids _
  imodintro
  unfold Prog.lift
  iapply (wp_assume 𝒱₀ (c : Thread nD τ) none Set.univ (hchk v hlt))
  rw [wp_ret]
  imodintro
  ihave Hp' := (show bigSep (pending t) (fun u : Fin 64 => (mPool.view.loc (c : Thread nD τ) ↦[rowSet (m % 3) u.val]{fullShare} (f : Bf F c mPool) : sProp 𝕄))
      ⊢ iprop((mPool.view.loc (c : Thread nD τ) ↦[rowSet (m % 3) t]{fullShare} (f : Bf F c mPool))
        ∗ bigSep (pending (t + 1)) (fun u : Fin 64 => (mPool.view.loc (c : Thread nD τ) ↦[rowSet (m % 3) u.val]{fullShare} (f : Bf F c mPool) : sProp 𝕄)))
    from Entails.of_eq (by rw [pending_succ ht, bigSep_insert (not_mem_pending_succ ht)]; rfl)) $$ Hp
  icases Hp' with ⟨Hd, Hp⟩
  have hS := dst_set (m % 3) t h3
  have hR := dst_read (F := F) ids W m t hm ht v hv' hlt h3 (h4 v (hchk v hlt))
  iapply (Rows.wp_rowCopy (EC (F := F)) 𝒱₀ (c : Thread nD τ) none
    (src := mWords.slice (Rect.unit (s := S8000x7168) ![(v >>> 2).toNat, 0] S1x7168.size (h4 v (hchk v hlt))) (fun _ => rfl))
    (dst := (mPool.slice (Rect.unit (s := S3x64x1x7168) ![m % 3, t, 0, 0] S1x1x1x7168.size h3) (fun _ => rfl)).squeeze S1x7168 squeezes_S1x1x1x7168_S1x7168)
    (sm := stepSem m) (q := fullShare) (i := m * 64 + t) (W := (W : Bf F c mWords)) (fd := (f : Bf F c mPool))
    (G := (fetched ids W m : Bf F c mPool)) (S := rowSet (m % 3) t) (D := rowD c ids W m) (j := t) (u := 0) () rowUnits ?hN ht (Nat.zero_le _)
    hS hR .rfl) $$ [Hw Hd HB]
  case hN => rfl
  · isplitl [Hw]; · iexact Hw
    isplitl [Hd]; · iexact Hd
    iexact HB
  iintro ⟨Hw, HB⟩
  rw [wp_ret]
  imodintro
  iapply Hk
  isplitl [Hi]; · iexact Hi
  isplitl [Hw]; · iexact Hw
  isplitl [HB]; · iexact HB
  iexact Hp

end Cert.Proof.KernelIdeal
-- ==== Proof.KernelIdeal.Trips.lean ====
/- The trips of the fetching loops of the kernel: each is eight row fetches, of the tokens and the step it names. -/
module

public import proofs.«01_k».proof.Proof.KernelIdeal.Fetch

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- One row fetch's places: where it reads the identifier, its semaphore, its row of the buffer, and its row of words. -/
structure Fetch where
  o1 : Fin 2 → ℕ
  h1 : ∀ a, o1 a + S1x1.size a ≤ S4x1024.size a
  o2 : Fin 1 → ℕ
  h2 : ∀ a, o2 a + S1.size a ≤ S3.size a
  o3 : Fin 4 → ℕ
  h3 : ∀ a, o3 a + S1x1x1x7168.size a ≤ S3x64x1x7168.size a
  o4 : BitVec 32 → Fin 2 → ℕ
  chk : BitVec 32 → Prop
  dec : ∀ v, Decidable (chk v)
  h4 : ∀ v, chk v → ∀ a, o4 v a + S1x7168.size a ≤ S8000x7168.size a

/-- Its text. -/
abbrev Fetch.prog (p : Fetch) : Prog (TpuEff nD τ sig (Elt F) Λ₀ .tc) PUnit :=
  fetchOne (F := F) p.o1 p.h1 p.o2 p.h2 p.o3 p.h3 p.o4 p.chk p.dec p.h4

/-- The fetch is the one of step `m`, token `t`. -/
structure Fetch.Is (p : Fetch) (m t : ℕ) : Prop where
  ho1 : p.o1 = ![m / 16, m % 16 * 64 + t]
  ho2 : p.o2 = ![m % 3]
  ho3 : p.o3 = ![m % 3, t, 0, 0]
  ho4 : p.o4 = fun v : BitVec 32 => ![(v >>> 2).toNat, 0]
  hchk : ∀ v, v.toNat < 32000 → p.chk v

/-- Eight fetches, one after another: a trip of a fetching loop. -/
def fetch8 (p : Fin 8 → Fetch) : Prog (TpuEff nD τ sig (Elt F) Λ₀ .tc) PUnit := do
  (p ⟨0, by decide⟩).prog; (p ⟨1, by decide⟩).prog; (p ⟨2, by decide⟩).prog; (p ⟨3, by decide⟩).prog; (p ⟨4, by decide⟩).prog; (p ⟨5, by decide⟩).prog; (p ⟨6, by decide⟩).prog; (p ⟨7, by decide⟩).prog; Prog.ret ⟨⟩

/-- The fetches of a trip of the loop over step 0's rows. -/
def trip1 (i : grid0.Coords) (h : k0_cond1 i = 1#1) (k : Fin k0_t1_loop.trips) : Fin 8 → Fetch
  | ⟨0, _⟩ => ⟨k0_off1 k, k0_off1_inb i k h, k0_off2, k0_off2_inb i h, k0_off3 k, k0_off3_inb i k h, k0_off4, k0_chk1 i, k0_chk1.dec i,
      fun v hw => k0_off4_inb i v hw h⟩
  | ⟨1, _⟩ => ⟨k0_off5 k, k0_off5_inb i k h, k0_off6, k0_off6_inb i h, k0_off7 k, k0_off7_inb i k h, k0_off8, k0_chk2 i, k0_chk2.dec i,
      fun v hw => k0_off8_inb i v hw h⟩
  | ⟨2, _⟩ => ⟨k0_off9 k, k0_off9_inb i k h, k0_off10, k0_off10_inb i h, k0_off11 k, k0_off11_inb i k h, k0_off12, k0_chk3 i, k0_chk3.dec i,
      fun v hw => k0_off12_inb i v hw h⟩
  | ⟨3, _⟩ => ⟨k0_off13 k, k0_off13_inb i k h, k0_off14, k0_off14_inb i h, k0_off15 k, k0_off15_inb i k h, k0_off16, k0_chk4 i, k0_chk4.dec i,
      fun v hw => k0_off16_inb i v hw h⟩
  | ⟨4, _⟩ => ⟨k0_off17 k, k0_off17_inb i k h, k0_off18, k0_off18_inb i h, k0_off19 k, k0_off19_inb i k h, k0_off20, k0_chk5 i, k0_chk5.dec i,
      fun v hw => k0_off20_inb i v hw h⟩
  | ⟨5, _⟩ => ⟨k0_off21 k, k0_off21_inb i k h, k0_off22, k0_off22_inb i h, k0_off23 k, k0_off23_inb i k h, k0_off24, k0_chk6 i, k0_chk6.dec i,
      fun v hw => k0_off24_inb i v hw h⟩
  | ⟨6, _⟩ => ⟨k0_off25 k, k0_off25_inb i k h, k0_off26, k0_off26_inb i h, k0_off27 k, k0_off27_inb i k h, k0_off28, k0_chk7 i, k0_chk7.dec i,
      fun v hw => k0_off28_inb i v hw h⟩
  | ⟨7, _⟩ => ⟨k0_off29 k, k0_off29_inb i k h, k0_off30, k0_off30_inb i h, k0_off31 k, k0_off31_inb i k h, k0_off32, k0_chk8 i, k0_chk8.dec i,
      fun v hw => k0_off32_inb i v hw h⟩

/-- The fetches of a trip of the loop over step 1's rows. -/
def trip2 (i : grid0.Coords) (h : k0_cond1 i = 1#1) (k : Fin k0_t2_loop.trips) : Fin 8 → Fetch
  | ⟨0, _⟩ => ⟨k0_off33 k, k0_off33_inb i k h, k0_off34, k0_off34_inb i h, k0_off35 k, k0_off35_inb i k h, k0_off36, k0_chk9 i, k0_chk9.dec i,
      fun v hw => k0_off36_inb i v hw h⟩
  | ⟨1, _⟩ => ⟨k0_off37 k, k0_off37_inb i k h, k0_off38, k0_off38_inb i h, k0_off39 k, k0_off39_inb i k h, k0_off40, k0_chk10 i, k0_chk10.dec i,
      fun v hw => k0_off40_inb i v hw h⟩
  | ⟨2, _⟩ => ⟨k0_off41 k, k0_off41_inb i k h, k0_off42, k0_off42_inb i h, k0_off43 k, k0_off43_inb i k h, k0_off44, k0_chk11 i, k0_chk11.dec i,
      fun v hw => k0_off44_inb i v hw h⟩
  | ⟨3, _⟩ => ⟨k0_off45 k, k0_off45_inb i k h, k0_off46, k0_off46_inb i h, k0_off47 k, k0_off47_inb i k h, k0_off48, k0_chk12 i, k0_chk12.dec i,
      fun v hw => k0_off48_inb i v hw h⟩
  | ⟨4, _⟩ => ⟨k0_off49 k, k0_off49_inb i k h, k0_off50, k0_off50_inb i h, k0_off51 k, k0_off51_inb i k h, k0_off52, k0_chk13 i, k0_chk13.dec i,
      fun v hw => k0_off52_inb i v hw h⟩
  | ⟨5, _⟩ => ⟨k0_off53 k, k0_off53_inb i k h, k0_off54, k0_off54_inb i h, k0_off55 k, k0_off55_inb i k h, k0_off56, k0_chk14 i, k0_chk14.dec i,
      fun v hw => k0_off56_inb i v hw h⟩
  | ⟨6, _⟩ => ⟨k0_off57 k, k0_off57_inb i k h, k0_off58, k0_off58_inb i h, k0_off59 k, k0_off59_inb i k h, k0_off60, k0_chk15 i, k0_chk15.dec i,
      fun v hw => k0_off60_inb i v hw h⟩
  | ⟨7, _⟩ => ⟨k0_off61 k, k0_off61_inb i k h, k0_off62, k0_off62_inb i h, k0_off63 k, k0_off63_inb i k h, k0_off64, k0_chk16 i, k0_chk16.dec i,
      fun v hw => k0_off64_inb i v hw h⟩

/-- The fetches of a trip of the loop over the rows of the step after next. -/
def trip3 (i : grid0.Coords) (h : k0_cond2 i = 1#1) (k : Fin k0_t3_loop.trips) : Fin 8 → Fetch
  | ⟨0, _⟩ => ⟨k0_off65 i k, k0_off65_inb i k h, (k0_off66 i), k0_off66_inb i h, k0_off67 i k, k0_off67_inb i k h, k0_off68, k0_chk17 i, k0_chk17.dec i,
      fun v hw => k0_off68_inb i v hw h⟩
  | ⟨1, _⟩ => ⟨k0_off69 i k, k0_off69_inb i k h, (k0_off70 i), k0_off70_inb i h, k0_off71 i k, k0_off71_inb i k h, k0_off72, k0_chk18 i, k0_chk18.dec i,
      fun v hw => k0_off72_inb i v hw h⟩
  | ⟨2, _⟩ => ⟨k0_off73 i k, k0_off73_inb i k h, (k0_off74 i), k0_off74_inb i h, k0_off75 i k, k0_off75_inb i k h, k0_off76, k0_chk19 i, k0_chk19.dec i,
      fun v hw => k0_off76_inb i v hw h⟩
  | ⟨3, _⟩ => ⟨k0_off77 i k, k0_off77_inb i k h, (k0_off78 i), k0_off78_inb i h, k0_off79 i k, k0_off79_inb i k h, k0_off80, k0_chk20 i, k0_chk20.dec i,
      fun v hw => k0_off80_inb i v hw h⟩
  | ⟨4, _⟩ => ⟨k0_off81 i k, k0_off81_inb i k h, (k0_off82 i), k0_off82_inb i h, k0_off83 i k, k0_off83_inb i k h, k0_off84, k0_chk21 i, k0_chk21.dec i,
      fun v hw => k0_off84_inb i v hw h⟩
  | ⟨5, _⟩ => ⟨k0_off85 i k, k0_off85_inb i k h, (k0_off86 i), k0_off86_inb i h, k0_off87 i k, k0_off87_inb i k h, k0_off88, k0_chk22 i, k0_chk22.dec i,
      fun v hw => k0_off88_inb i v hw h⟩
  | ⟨6, _⟩ => ⟨k0_off89 i k, k0_off89_inb i k h, (k0_off90 i), k0_off90_inb i h, k0_off91 i k, k0_off91_inb i k h, k0_off92, k0_chk23 i, k0_chk23.dec i,
      fun v hw => k0_off92_inb i v hw h⟩
  | ⟨7, _⟩ => ⟨k0_off93 i k, k0_off93_inb i k h, (k0_off94 i), k0_off94_inb i h, k0_off95 i k, k0_off95_inb i k h, k0_off96, k0_chk24 i, k0_chk24.dec i,
      fun v hw => k0_off96_inb i v hw h⟩

section
variable (i : grid0.Coords)
  (w : Memref sig .tc .vmem S56x128 .bf16) (hw : w.IsWhole) (o : Memref sig .tc .vmem S8x56x8x128 .bf16) (ho : o.IsWhole)
  (e : Memref sig .tc .vmem S8x56x8x128 .bf16) (he : e.IsWhole)

set_option maxRecDepth 65536 in set_option maxHeartbeats 400000 in
/-- A trip of the loop over step 0's rows is eight fetches. -/
theorem body1_eq (h : k0_cond1 i = 1#1) (k : Fin k0_t1_loop.trips) (acc : Unit) :
    k0_t1_body (F := F) i mIds (Memref.isWhole_whole _) mWords (Memref.isWhole_whole _) (Memref.whole main_v3) (Memref.isWhole_whole _) w hw o ho e he
      mPool (Memref.isWhole_whole _) (Memref.whole cc0_scratch1) (Memref.isWhole_whole _) cc0_scratch2 cc0_scratch3 h k acc
      = fetch8 (trip1 i h k) := by
  dsimp only [fetch8, Fetch.prog, trip1]
  rfl

set_option maxRecDepth 65536 in set_option maxHeartbeats 400000 in
/-- A trip of the loop over step 1's rows is eight fetches. -/
theorem body2_eq (h : k0_cond1 i = 1#1) (k : Fin k0_t2_loop.trips) (acc : Unit) :
    k0_t2_body (F := F) i mIds (Memref.isWhole_whole _) mWords (Memref.isWhole_whole _) (Memref.whole main_v3) (Memref.isWhole_whole _) w hw o ho e he
      mPool (Memref.isWhole_whole _) (Memref.whole cc0_scratch1) (Memref.isWhole_whole _) cc0_scratch2 cc0_scratch3 h k acc
      = fetch8 (trip2 i h k) := by
  dsimp only [fetch8, Fetch.prog, trip2]
  rfl

set_option maxRecDepth 65536 in set_option maxHeartbeats 400000 in
/-- A trip of the loop over the rows of the step after next is eight fetches. -/
theorem body3_eq (h : k0_cond2 i = 1#1) (v : BitVec 32) (k : Fin k0_t3_loop.trips) (acc : Unit) :
    k0_t3_body (F := F) i mIds (Memref.isWhole_whole _) mWords (Memref.isWhole_whole _) (Memref.whole main_v3) (Memref.isWhole_whole _) w hw o ho e he
      mPool (Memref.isWhole_whole _) (Memref.whole cc0_scratch1) (Memref.isWhole_whole _) cc0_scratch2 cc0_scratch3 h
      v k acc
      = fetch8 (trip3 i h k) := by
  dsimp only [fetch8, Fetch.prog, trip3]
  rfl
end

omit [FloatOps F] [Named F] in
/-- An identifier below the vocabulary's size names a row of words. -/
theorem words_inb (v : BitVec 32) (hv : v.toNat < 32000) :
    ∀ a, (![(v >>> 2).toNat, 0] : Fin 2 → ℕ) a + S1x7168.size a ≤ S8000x7168.size a := fun
  | ⟨0, _⟩ => by
    show (v >>> 2).toNat + 1 ≤ 8000
    rw [BitVec.toNat_ushiftRight, Nat.shiftRight_eq_div_pow]; omega
  | ⟨1, _⟩ => by show 0 + 7168 ≤ 7168; omega

/-- The fetches of a trip over step 0's rows are those of its tokens. -/
theorem trip1_is (i : grid0.Coords) (h : k0_cond1 i = 1#1) (k : Fin k0_t1_loop.trips) (c : Fin 8) : (trip1 i h k c).Is 0 (8 * k.val + c.val) := by
  match c with
  | ⟨0, _⟩ | ⟨1, _⟩ | ⟨2, _⟩ | ⟨3, _⟩ | ⟨4, _⟩ | ⟨5, _⟩ | ⟨6, _⟩ | ⟨7, _⟩ =>
    refine ⟨?_, ?_, ?_, rfl, fun v hv _ => words_inb v hv⟩ <;> dsimp only [trip1] <;> clear h <;> revert k <;> decide +kernel

/-- The fetches of a trip over step 1's rows are those of its tokens. -/
theorem trip2_is (i : grid0.Coords) (h : k0_cond1 i = 1#1) (k : Fin k0_t2_loop.trips) (c : Fin 8) : (trip2 i h k c).Is 1 (8 * k.val + c.val) := by
  match c with
  | ⟨0, _⟩ | ⟨1, _⟩ | ⟨2, _⟩ | ⟨3, _⟩ | ⟨4, _⟩ | ⟨5, _⟩ | ⟨6, _⟩ | ⟨7, _⟩ =>
    refine ⟨?_, ?_, ?_, rfl, fun v hv _ => words_inb v hv⟩ <;> dsimp only [trip2] <;> clear h <;> revert k <;> decide +kernel

/-- The grid coordinates are the one coordinate. -/
theorem coords_eq (i : grid0.Coords) : i = (fun | ⟨0, _⟩ => i 0 : grid0.Coords) := by
  funext a
  match a with
  | ⟨0, _⟩ => rfl

/-- The fetches of a trip over the rows of the step after next are those of its tokens. -/
theorem trip3_is (i : grid0.Coords) (h : k0_cond2 i = 1#1) (k : Fin k0_t3_loop.trips) (c : Fin 8) :
    (trip3 i h k c).Is ((i 0).val + 2) (8 * k.val + c.val) := by
  match c with
  | ⟨0, _⟩ | ⟨1, _⟩ | ⟨2, _⟩ | ⟨3, _⟩ | ⟨4, _⟩ | ⟨5, _⟩ | ⟨6, _⟩ | ⟨7, _⟩ =>
    refine ⟨?_, ?_, ?_, rfl, fun v hv _ => words_inb v hv⟩ <;> dsimp only [trip3] <;> clear h <;> rw [coords_eq i] <;> dsimp only <;>
      generalize (i 0 : Fin 64) = n <;> revert n k <;> decide +kernel

end Cert.Proof.KernelIdeal
-- ==== Proof.KernelIdeal.FetchLoops.lean ====
/- The fetching loops of the kernel: each trip is eight row fetches; a whole loop fetches the rows of one step. -/
module

public import proofs.«01_k».proof.Proof.KernelIdeal.Trips

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable (c : Dev nD) (ids : S4x1024.Idx → BitVec 32) (W : S8000x7168.Idx → BitVec 32)

/-- A trip's eight fetches. -/
theorem wp_fetch8 (f : S3x64x1x7168.Idx → BitVec 32) (m k : ℕ) (hm : m < 64) (hk : k < 8) (hids : ∀ x, (ids x).toNat < 32000)
    (p : Fin 8 → Fetch) (hp : ∀ a : Fin 8, (p a).Is m (8 * k + a.val)) (Q : PUnit → sProp 𝕄) :
    iprop(pt c mIds (ids : Bf F c mIds) ∗ fly c ids W f m (8 * k))
      ⊢ iprop((iprop(pt c mIds (ids : Bf F c mIds) ∗ fly c ids W f m (8 * (k + 1))) -∗ Q ⟨⟩)
        -∗ wp frame (wpE (defs₀ (F := F)) 𝒱₀ c none) Set.univ (fetch8 (F := F) p) Q) := by
  have step (a : Fin 8) (Q : PUnit → sProp 𝕄) := wp_fetchOne (F := F) c ids W f m (8 * k + a.val) hm (by omega) hids (p a).h1 (p a).h2 (p a).h3 (p a).dec (p a).h4
    (hp a).ho1 (hp a).ho2 (hp a).ho3 (hp a).ho4 (hp a).hchk Q
  iintro H Hk
  unfold fetch8
  simp only [wp_bind]
  iapply (step 0 _) $$ H
  iintro H
  iapply (step 1 _) $$ H
  iintro H
  iapply (step 2 _) $$ H
  iintro H
  iapply (step 3 _) $$ H
  iintro H
  iapply (step 4 _) $$ H
  iintro H
  iapply (step 5 _) $$ H
  iintro H
  iapply (step 6 _) $$ H
  iintro H
  iapply (step 7 _) $$ H
  iintro H
  rw [wp_ret]
  imodintro
  iapply Hk
  iexact H

/-- A loop of eight such trips fetches the rows of step `m`. -/
theorem wp_fetchLoop (f : S3x64x1x7168.Idx → BitVec 32) (m : ℕ) (hm : m < 64) (hids : ∀ x, (ids x).toNat < 32000)
    (L : Scf.Loop 32) (hok : L.OK) (hL : L.trips = 8) (body : Fin L.trips → Unit → Prog (TpuEff nD τ sig (Elt F) Λ₀ .tc) Unit)
    (p : Fin L.trips → Fin 8 → Fetch) (hbody : ∀ k acc, body k acc = fetch8 (p k)) (hp : ∀ k a, (p k a).Is m (8 * k.val + a.val)) (Q : Unit → sProp 𝕄) :
    iprop(pt c mIds (ids : Bf F c mIds) ∗ fly c ids W f m 0)
      ⊢ iprop((iprop(pt c mIds (ids : Bf F c mIds) ∗ fly c ids W f m 64) -∗ Q ⟨⟩)
        -∗ wp frame (wpE (defs₀ (F := F)) 𝒱₀ c none) Set.univ (Scf.Loop.for L hok ⟨⟩ body) Q) := by
  iintro H Hk
  iapply (Scf.wp_for (M := 𝕄) frame (wpE (defs₀ (F := F)) 𝒱₀ c none) Set.univ L.lb L.ub L.st hok () body
    (fun k _ => iprop(pt c mIds (ids : Bf F c mIds) ∗ fly c ids W f m (8 * k)))
    (fun k acc => by
      rw [hbody]
      iintro H
      iapply (wp_fetch8 c ids W f m k.val hm (k.isLt.trans_eq hL) hids (p k) (hp k) _) $$ H
      iintro H
      iexact H))
  isplitl [H]
  · iexact H
  iintro %acc H
  iapply Hk
  rw [show Scf.trips L.lb L.ub L.st = 8 from hL]
  iexact H

end Cert.Proof.KernelIdeal
-- ==== Proof.KernelIdeal.TripText.lean ====
/- A trip of the loop over the step's tokens: four groups, each reading two tokens and storing seven pieces of each result. -/
module

public import proofs.«01_k».proof.Proof.KernelIdeal.Fetch

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The scales. -/
abbrev mScale : Memref sig .tc .vmem S56x32000 .f32 := Memref.whole cc0_scratch1
/-- The row buffer, each row seen as a token's 56 by 128 words. -/
abbrev mRows : Memref sig .tc .vmem S3x64x56x128 .i32 :=
  mPool.reshape S3x64x56x128 reshapes_S3x64x1x7168_S3x64x56x128.1 reshapes_S3x64x1x7168_S3x64x56x128.2 (Memref.isWhole_whole cc0_scratch0).contiguous

/-- What is read of a token: its identifier, the column block of scales its own lies in, and its row of words. -/
abbrev Tok (F : FTy → Type) : Type := BitVec 32 × Vec F S56x128 .f32 × Vec F S1x1x56x128 .i32

/-- Where a token is read. -/
structure Rd where
  o1 : Fin 2 → ℕ
  h1 : ∀ a, o1 a + S1x1.size a ≤ S4x1024.size a
  o2 : BitVec 32 → Fin 2 → ℕ
  chk : BitVec 32 → Prop
  dec : ∀ v, Decidable (chk v)
  h2 : ∀ v, chk v → ∀ a, o2 v a + S56x128.size a ≤ S56x32000.size a
  o3 : Fin 4 → ℕ
  h3 : ∀ a, o3 a + S1x1x56x128.size a ≤ S3x64x56x128.size a

/-- The text that reads it. -/
def Rd.prog (p : Rd) : Prog (TpuEff nD τ sig (Elt F) Λ₀ .tc) (Tok F) := do
  let v : Elt F .i32 ← smemLoad mIds (Rect.unit (s := S4x1024) p.o1 S1x1.size p.h1) numel1_S1x1 rfl
  have hw : p.chk v := (← Prog.lift (TpuEff.assume (p.chk v) (p.dec v))).down
  let a : Vec F S56x128 .f32 ← Prog.lift (.load mScale (Rect.unit (s := S56x32000) (p.o2 v) S56x128.size (p.h2 v hw)).toLoadRect (View.loadsAt_vmem h_S56x128))
  let b : Vec F S1x1x56x128 .i32 ← Prog.lift (.load mRows (Rect.unit (s := S3x64x56x128) p.o3 S1x1x56x128.size p.h3).toLoadRect (View.loadsAt_vmem h_S1x1x56x128))
  Prog.ret (v, a, b)

/-- Where a piece of the results is stored. -/
structure Put where
  o : Fin 4 → ℕ
  h : ∀ a, o a + S1x8x2x128.size a ≤ S8x56x8x128.size a
  packed : (Rect.unit (s := S8x56x8x128) o S1x8x2x128.size h).PackedRows (EltTy.packing .bf16)

/-- The rectangle of it. -/
abbrev Put.rect (p : Put) : Rect S8x56x8x128 := Rect.unit (s := S8x56x8x128) p.o S1x8x2x128.size p.h

/-- The text that stores the piece `x` through `m`: the old piece is read first, and not used. -/
def Put.prog (p : Put) (m : Memref sig .tc .vmem S8x56x8x128 .bf16) (hm : m.IsWhole) (x : Vec F S1x8x2x128 .bf16) :
    Prog (TpuEff nD τ sig (Elt F) Λ₀ .tc) PUnit := do
  let _ : Vec F S1x8x2x128 .bf16 ← Prog.lift (.load m (Rect.unit (s := S8x56x8x128) p.o S1x8x2x128.size p.h).toLoadRect (View.loadsAt_vmem h_S1x8x2x128))
  Prog.lift (.store m (Rect.unit (s := S8x56x8x128) p.o S1x8x2x128.size p.h) x Finset.univ
    (View.stores_vmem h_S1x8x2x128 (hm.storeExact_slice rfl _ p.packed) (fun _ => rfl)) (.inl rfl))

theorem slices8 (g : Fin 7) : S56x128.Slices ![8 * g.val, 0] S8x128 := by revert g; decide

section
variable (o : Memref sig .tc .vmem S8x56x8x128 .bf16) (ho : o.IsWhole) (e : Memref sig .tc .vmem S8x56x8x128 .bf16) (he : e.IsWhole)

/-- The stores of a group: seven pieces of each result, alternately. -/
def stores (p : Fin 7 → Put) (xe xo : Fin 7 → Vec F S1x8x2x128 .bf16) : Prog (TpuEff nD τ sig (Elt F) Λ₀ .tc) PUnit := do
  (p ⟨0, by decide⟩).prog e he (xe ⟨0, by decide⟩); (p ⟨0, by decide⟩).prog o ho (xo ⟨0, by decide⟩)
  (p ⟨1, by decide⟩).prog e he (xe ⟨1, by decide⟩); (p ⟨1, by decide⟩).prog o ho (xo ⟨1, by decide⟩)
  (p ⟨2, by decide⟩).prog e he (xe ⟨2, by decide⟩); (p ⟨2, by decide⟩).prog o ho (xo ⟨2, by decide⟩)
  (p ⟨3, by decide⟩).prog e he (xe ⟨3, by decide⟩); (p ⟨3, by decide⟩).prog o ho (xo ⟨3, by decide⟩)
  (p ⟨4, by decide⟩).prog e he (xe ⟨4, by decide⟩); (p ⟨4, by decide⟩).prog o ho (xo ⟨4, by decide⟩)
  (p ⟨5, by decide⟩).prog e he (xe ⟨5, by decide⟩); (p ⟨5, by decide⟩).prog o ho (xo ⟨5, by decide⟩)
  (p ⟨6, by decide⟩).prog e he (xe ⟨6, by decide⟩); (p ⟨6, by decide⟩).prog o ho (xo ⟨6, by decide⟩)
  Prog.ret ⟨⟩

/-- A group: two tokens read, then their pieces of the two results stored. -/
def group (ra rb : Rd) (p : Fin 7 → Put) (xe xo : Tok F → Tok F → Fin 7 → Vec F S1x8x2x128 .bf16) : Prog (TpuEff nD τ sig (Elt F) Λ₀ .tc) PUnit := do
  let a ← ra.prog
  let b ← rb.prog
  stores o ho e he p (xe a b) (xo a b)

/-- A trip is four groups. -/
def trip (r : Fin 8 → Rd) (p : Fin 4 → Fin 7 → Put) (xe xo : Tok F → Tok F → Fin 7 → Vec F S1x8x2x128 .bf16) :
    Prog (TpuEff nD τ sig (Elt F) Λ₀ .tc) PUnit := do
  group o ho e he (r ⟨0, by decide⟩) (r ⟨1, by decide⟩) (p ⟨0, by decide⟩) xe xo
  group o ho e he (r ⟨2, by decide⟩) (r ⟨3, by decide⟩) (p ⟨1, by decide⟩) xe xo
  group o ho e he (r ⟨4, by decide⟩) (r ⟨5, by decide⟩) (p ⟨2, by decide⟩) xe xo
  group o ho e he (r ⟨6, by decide⟩) (r ⟨7, by decide⟩) (p ⟨3, by decide⟩) xe xo
  Prog.ret ⟨⟩
end

/-- The reads of a trip. -/
def rds (i : grid0.Coords) (k : Fin k0_t4_loop.trips) : Fin 8 → Rd
  | ⟨0, _⟩ => ⟨k0_off99 i k, k0_off99_inb i k, k0_off100, k0_chk25, k0_chk25.dec, k0_off100_inb, k0_off101 i k, k0_off101_inb i k⟩
  | ⟨1, _⟩ => ⟨k0_off102 i k, k0_off102_inb i k, k0_off103, k0_chk26, k0_chk26.dec, k0_off103_inb, k0_off104 i k, k0_off104_inb i k⟩
  | ⟨2, _⟩ => ⟨k0_off112 i k, k0_off112_inb i k, k0_off113, k0_chk27, k0_chk27.dec, k0_off113_inb, k0_off114 i k, k0_off114_inb i k⟩
  | ⟨3, _⟩ => ⟨k0_off115 i k, k0_off115_inb i k, k0_off116, k0_chk28, k0_chk28.dec, k0_off116_inb, k0_off117 i k, k0_off117_inb i k⟩
  | ⟨4, _⟩ => ⟨k0_off125 i k, k0_off125_inb i k, k0_off126, k0_chk29, k0_chk29.dec, k0_off126_inb, k0_off127 i k, k0_off127_inb i k⟩
  | ⟨5, _⟩ => ⟨k0_off128 i k, k0_off128_inb i k, k0_off129, k0_chk30, k0_chk30.dec, k0_off129_inb, k0_off130 i k, k0_off130_inb i k⟩
  | ⟨6, _⟩ => ⟨k0_off138 i k, k0_off138_inb i k, k0_off139, k0_chk31, k0_chk31.dec, k0_off139_inb, k0_off140 i k, k0_off140_inb i k⟩
  | ⟨7, _⟩ => ⟨k0_off141 i k, k0_off141_inb i k, k0_off142, k0_chk32, k0_chk32.dec, k0_off142_inb, k0_off143 i k, k0_off143_inb i k⟩

/-- The places of a trip's pieces. -/
def puts (k : Fin k0_t4_loop.trips) : Fin 4 → Fin 7 → Put
  | ⟨0, _⟩, ⟨0, _⟩ => ⟨k0_off105 k, k0_off105_inb k, k0_off105_packedbf16 k⟩
  | ⟨0, _⟩, ⟨1, _⟩ => ⟨k0_off106 k, k0_off106_inb k, k0_off106_packedbf16 k⟩
  | ⟨0, _⟩, ⟨2, _⟩ => ⟨k0_off107 k, k0_off107_inb k, k0_off107_packedbf16 k⟩
  | ⟨0, _⟩, ⟨3, _⟩ => ⟨k0_off108 k, k0_off108_inb k, k0_off108_packedbf16 k⟩
  | ⟨0, _⟩, ⟨4, _⟩ => ⟨k0_off109 k, k0_off109_inb k, k0_off109_packedbf16 k⟩
  | ⟨0, _⟩, ⟨5, _⟩ => ⟨k0_off110 k, k0_off110_inb k, k0_off110_packedbf16 k⟩
  | ⟨0, _⟩, ⟨6, _⟩ => ⟨k0_off111 k, k0_off111_inb k, k0_off111_packedbf16 k⟩
  | ⟨1, _⟩, ⟨0, _⟩ => ⟨k0_off118 k, k0_off118_inb k, k0_off118_packedbf16 k⟩
  | ⟨1, _⟩, ⟨1, _⟩ => ⟨k0_off119 k, k0_off119_inb k, k0_off119_packedbf16 k⟩
  | ⟨1, _⟩, ⟨2, _⟩ => ⟨k0_off120 k, k0_off120_inb k, k0_off120_packedbf16 k⟩
  | ⟨1, _⟩, ⟨3, _⟩ => ⟨k0_off121 k, k0_off121_inb k, k0_off121_packedbf16 k⟩
  | ⟨1, _⟩, ⟨4, _⟩ => ⟨k0_off122 k, k0_off122_inb k, k0_off122_packedbf16 k⟩
  | ⟨1, _⟩, ⟨5, _⟩ => ⟨k0_off123 k, k0_off123_inb k, k0_off123_packedbf16 k⟩
  | ⟨1, _⟩, ⟨6, _⟩ => ⟨k0_off124 k, k0_off124_inb k, k0_off124_packedbf16 k⟩
  | ⟨2, _⟩, ⟨0, _⟩ => ⟨k0_off131 k, k0_off131_inb k, k0_off131_packedbf16 k⟩
  | ⟨2, _⟩, ⟨1, _⟩ => ⟨k0_off132 k, k0_off132_inb k, k0_off132_packedbf16 k⟩
  | ⟨2, _⟩, ⟨2, _⟩ => ⟨k0_off133 k, k0_off133_inb k, k0_off133_packedbf16 k⟩
  | ⟨2, _⟩, ⟨3, _⟩ => ⟨k0_off134 k, k0_off134_inb k, k0_off134_packedbf16 k⟩
  | ⟨2, _⟩, ⟨4, _⟩ => ⟨k0_off135 k, k0_off135_inb k, k0_off135_packedbf16 k⟩
  | ⟨2, _⟩, ⟨5, _⟩ => ⟨k0_off136 k, k0_off136_inb k, k0_off136_packedbf16 k⟩
  | ⟨2, _⟩, ⟨6, _⟩ => ⟨k0_off137 k, k0_off137_inb k, k0_off137_packedbf16 k⟩
  | ⟨3, _⟩, ⟨0, _⟩ => ⟨k0_off144 k, k0_off144_inb k, k0_off144_packedbf16 k⟩
  | ⟨3, _⟩, ⟨1, _⟩ => ⟨k0_off145 k, k0_off145_inb k, k0_off145_packedbf16 k⟩
  | ⟨3, _⟩, ⟨2, _⟩ => ⟨k0_off146 k, k0_off146_inb k, k0_off146_packedbf16 k⟩
  | ⟨3, _⟩, ⟨3, _⟩ => ⟨k0_off147 k, k0_off147_inb k, k0_off147_packedbf16 k⟩
  | ⟨3, _⟩, ⟨4, _⟩ => ⟨k0_off148 k, k0_off148_inb k, k0_off148_packedbf16 k⟩
  | ⟨3, _⟩, ⟨5, _⟩ => ⟨k0_off149 k, k0_off149_inb k, k0_off149_packedbf16 k⟩
  | ⟨3, _⟩, ⟨6, _⟩ => ⟨k0_off150 k, k0_off150_inb k, k0_off150_packedbf16 k⟩

/-- The piece `g` of two tokens' values, their rows interleaved. -/
def piece (lo hi : FVec F S56x128 .bf16) (g : Fin 7) : Vec F S1x8x2x128 .bf16 :=
  interleaveRows S1x8x2x128
    (shapeCast S1x8x1x128 (shapeCast S1x8x128 (extractStridedSlice S8x128 ![8 * g.val, 0] lo (slices8 g)) shapeCasts_S8x128_S1x8x128) shapeCasts_S1x8x128_S1x8x1x128)
    (shapeCast S1x8x1x128 (shapeCast S1x8x128 (extractStridedSlice S8x128 ![8 * g.val, 0] hi (slices8 g)) shapeCasts_S8x128_S1x8x128) shapeCasts_S1x8x128_S1x8x1x128)
    bitcasts_S1x8x2x128_w16_S1x8x1x128_w32

/-- A token's embedding, before it is rounded. -/
def embWide (a : Tok F) : FVec F S56x128 .f32 := k0_pay6 (k0_pay4 a.1 a.2.1) (k0_pay5 a.1 a.2.2)

/-- The pieces of the embeddings of two tokens. -/
def embPiece (a b : Tok F) : Fin 7 → Vec F S1x8x2x128 .bf16 := piece (k0_pay8 (embWide a)) (k0_pay8 (embWide b))

/-- The pieces of the normalized embeddings of two tokens, with the weights `w`. -/
def outPiece (w : Vec F S56x128 .bf16) (a b : Tok F) : Fin 7 → Vec F S1x8x2x128 .bf16 :=
  piece (k0_pay10 (k0_pay1 w) (embWide a)) (k0_pay10 (k0_pay1 w) (embWide b))

set_option maxRecDepth 65536 in set_option maxHeartbeats 4000000 in
/-- A trip of the loop over the step's tokens is the four groups. -/
theorem body4_eq (i : grid0.Coords) (w : Memref sig .tc .vmem S56x128 .bf16) (hw : w.IsWhole) (o : Memref sig .tc .vmem S8x56x8x128 .bf16) (ho : o.IsWhole)
    (e : Memref sig .tc .vmem S8x56x8x128 .bf16) (he : e.IsWhole) (v0 v10 : BitVec 32) (v17 : Vec F S56x128 .bf16) (k : Fin k0_t4_loop.trips) (acc : Unit) :
    k0_t4_body (F := F) i mIds (Memref.isWhole_whole _) mWords (Memref.isWhole_whole _) (Memref.whole main_v3) (Memref.isWhole_whole _) w hw o ho e he
      mPool (Memref.isWhole_whole _) mScale (Memref.isWhole_whole _) cc0_scratch2 cc0_scratch3 v0 v10 v17 k acc
      = trip o ho e he (rds i k) (puts k) embPiece (outPiece v17) := by
  dsimp only [trip, group, stores, Rd.prog, Put.prog, rds, puts, embPiece, outPiece, piece, embWide]
  rfl

end Cert.Proof.KernelIdeal
-- ==== Proof.KernelIdeal.TripRun.lean ====
/- A trip of the loop over the step's tokens, run: what it reads, and that every piece of the results it stores is good. -/
module

public import Idealize.ShloMosaic.Lib.Writes
public import proofs.«01_k».proof.Proof.KernelIdeal.TripText

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- What is read of token `t` of step `m`: its identifier, the block of 128 columns of scales its own lies in, its row of words. -/
def tokAt (ids : S4x1024.Idx → BitVec 32) (SC : S56x32000.Idx → F .f32) (W : S8000x7168.Idx → BitVec 32) (m t : ℕ) : Tok F :=
  (idAt ids m t,
    fun y => SC (ValueIdx.ix2 (y 0 : Fin 56) (⟨(((idAt ids m t) >>> 7).toNat * 128 + (y 1).val) % 32000, Nat.mod_lt _ (by decide)⟩ : Fin 32000)),
    fun y => W (ValueIdx.ix2 (⟨(idAt ids m t >>> 2).toNat % 8000, Nat.mod_lt _ (by decide)⟩ : Fin 8000)
      (⟨((y 2).val * 128 + (y 3).val) % 7168, Nat.mod_lt _ (by decide)⟩ : Fin 7168)))

/-- The place reads token `t` of step `m`. -/
structure Rd.Is (p : Rd) (m t : ℕ) : Prop where
  ho1 : p.o1 = ![m / 16, m % 16 * 64 + t]
  ho2 : p.o2 = fun v : BitVec 32 => ![0, (v >>> 7 * 128#32).toNat]
  ho3 : p.o3 = ![m % 3, t, 0, 0]
  hchk : ∀ v, v.toNat < 32000 → p.chk v

variable (c : Dev nD) (ids : S4x1024.Idx → BitVec 32) (SC : S56x32000.Idx → F .f32) (W : S8000x7168.Idx → BitVec 32)

/-- What the reads need: the identifiers, the scales, and the slot of step `m` with its rows fetched. -/
def readable (m : ℕ) : sProp 𝕄 :=
  iprop(pt c mIds (ids : Bf F c mIds) ∗ pt c mScale (SC : Bf F c mScale)
    ∗ (mPool.view.loc (c : Thread nD τ) ↦[slotSet (m % 3)]{fullShare} (fetched ids W m : Bf F c mPool)))

omit [FloatOps F] [Named F] in
/-- An element of the row buffer seen as tokens' 56 by 128 words is that row's element. -/
theorem rows_idx (h : S3x64x56x128.numel = S3x64x1x7168.numel) (y : S3x64x56x128.Idx) :
    (Shape.reshapeEquiv h y : S3x64x1x7168.Idx) = ValueIdx.ix4 (y 0 : Fin 3) (y 1 : Fin 64) (0 : Fin 1)
      (⟨(y 2).val * 128 + (y 3).val, by have h2 : (y 2).val < 56 := (y 2).isLt; have h3 : (y 3).val < 128 := (y 3).isLt; omega⟩ : Fin 7168) :=
  Shape.reshapeEquiv_eq_of_rowMajor h (by
    refine (Shape.rowMajor_val_four _).trans (Eq.trans ?_ (Shape.rowMajor_val_four _).symm)
    show (((y 0).val * 64 + (y 1).val) * 1 + 0) * 7168 + ((y 2).val * 128 + (y 3).val) = (((y 0).val * 64 + (y 1).val) * 56 + (y 2).val) * 128 + (y 3).val
    omega)

/-- A token is read. -/
theorem wp_rd (m t : ℕ) (hm : m < 64) (ht : t < 64) (hids : ∀ x, (ids x).toNat < 32000) (p : Rd) (hp : p.Is m t) (Q : Tok F → sProp 𝕄) :
    readable c ids SC W m ⊢ iprop((readable c ids SC W m -∗ Q (tokAt ids SC W m t))
        -∗ wp frame (wpE (defs₀ (F := F)) 𝒱₀ c none) Set.univ (p.prog (F := F)) Q) := by
  obtain ⟨o1, h1, o2, chk, dec, h2, o3, h3⟩ := p
  obtain ⟨ho1, ho2, ho3, hchk⟩ := hp
  dsimp only at ho1 ho2 ho3 hchk
  subst ho1 ho2 ho3
  unfold readable
  iintro ⟨Hi, Hs, Hr⟩ Hk
  unfold Rd.prog smemLoad
  rw [wp_bind]
  iapply (wp_smemLoadElt 𝒱₀ (c : Thread nD τ) none Set.univ (m := mIds) (r := Rect.unit (s := S4x1024) ![m / 16, m % 16 * 64 + t] S1x1.size h1)
    (q := fullShare) (f := (ids : Bf F c mIds)) (S := Finset.univ) (Finset.subset_univ _)) $$ Hi
  iintro Hi
  rw [wp_ret, wp_bind]
  generalize hv : View.read (Elt F) _ _ _ = v
  have hv' : v = idAt ids m t := by
    rw [← hv]
    show ids ((Rect.unit (s := S4x1024) ![m / 16, m % 16 * 64 + t] S1x1.size h1).idx (Shape.Idx.first _)) = _
    unfold idAt
    congr 1
    funext a
    match a with
    | ⟨0, _⟩ => exact Fin.ext (show m / 16 + 1 * 0 = m / 16 % 4 by omega)
    | ⟨1, _⟩ => exact Fin.ext (show m % 16 * 64 + t + 1 * 0 = (m % 16 * 64 + t) % 1024 by omega)
  have hlt : v.toNat < 32000 := hv' ▸ hids _
  imodintro
  unfold Prog.lift
  iapply (wp_assume 𝒱₀ (c : Thread nD τ) none Set.univ (hchk v hlt))
  rw [wp_ret]
  imodintro
  rw [wp_bind]
  iapply (wp_load 𝒱₀ (c : Thread nD τ) none Set.univ (m := mScale)
    (r := (Rect.unit (s := S56x32000) ![0, (v >>> 7 * 128#32).toNat] S56x128.size (h2 v (hchk v hlt))).toLoadRect)
    (q := fullShare) (f := (SC : Bf F c mScale)) (S := Finset.univ) (Finset.subset_univ _)) $$ Hs
  iintro Hs
  rw [wp_ret]
  imodintro
  rw [wp_bind]
  have hsub : mRows.view.setOn (Rect.unit (s := S3x64x56x128) ![m % 3, t, 0, 0] S1x1x56x128.size h3).toLoadRect.set ⊆ slotSet (m % 3) := by
    intro x hx
    obtain ⟨y, hy, rfl⟩ := Finset.mem_map.mp hx
    have hy := Rect.mem_set_unit.mp (show y ∈ (Rect.unit (s := S3x64x56x128) ![m % 3, t, 0, 0] S1x1x56x128.size h3).set from hy)
    have h0 := hy 0
    change m % 3 ≤ (y 0).val ∧ (y 0).val < m % 3 + 1 at h0
    refine Finset.mem_filter.mpr ⟨Finset.mem_univ _, ?_⟩
    exact (congrArg (fun z : S3x64x1x7168.Idx => (z 0).val) (rows_idx (by decide) y)).trans (show (y 0).val = m % 3 by omega)
  iapply (wp_load 𝒱₀ (c : Thread nD τ) none Set.univ (m := mRows)
    (r := (Rect.unit (s := S3x64x56x128) ![m % 3, t, 0, 0] S1x1x56x128.size h3).toLoadRect)
    (q := fullShare) (f := (fetched ids W m : Bf F c mPool)) (S := slotSet (m % 3)) hsub) $$ Hr
  iintro Hr
  rw [wp_ret]
  imodintro
  rw [wp_ret]
  imodintro
  have e : (v, mScale.view.readAt (Elt F) (Rect.unit (s := S56x32000) ![0, (v >>> 7 * 128#32).toNat] S56x128.size (h2 v (hchk v hlt))).toLoadRect (SC : Bf F c mScale),
      mRows.view.readAt (Elt F) (Rect.unit (s := S3x64x56x128) ![m % 3, t, 0, 0] S1x1x56x128.size h3).toLoadRect (fetched ids W m : Bf F c mPool))
      = tokAt ids SC W m t := by
    subst hv'
    have hb := BitVec.toNat_ushiftRight (idAt ids m t) 7
    rw [Nat.shiftRight_eq_div_pow] at hb
    have hw := BitVec.toNat_ushiftRight (idAt ids m t) 2
    rw [Nat.shiftRight_eq_div_pow] at hw
    have hmul : (idAt ids m t >>> 7 * 128#32).toNat = (idAt ids m t >>> 7).toNat * 128 := by
      rw [BitVec.toNat_mul]
      show _ * 128 % 2 ^ 32 = _
      omega
    refine Prod.ext rfl (Prod.ext (funext fun y => ?_) (funext fun y => ?_))
    · show SC ((Rect.unit (s := S56x32000) ![0, (idAt ids m t >>> 7 * 128#32).toNat] S56x128.size _).idx y) = SC _
      congr 1
      funext a
      have h1 : (y 1).val < 128 := (y 1).isLt
      match a with
      | ⟨0, _⟩ => exact Fin.ext (show 0 + 1 * (y 0).val = (y 0).val by omega)
      | ⟨1, _⟩ =>
        refine Fin.ext ((congrArg (fun n => n + 1 * (y 1).val) hmul).trans ?_)
        show (idAt ids m t >>> 7).toNat * 128 + 1 * (y 1).val = ((idAt ids m t >>> 7).toNat * 128 + (y 1).val) % 32000
        omega
    · refine (congrArg (fetched ids W m) (rows_idx (by decide) ((Rect.unit (s := S3x64x56x128) ![m % 3, t, 0, 0] S1x1x56x128.size h3).idx y))).trans ?_
      have h1 : (y 1).val < 1 := (y 1).isLt
      have h2 : (y 2).val < 56 := (y 2).isLt
      have h3 : (y 3).val < 128 := (y 3).isLt
      show W (ValueIdx.ix2 (⟨(idAt ids m (t + 1 * (y 1).val) >>> 2).toNat % 8000, _⟩ : Fin 8000) (⟨(0 + 1 * (y 2).val) * 128 + (0 + 1 * (y 3).val), _⟩ : Fin 7168)) = _
      congr 2
      · exact Fin.ext (congrArg (fun u => (idAt ids m u >>> 2).toNat % 8000) (show t + 1 * (y 1).val = t by omega))
      · exact Fin.ext (show (0 + 1 * (y 2).val) * 128 + (0 + 1 * (y 3).val) = ((y 2).val * 128 + (y 3).val) % 7168 by omega)
  ihave Hk := Hk $$ [Hi Hs Hr]
  · isplitl [Hi]; · iexact Hi
    isplitl [Hs]; · iexact Hs
    iexact Hr
  rw [← e]
  iexact Hk

/-! ## The stores -/

/-- A result's buffer is held, and its elements that `D` names are good. -/
def held (m : Memref sig .tc .vmem S8x56x8x128 .bf16) (G : S8x56x8x128.Idx → Elt F .bf16 → Prop) (D : S8x56x8x128.Idx → Prop) : sProp 𝕄 :=
  iprop(∃ X : S8x56x8x128.Idx → Elt F .bf16, ⌜∀ x, D x → G x (X x)⌝ ∗ owns (c : Thread nD τ) m fullShare X)

/-- Elements stored before piece `g` of group `j` of trip `k`. -/
def doneAt (k j g : ℕ) (x : S8x56x8x128.Idx) : Prop :=
  (x 0).val < k ∨ (x 0).val = k ∧ ((x 2).val < 2 * j ∨ (x 2).val < 2 * j + 2 ∧ (x 1).val < 8 * g)

omit [FloatOps F] [Named F] in
theorem held_mono (m : Memref sig .tc .vmem S8x56x8x128 .bf16) (G : S8x56x8x128.Idx → Elt F .bf16 → Prop) {D D' : S8x56x8x128.Idx → Prop}
    (h : ∀ x, D' x → D x) : held c m G D ⊢ held c m G D' := by
  unfold held
  iintro ⟨%X, %hX, H⟩
  iexists X
  isplitr
  · ipureintro; exact fun x hx => hX x (h x hx)
  iexact H

/-- The place is piece `g` of group `j` of trip `k`. -/
abbrev Put.Is (p : Put) (k j g : ℕ) : Prop := p.o = ![k, 8 * g, 2 * j, 0]

/-- The element of the block that element `y` of piece `g` of group `j` of trip `k` is. -/
def pieceIdx (k : Fin 8) (j : Fin 4) (g : Fin 7) (y : S1x8x2x128.Idx) : S8x56x8x128.Idx :=
  ValueIdx.ix4 k (⟨8 * g.val + (y 1).val, by have : (y 1).val < 8 := (y 1).isLt; omega⟩ : Fin 56)
    (⟨2 * j.val + (y 2).val, by have : (y 2).val < 2 := (y 2).isLt; omega⟩ : Fin 8) (y 3 : Fin 128)

omit [FloatOps F] [Named F] in
/-- After a good piece is stored, the elements stored so far are good. -/
theorem put_good (v : View sig .tc .vmem S8x56x8x128 .bf16) (G : S8x56x8x128.Idx → Elt F .bf16 → Prop) (k : Fin 8) (j : Fin 4) (g : Fin 7)
    (h : ∀ a, (![k.val, 8 * g.val, 2 * j.val, 0] : Fin 4 → ℕ) a + S1x8x2x128.size a ≤ S8x56x8x128.size a)
    (x : Vec F S1x8x2x128 .bf16) (hx : ∀ y, G (pieceIdx k j g y) (x y)) (f : v.ty.Contents (Elt F)) (hf : ∀ z, doneAt k j g z → G z (v.read (Elt F) f z))
    (z : S8x56x8x128.Idx) (hz : doneAt k j (g.val + 1) z) :
    G z (v.read (Elt F) ((v.slice (Rect.unit (s := S8x56x8x128) ![k.val, 8 * g.val, 2 * j.val, 0] S1x8x2x128.size h)).write (Elt F) f x Finset.univ) z) := by
  by_cases hr : z ∈ (Rect.unit (s := S8x56x8x128) ![k.val, 8 * g.val, 2 * j.val, 0] S1x8x2x128.size h).set
  · obtain ⟨y, rfl⟩ := (Rect.unit (s := S8x56x8x128) ![k.val, 8 * g.val, 2 * j.val, 0] S1x8x2x128.size h).exists_idx_of_mem hr
    have e : (Rect.unit (s := S8x56x8x128) ![k.val, 8 * g.val, 2 * j.val, 0] S1x8x2x128.size h).idx y = pieceIdx k j g y := by
      funext a
      match a with
      | ⟨0, _⟩ => exact Fin.ext (show k.val + 1 * (y 0).val = k.val by have : (y 0).val < 1 := (y 0).isLt; omega)
      | ⟨1, _⟩ => exact Fin.ext (show 8 * g.val + 1 * (y 1).val = 8 * g.val + (y 1).val by omega)
      | ⟨2, _⟩ => exact Fin.ext (show 2 * j.val + 1 * (y 2).val = 2 * j.val + (y 2).val by omega)
      | ⟨3, _⟩ => exact Fin.ext (show 0 + 1 * (y 3).val = (y 3).val by omega)
    have e2 := View.read_slice_write_emb (v := v) (Val := Elt F) (Rect.unit (s := S8x56x8x128) ![k.val, 8 * g.val, 2 * j.val, 0] S1x8x2x128.size h) f x
      (Finset.mem_univ y)
    refine Eq.mpr (congrArg (G _) e2) ?_
    exact Eq.mpr (congrArg (fun i => G i (x y)) e) (hx y)
  · have e2 := View.read_slice_write_of_not_mem (v := v) (Val := Elt F) (Rect.unit (s := S8x56x8x128) ![k.val, 8 * g.val, 2 * j.val, 0] S1x8x2x128.size h) f x
      Finset.univ (y := z) (by rw [Rect.map_emb_univ]; exact hr)
    refine Eq.mpr (congrArg (G _) e2) (hf z ?_)
    have hr' : ¬ ((z 0).val = k.val ∧ (8 * g.val ≤ (z 1).val ∧ (z 1).val < 8 * g.val + 8) ∧ (2 * j.val ≤ (z 2).val ∧ (z 2).val < 2 * j.val + 2)) := by
      rintro ⟨h0, h1, h2⟩
      refine hr (Rect.mem_set_unit.mpr fun a => ?_)
      match a with
      | ⟨0, _⟩ => exact ⟨h0.ge, h0.le.trans_lt (Nat.lt_succ_self _)⟩
      | ⟨1, _⟩ => exact h1
      | ⟨2, _⟩ => exact h2
      | ⟨3, _⟩ => exact ⟨Nat.zero_le _, (z 3).isLt.trans_le (Nat.le_add_left _ _)⟩
    unfold doneAt at hz ⊢
    omega

/-- A good piece is stored. -/
theorem wp_put (m : Memref sig .tc .vmem S8x56x8x128 .bf16) (hm : m.IsWhole) (G : S8x56x8x128.Idx → Elt F .bf16 → Prop)
    (k : Fin 8) (j : Fin 4) (g : Fin 7) (p : Put) (hp : p.Is k j g) (x : Vec F S1x8x2x128 .bf16) (hx : ∀ y, G (pieceIdx k j g y) (x y)) (Q : PUnit → sProp 𝕄) :
    held c m G (doneAt k j g) ⊢ iprop((held c m G (doneAt k j (g.val + 1)) -∗ Q ⟨⟩)
        -∗ wp frame (wpE (defs₀ (F := F)) 𝒱₀ c none) Set.univ (p.prog (F := F) m hm x) Q) := by
  obtain ⟨o, h, hpk⟩ := p
  change o = _ at hp
  subst hp
  unfold held owns
  iintro ⟨%X, %hX, ⟨%f, %hf, H⟩⟩ Hk
  unfold Put.prog Prog.lift
  rw [wp_bind]
  iapply (wp_load 𝒱₀ (c : Thread nD τ) none Set.univ (m := m)
    (r := (Rect.unit (s := S8x56x8x128) ![k.val, 8 * g.val, 2 * j.val, 0] S1x8x2x128.size h).toLoadRect)
    (q := fullShare) (f := f) (S := m.view.set) (View.setOn_subset_set _ _)) $$ H
  iintro H
  rw [wp_ret]
  imodintro
  iapply (wp_store 𝒱₀ (c : Thread nD τ) none Set.univ (m := m)
    (r := Rect.unit (s := S8x56x8x128) ![k.val, 8 * g.val, 2 * j.val, 0] S1x8x2x128.size h) (Mk := Finset.univ) (w := x)
    (f := f) (S := m.view.set) (m.setOn_access_subset _ _)) $$ H
  iintro H
  rw [wp_ret]
  imodintro
  iapply Hk
  iexists _
  isplitr
  swap
  · iexists _
    isplitr
    swap
    · iexact H
    ipureintro; rfl
  ipureintro
  exact put_good m.view G k j g h x hx f (fun z hz => by rw [hf]; exact hX z hz)

/-- The seven pieces of each result are stored. -/
theorem wp_stores (o : Memref sig .tc .vmem S8x56x8x128 .bf16) (ho : o.IsWhole) (e : Memref sig .tc .vmem S8x56x8x128 .bf16) (he : e.IsWhole)
    (Ge Go : S8x56x8x128.Idx → Elt F .bf16 → Prop) (k : Fin 8) (j : Fin 4) (p : Fin 7 → Put) (hp : ∀ g : Fin 7, (p g).Is k j g)
    (xe xo : Fin 7 → Vec F S1x8x2x128 .bf16) (hxe : ∀ g y, Ge (pieceIdx k j g y) (xe g y)) (hxo : ∀ g y, Go (pieceIdx k j g y) (xo g y)) (Q : PUnit → sProp 𝕄) :
    iprop(held c e Ge (doneAt k j 0) ∗ held c o Go (doneAt k j 0))
      ⊢ iprop((iprop(held c e Ge (doneAt k (j.val + 1) 0) ∗ held c o Go (doneAt k (j.val + 1) 0)) -∗ Q ⟨⟩)
        -∗ wp frame (wpE (defs₀ (F := F)) 𝒱₀ c none) Set.univ (stores (F := F) o ho e he p xe xo) Q) := by
  have se (g : Fin 7) (n n' : ℕ) (hn : g.val = n) (hn' : g.val + 1 = n') (Q : PUnit → sProp 𝕄) :
      held c e Ge (doneAt k j n) ⊢ iprop((held c e Ge (doneAt k j n') -∗ Q ⟨⟩)
        -∗ wp frame (wpE (defs₀ (F := F)) 𝒱₀ c none) Set.univ ((p g).prog (F := F) e he (xe g)) Q) := by
    subst hn hn'
    exact wp_put (F := F) c e he Ge k j g (p g) (hp g) (xe g) (hxe g) Q
  have so (g : Fin 7) (n n' : ℕ) (hn : g.val = n) (hn' : g.val + 1 = n') (Q : PUnit → sProp 𝕄) :
      held c o Go (doneAt k j n) ⊢ iprop((held c o Go (doneAt k j n') -∗ Q ⟨⟩)
        -∗ wp frame (wpE (defs₀ (F := F)) 𝒱₀ c none) Set.univ ((p g).prog (F := F) o ho (xo g)) Q) := by
    subst hn hn'
    exact wp_put (F := F) c o ho Go k j g (p g) (hp g) (xo g) (hxo g) Q
  have fin (x : S8x56x8x128.Idx) : doneAt k (j.val + 1) 0 x → doneAt k j 7 x := by
    have h1 : (x 1).val < 56 := (x 1).isLt
    unfold doneAt; omega
  iintro ⟨He, Ho⟩ Hk
  unfold stores
  simp only [wp_bind]
  iapply (se 0 0 1 rfl rfl _) $$ He
  iintro He
  iapply (so 0 0 1 rfl rfl _) $$ Ho
  iintro Ho
  iapply (se 1 1 2 rfl rfl _) $$ He
  iintro He
  iapply (so 1 1 2 rfl rfl _) $$ Ho
  iintro Ho
  iapply (se 2 2 3 rfl rfl _) $$ He
  iintro He
  iapply (so 2 2 3 rfl rfl _) $$ Ho
  iintro Ho
  iapply (se 3 3 4 rfl rfl _) $$ He
  iintro He
  iapply (so 3 3 4 rfl rfl _) $$ Ho
  iintro Ho
  iapply (se 4 4 5 rfl rfl _) $$ He
  iintro He
  iapply (so 4 4 5 rfl rfl _) $$ Ho
  iintro Ho
  iapply (se 5 5 6 rfl rfl _) $$ He
  iintro He
  iapply (so 5 5 6 rfl rfl _) $$ Ho
  iintro Ho
  iapply (se 6 6 7 rfl rfl _) $$ He
  iintro He
  iapply (so 6 6 7 rfl rfl _) $$ Ho
  iintro Ho
  rw [wp_ret]
  imodintro
  iapply Hk
  isplitl [He]
  · iapply (held_mono c e Ge fin) $$ He
  iapply (held_mono c o Go fin) $$ Ho

/-- A group is run: two tokens read, their pieces stored. -/
theorem wp_group (o : Memref sig .tc .vmem S8x56x8x128 .bf16) (ho : o.IsWhole) (e : Memref sig .tc .vmem S8x56x8x128 .bf16) (he : e.IsWhole)
    (Ge Go : S8x56x8x128.Idx → Elt F .bf16 → Prop) (m : ℕ) (hm : m < 64) (hids : ∀ x, (ids x).toNat < 32000) (k : Fin 8) (j : Fin 4) (ra rb : Rd)
    (hra : ra.Is m (8 * k.val + 2 * j.val)) (hrb : rb.Is m (8 * k.val + 2 * j.val + 1))
    (p : Fin 7 → Put) (hp : ∀ g : Fin 7, (p g).Is k j g) (xe xo : Tok F → Tok F → Fin 7 → Vec F S1x8x2x128 .bf16)
    (hxe : ∀ g y, Ge (pieceIdx k j g y) (xe (tokAt ids SC W m (8 * k.val + 2 * j.val)) (tokAt ids SC W m (8 * k.val + 2 * j.val + 1)) g y))
    (hxo : ∀ g y, Go (pieceIdx k j g y) (xo (tokAt ids SC W m (8 * k.val + 2 * j.val)) (tokAt ids SC W m (8 * k.val + 2 * j.val + 1)) g y))
    (Q : PUnit → sProp 𝕄) :
    iprop(readable c ids SC W m ∗ held c e Ge (doneAt k j 0) ∗ held c o Go (doneAt k j 0))
      ⊢ iprop((iprop(readable c ids SC W m ∗ held c e Ge (doneAt k (j.val + 1) 0) ∗ held c o Go (doneAt k (j.val + 1) 0)) -∗ Q ⟨⟩)
        -∗ wp frame (wpE (defs₀ (F := F)) 𝒱₀ c none) Set.univ (group (F := F) o ho e he ra rb p xe xo) Q) := by
  iintro ⟨Hr, H⟩ Hk
  unfold group
  simp only [wp_bind]
  iapply (wp_rd c ids SC W m _ hm (by omega) hids ra hra _) $$ Hr
  iintro Hr
  iapply (wp_rd c ids SC W m _ hm (by omega) hids rb hrb _) $$ Hr
  iintro Hr
  iapply (wp_stores c o ho e he Ge Go k j p hp _ _ hxe hxo _) $$ H
  iintro H
  iapply Hk
  isplitl [Hr]; · iexact Hr
  iexact H

/-- A trip is run: the eight tokens of the trip, of step `m`. -/
theorem wp_trip (o : Memref sig .tc .vmem S8x56x8x128 .bf16) (ho : o.IsWhole) (e : Memref sig .tc .vmem S8x56x8x128 .bf16) (he : e.IsWhole)
    (Ge Go : S8x56x8x128.Idx → Elt F .bf16 → Prop) (m : ℕ) (hm : m < 64) (hids : ∀ x, (ids x).toNat < 32000) (k : Fin 8) (r : Fin 8 → Rd)
    (hr : ∀ a, (r a).Is m (8 * k.val + a.val)) (p : Fin 4 → Fin 7 → Put) (hp : ∀ (j : Fin 4) (g : Fin 7), (p j g).Is k j g)
    (xe xo : Tok F → Tok F → Fin 7 → Vec F S1x8x2x128 .bf16)
    (hxe : ∀ (j : Fin 4) g y, Ge (pieceIdx k j g y) (xe (tokAt ids SC W m (8 * k.val + 2 * j.val)) (tokAt ids SC W m (8 * k.val + 2 * j.val + 1)) g y))
    (hxo : ∀ (j : Fin 4) g y, Go (pieceIdx k j g y) (xo (tokAt ids SC W m (8 * k.val + 2 * j.val)) (tokAt ids SC W m (8 * k.val + 2 * j.val + 1)) g y))
    (Q : PUnit → sProp 𝕄) :
    iprop(readable c ids SC W m ∗ held c e Ge (fun x => (x 0).val < k.val) ∗ held c o Go (fun x => (x 0).val < k.val))
      ⊢ iprop((iprop(readable c ids SC W m ∗ held c e Ge (fun x => (x 0).val < k.val + 1) ∗ held c o Go (fun x => (x 0).val < k.val + 1)) -∗ Q ⟨⟩)
        -∗ wp frame (wpE (defs₀ (F := F)) 𝒱₀ c none) Set.univ (trip (F := F) o ho e he r p xe xo) Q) := by
  have s (j : Fin 4) (a b : Fin 8) (n n' : ℕ) (hn : j.val = n) (hn' : j.val + 1 = n') (ha : a.val = 2 * j.val) (hb : b.val = 2 * j.val + 1) (Q : PUnit → sProp 𝕄) :
      iprop(readable c ids SC W m ∗ held c e Ge (doneAt k n 0) ∗ held c o Go (doneAt k n 0))
      ⊢ iprop((iprop(readable c ids SC W m ∗ held c e Ge (doneAt k n' 0) ∗ held c o Go (doneAt k n' 0)) -∗ Q ⟨⟩)
        -∗ wp frame (wpE (defs₀ (F := F)) 𝒱₀ c none) Set.univ (group (F := F) o ho e he (r a) (r b) (p j) xe xo) Q) := by
    subst hn hn'
    exact wp_group (F := F) c ids SC W o ho e he Ge Go m hm hids k j (r a) (r b) (ha ▸ hr a) (by have := hr b; rw [hb] at this; exact this) (p j) (hp j) xe xo
      (hxe j) (hxo j) Q
  have start (x : S8x56x8x128.Idx) : doneAt k 0 0 x → (x 0).val < k.val := by unfold doneAt; omega
  have fin (x : S8x56x8x128.Idx) : (x 0).val < k.val + 1 → doneAt k 4 0 x := by
    have h2 : (x 2).val < 8 := (x 2).isLt
    unfold doneAt; omega
  iintro ⟨Hr, He, Ho⟩ Hk
  ihave He := (held_mono c e Ge start) $$ He
  ihave Ho := (held_mono c o Go start) $$ Ho
  unfold trip
  simp only [wp_bind]
  iapply (s 0 0 1 0 1 rfl rfl rfl rfl _) $$ [Hr He Ho]
  · isplitl [Hr]; · iexact Hr
    isplitl [He]; · iexact He
    iexact Ho
  iintro H
  iapply (s 1 2 3 1 2 rfl rfl rfl rfl _) $$ H
  iintro H
  iapply (s 2 4 5 2 3 rfl rfl rfl rfl _) $$ H
  iintro H
  iapply (s 3 6 7 3 4 rfl rfl rfl rfl _) $$ H
  iintro ⟨Hr, He, Ho⟩
  rw [wp_ret]
  imodintro
  iapply Hk
  isplitl [Hr]; · iexact Hr
  isplitl [He]
  · iapply (held_mono c e Ge fin) $$ He
  iapply (held_mono c o Go fin) $$ Ho

end Cert.Proof.KernelIdeal
-- ==== Proof.KernelIdeal.Tokens.lean ====
/- The loop over the step's tokens, run. -/
module

public import proofs.«01_k».proof.Proof.KernelIdeal.TripRun

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

omit [FloatOps F] [Named F] in
/-- An identifier below the vocabulary's size lies in a block of 128 columns of scales. -/
theorem scales_inb (v : BitVec 32) (hv : v.toNat < 32000) :
    128 ∣ (v >>> 7 * 128#32).toNat ∧ ∀ a, (![0, (v >>> 7 * 128#32).toNat] : Fin 2 → ℕ) a + S56x128.size a ≤ S56x32000.size a := by
  have hb := BitVec.toNat_ushiftRight v 7
  rw [Nat.shiftRight_eq_div_pow] at hb
  have hmul : (v >>> 7 * 128#32).toNat = (v >>> 7).toNat * 128 := by
    rw [BitVec.toNat_mul]
    show _ * 128 % 2 ^ 32 = _
    omega
  rw [hmul]
  refine ⟨Nat.dvd_mul_left _ _, fun a => ?_⟩
  match a with
  | ⟨0, _⟩ => show 0 + 56 ≤ 56; omega
  | ⟨1, _⟩ => show (v >>> 7).toNat * 128 + 128 ≤ 32000; omega

omit [FloatOps F] [Named F] in
/-- The grid coordinates are the one coordinate. -/
theorem coord_eq (i : grid0.Coords) : i = (fun | ⟨0, _⟩ => i 0 : grid0.Coords) := by
  funext a
  match a with
  | ⟨0, _⟩ => rfl

/-- A trip reads its eight tokens of the step. -/
theorem rds_is (i : grid0.Coords) (k : Fin k0_t4_loop.trips) (a : Fin 8) : (rds i k a).Is (i 0).val (8 * k.val + a.val) := by
  match a with
  | ⟨0, _⟩ | ⟨1, _⟩ | ⟨2, _⟩ | ⟨3, _⟩ | ⟨4, _⟩ | ⟨5, _⟩ | ⟨6, _⟩ | ⟨7, _⟩ =>
    refine ⟨?_, rfl, ?_, fun v hv => scales_inb v hv⟩ <;> dsimp only [rds] <;> rw [coord_eq i] <;> dsimp only <;>
      generalize (i 0 : Fin 64) = n <;> revert n k <;> decide +kernel

/-- A trip stores its twenty-eight pieces of each result. -/
theorem puts_is (k : Fin k0_t4_loop.trips) (j : Fin 4) (g : Fin 7) : (puts k j g).Is k.val j.val g.val := by
  match j with
  | ⟨0, _⟩ | ⟨1, _⟩ | ⟨2, _⟩ | ⟨3, _⟩ =>
    match g with
    | ⟨0, _⟩ | ⟨1, _⟩ | ⟨2, _⟩ | ⟨3, _⟩ | ⟨4, _⟩ | ⟨5, _⟩ | ⟨6, _⟩ =>
      show Put.o (puts k _ _) = _
      dsimp only [puts]
      revert k
      decide +kernel

variable (c : Dev nD) (ids : S4x1024.Idx → BitVec 32) (SC : S56x32000.Idx → F .f32) (W : S8000x7168.Idx → BitVec 32)

/-- The loop is run: from any contents of the two results' blocks, every element of both is good. -/
theorem wp_tokens (i : grid0.Coords) (hids : ∀ x, (ids x).toNat < 32000) (w : Memref sig .tc .vmem S56x128 .bf16) (hw : w.IsWhole)
    (o : Memref sig .tc .vmem S8x56x8x128 .bf16) (ho : o.IsWhole) (e : Memref sig .tc .vmem S8x56x8x128 .bf16) (he : e.IsWhole)
    (Ge Go : S8x56x8x128.Idx → Elt F .bf16 → Prop) (v0 v10 : BitVec 32) (v17 : Vec F S56x128 .bf16)
    (hxe : ∀ (k : Fin 8) (j : Fin 4) g y, Ge (pieceIdx k j g y)
      (embPiece (tokAt ids SC W (i 0).val (8 * k.val + 2 * j.val)) (tokAt ids SC W (i 0).val (8 * k.val + 2 * j.val + 1)) g y))
    (hxo : ∀ (k : Fin 8) (j : Fin 4) g y, Go (pieceIdx k j g y)
      (outPiece v17 (tokAt ids SC W (i 0).val (8 * k.val + 2 * j.val)) (tokAt ids SC W (i 0).val (8 * k.val + 2 * j.val + 1)) g y))
    (Xe Xo : S8x56x8x128.Idx → Elt F .bf16) (Q : Unit → sProp 𝕄) :
    iprop(readable c ids SC W (i 0).val ∗ owns (c : Thread nD τ) e fullShare Xe ∗ owns (c : Thread nD τ) o fullShare Xo)
      ⊢ iprop((iprop(readable c ids SC W (i 0).val ∗ (∃ X : S8x56x8x128.Idx → Elt F .bf16, ⌜∀ x, Ge x (X x)⌝ ∗ owns (c : Thread nD τ) e fullShare X)
          ∗ (∃ X : S8x56x8x128.Idx → Elt F .bf16, ⌜∀ x, Go x (X x)⌝ ∗ owns (c : Thread nD τ) o fullShare X)) -∗ Q ⟨⟩)
        -∗ wp frame (wpE (defs₀ (F := F)) 𝒱₀ c none) Set.univ (Scf.Loop.for k0_t4_loop k0_t4_ok ⟨⟩
          (k0_t4_body (F := F) i mIds (Memref.isWhole_whole _) mWords (Memref.isWhole_whole _) (Memref.whole main_v3) (Memref.isWhole_whole _) w hw o ho e he
            mPool (Memref.isWhole_whole _) mScale (Memref.isWhole_whole _) cc0_scratch2 cc0_scratch3 v0 v10 v17)) Q) := by
  iintro ⟨Hr, He, Ho⟩ Hk
  iapply (Scf.wp_for (M := 𝕄) frame (wpE (defs₀ (F := F)) 𝒱₀ c none) Set.univ k0_t4_loop.lb k0_t4_loop.ub k0_t4_loop.st k0_t4_ok () _
    (fun k _ => iprop(readable c ids SC W (i 0).val ∗ held c e Ge (fun x => (x 0).val < k) ∗ held c o Go (fun x => (x 0).val < k)))
    (fun k acc => by
      rw [body4_eq]
      iintro H
      iapply (wp_trip c ids SC W o ho e he Ge Go (i 0).val (i 0).isLt hids ⟨k.val, k.isLt⟩ (rds i k) (rds_is i k) (puts k) (puts_is k)
        embPiece (outPiece v17) (hxe ⟨k.val, k.isLt⟩) (hxo ⟨k.val, k.isLt⟩) _) $$ H
      iintro H
      iexact H))
  isplitl [Hr He Ho]
  · isplitl [Hr]; · iexact Hr
    unfold held
    isplitl [He]
    · iexists Xe
      isplitr
      · ipureintro; exact fun x hx => absurd hx (Nat.not_lt_zero _)
      iexact He
    iexists Xo
    isplitr
    · ipureintro; exact fun x hx => absurd hx (Nat.not_lt_zero _)
    iexact Ho
  iintro %acc ⟨Hr, He, Ho⟩
  iapply Hk
  isplitl [Hr]; · iexact Hr
  unfold held
  icases He with ⟨%X, %hX, He⟩
  icases Ho with ⟨%Y, %hY, Ho⟩
  isplitl [He]
  · iexists X
    isplitr
    · ipureintro; exact fun x => hX x (x 0).isLt
    iexact He
  iexists Y
  isplitr
  · ipureintro; exact fun x => hY x (x 0).isLt
  iexact Ho

end Cert.Proof.KernelIdeal
-- ==== Proof.KernelIdeal.Slots.lean ====
/- The row buffer's three slots: a slot at rest, a slot a step's rows are being copied into, and a slot they have all arrived in. -/
module

public import proofs.«01_k».proof.Proof.KernelIdeal.Tokens

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The scales' source. -/
abbrev mScaleSrc : Memref sig .tc .hbm S56x32000 .f32 := Memref.whole main_v3
/-- The scales' semaphore. -/
abbrev scaleSem : SemLoc sig := .dma cc0_scratch3.sem
/-- The units the scales' copy signals. -/
abbrev scaleUnits : ℕ := mScale.view.amount scaleSem

variable (c : Dev nD) (ids : S4x1024.Idx → BitVec 32) (SC : S56x32000.Idx → F .f32) (W : S8000x7168.Idx → BitVec 32)

/-- Step `m`'s slot at rest: its rows at something, its semaphore at zero. -/
def idle (m : ℕ) : sProp 𝕄 :=
  iprop(∃ f : S3x64x1x7168.Idx → BitVec 32, (mPool.view.loc (c : Thread nD τ) ↦[slotSet (m % 3)]{fullShare} (f : Bf F c mPool)) ∗ semVal ((c : Thread nD τ), stepSem m) 0)

/-- Step `m`'s slot: while the step is ahead, its copies in flight; no step past the last, and the slot at rest. -/
def slotSt (m : ℕ) : sProp 𝕄 := if m < 64 then stepBatch c ids W m 64 else idle c m

/-- The words, held at the share that the copies of the first `m` steps leave. -/
abbrev wordsAt (m : ℕ) : sProp 𝕄 := mWords.view.loc (c : Thread nD τ) ↦[Finset.univ]{shareDrop fullShare (m * 64)} (W : Bf F c mWords)

omit [FloatOps F] [Named F] in
theorem idle_mod {m m' : ℕ} (h : m % 3 = m' % 3) : idle (F := F) c m = idle c m' := by
  unfold idle stepSem
  simp only [h]

omit [FloatOps F] [Named F] in
/-- A slot is its 64 rows. -/
theorem slotSet_rows (s : ℕ) : slotSet s = Finset.univ.biUnion (fun t : Fin 64 => rowSet s t.val) := by
  ext x
  simp only [slotSet, rowSet, Finset.mem_filter, Finset.mem_univ, true_and, Finset.mem_biUnion]
  exact ⟨fun h => ⟨x 1, h, rfl⟩, fun ⟨_, h, _⟩ => h⟩

omit [FloatOps F] [Named F] in
theorem rowSet_disj (s : ℕ) : ∀ t ∈ (Finset.univ : Finset (Fin 64)), ∀ t' ∈ (Finset.univ : Finset (Fin 64)), t ≠ t' →
    Disjoint (rowSet s t.val) (rowSet s t'.val) := by
  intro t _ t' _ h
  refine Finset.disjoint_left.mpr fun x hx hx' => h (Fin.ext ?_)
  simp only [rowSet, Finset.mem_filter, Finset.mem_univ, true_and] at hx hx'
  exact hx.2.symm.trans hx'.2

omit [FloatOps F] [Named F] in
/-- A slot held is its rows held. -/
theorem slot_rows (s : ℕ) (f : S3x64x1x7168.Idx → BitVec 32) :
    (mPool.view.loc (c : Thread nD τ) ↦[slotSet s]{fullShare} (f : Bf F c mPool) : sProp 𝕄)
      = bigSep Finset.univ (fun t : Fin 64 => mPool.view.loc (c : Thread nD τ) ↦[rowSet s t.val]{fullShare} (f : Bf F c mPool)) := by
  rw [slotSet_rows]
  exact pointsTo_biUnion (ℓ := mPool.view.loc (c : Thread nD τ)) Finset.univ (fun t : Fin 64 => rowSet s t.val) (rowSet_disj s)

/-- A step starts from a slot at rest. -/
theorem step_start (m : ℕ) :
    iprop(idle (F := F) c m ∗ wordsAt c W m) ⊢ |={Set.univ}=> iprop(∃ f : S3x64x1x7168.Idx → BitVec 32, fly c ids W f m 0) := by
  unfold idle
  iintro ⟨⟨%f, Hp, Hs⟩, Hw⟩
  imod (batch_alloc' (EC (F := F)) (c := (c : Thread nD τ)) () rowUnits (rowD c ids W m) (E := Set.univ)) $$ Hs with HB
  imodintro
  iexists f
  unfold fly
  isplitl [Hw]; · iexact Hw
  isplitl [HB]; · iexact HB
  iapply (show (mPool.view.loc (c : Thread nD τ) ↦[slotSet (m % 3)]{fullShare} (f : Bf F c mPool) : sProp 𝕄)
      ⊢ bigSep (pending 0) (fun u : Fin 64 => mPool.view.loc (c : Thread nD τ) ↦[rowSet (m % 3) u.val]{fullShare} (f : Bf F c mPool))
    from Entails.of_eq (by rw [slot_rows, pending_zero])) $$ Hp

/-- All its copies started, a step leaves the words at the next share and its slot in flight. -/
theorem step_flying (f : S3x64x1x7168.Idx → BitVec 32) (m : ℕ) (hm : m < 64) :
    fly (F := F) c ids W f m 64 ⊢ iprop(wordsAt c W (m + 1) ∗ slotSt c ids W m) := by
  unfold fly slotSt
  rw [if_pos hm, show m * 64 + 64 = (m + 1) * 64 by omega]
  iintro ⟨Hw, HB, -⟩
  isplitl [Hw]; · iexact Hw
  iexact HB

/-- Every row of a step arrived is its slot at what the step fetches. -/
theorem step_arrived (m : ℕ) :
    bigSep Finset.univ (rowD (F := F) c ids W m) ⊢ (mPool.view.loc (c : Thread nD τ) ↦[slotSet (m % 3)]{fullShare} (fetched ids W m : Bf F c mPool)) := by
  rw [slot_rows]
  exact Entails.of_eq rfl

/-- The scales' copy in flight. -/
abbrev scaleFly : sProp 𝕄 :=
  Batch (EC (F := F)) (c : Thread nD τ) scaleSem () scaleUnits (fun _ : Fin 1 => pt c mScale (SC : Bf F c mScale)) 1 0
/-- The scales arrived. -/
abbrev scaleHere : sProp 𝕄 := iprop(pt c mScale (SC : Bf F c mScale) ∗ semVal ((c : Thread nD τ), scaleSem) 0)
/-- The scales not yet copied. -/
abbrev scaleAway : sProp 𝕄 :=
  iprop((∃ f : Bf F c mScale, pt c mScale f) ∗ semVal ((c : Thread nD τ), scaleSem) 0 ∗ pt c mScaleSrc (SC : Bf F c mScaleSrc))

/-- The scales once step `n` has started. -/
def scaleSt (n : ℕ) : sProp 𝕄 := if n = 0 then scaleFly c SC else scaleHere c SC

/-- The scales' copy started. -/
theorem wp_scaleStart (k : PUnit → Prog (TpuEff nD τ sig (Elt F) Λ₀ .tc) PUnit) (Q : PUnit → sProp 𝕄) hs hd ht :
    scaleAway c SC
      ⊢ iprop((scaleFly c SC -∗ wp frame (wpE (defs₀ (F := F)) 𝒱₀ c none) Set.univ (k ⟨⟩) Q)
        -∗ wp frame (wpE (defs₀ (F := F)) 𝒱₀ c none) Set.univ (.op (.enqueueDma mScaleSrc (.here mScale) scaleSem hs hd ht) k) Q) := by
  iintro ⟨⟨%f, Hd⟩, Hs, Hsrc⟩ Hk
  iapply (fupd_wp frame (wpE (defs₀ (F := F)) 𝒱₀ c none) Set.univ _ _)
  imod (batch_alloc' (EC (F := F)) (c := (c : Thread nD τ)) () scaleUnits (fun _ : Fin 1 => pt c mScale (SC : Bf F c mScale)) (E := Set.univ)) $$ Hs with HB
  imodintro
  iapply (Rows.wp_rowCopy (EC (F := F)) 𝒱₀ (c : Thread nD τ) none
    (src := mScaleSrc) (dst := mScale) (sm := scaleSem) (q := fullShare) (i := 0) (W := (SC : Bf F c mScaleSrc)) (fd := f)
    (G := (SC : Bf F c mScale)) (S := Finset.univ) (D := fun _ : Fin 1 => pt c mScale (SC : Bf F c mScale)) (j := 0) (u := 0) () scaleUnits rfl Nat.one_pos (Nat.zero_le _)
    (Memref.isWhole_whole _).set_eq_univ rfl .rfl) $$ [Hsrc Hd HB]
  · isplitl [Hsrc]; · iexact Hsrc
    isplitl [Hd]; · iexact Hd
    iexact HB
  iintro ⟨-, HB⟩
  iapply Hk
  iexact HB

/-- The scales' copy waited for. -/
theorem wp_scaleWait (k : PUnit → Prog (TpuEff nD τ sig (Elt F) Λ₀ .tc) PUnit) (Q : PUnit → sProp 𝕄) hs hd {O : Waits sig Unit} :
    iprop(scaleFly c SC ∗ owes (c : Thread nD τ) 0 O)
      ⊢ iprop((iprop(scaleHere c SC ∗ ∃ O, owes (c : Thread nD τ) 0 O) -∗ wp frame (wpE (defs₀ (F := F)) 𝒱₀ c none) Set.univ (k ⟨⟩) Q)
        -∗ wp frame (wpE (defs₀ (F := F)) 𝒱₀ c none) Set.univ (.op (.waitDma2 cc0_scratch3.sem mScaleSrc mScale hs hd) k) Q) := by
  iintro H Hk
  iapply (wp_waitBatchAll (EC (F := F)) 𝒱₀ (c : Thread nD τ) none () (J := scaleUnits) (N := scaleUnits) rfl (by decide) (by decide)) $$ H
  iintro ⟨HD, Hs, HO⟩
  iapply Hk
  isplitl [HD Hs]
  · isplitl [HD]
    · iapply (show bigSep (Finset.univ : Finset (Fin 1)) (fun _ => pt c mScale (SC : Bf F c mScale)) ⊢ pt c mScale (SC : Bf F c mScale)
        from Entails.of_eq (by rw [show (Finset.univ : Finset (Fin 1)) = {0} from rfl, bigSep_singleton])) $$ HD
    iexact Hs
  iexists _
  iexact HO

/-- The rows of step `m` waited for. -/
theorem wp_stepWait (m : ℕ) (hm : m < 64) {o1 : Fin 1 → ℕ} (h1 : ∀ a, o1 a + S1.size a ≤ S3.size a) {o2 : Fin 4 → ℕ}
    (h2 : ∀ a, o2 a + S1x64x1x7168.size a ≤ S3x64x1x7168.size a) (ho1 : o1 = ![m % 3]) (ho2 : o2 = ![m % 3, 0, 0, 0])
    (k : PUnit → Prog (TpuEff nD τ sig (Elt F) Λ₀ .tc) PUnit) (Q : PUnit → sProp 𝕄) hs hd {O : Waits sig Unit} :
    iprop(slotSt c ids W m ∗ owes (c : Thread nD τ) 0 O)
      ⊢ iprop((iprop((mPool.view.loc (c : Thread nD τ) ↦[slotSet (m % 3)]{fullShare} (fetched ids W m : Bf F c mPool)) ∗ semVal ((c : Thread nD τ), stepSem m) 0
            ∗ ∃ O, owes (c : Thread nD τ) 0 O) -∗ wp frame (wpE (defs₀ (F := F)) 𝒱₀ c none) Set.univ (k ⟨⟩) Q)
        -∗ wp frame (wpE (defs₀ (F := F)) 𝒱₀ c none) Set.univ (.op (.waitDma2 ((cc0_scratch2.slice (Rect.unit (s := S3) o1 S1.size h1)).squeeze S_ squeezes_S1_S_).sem
            ((mPool.slice (Rect.unit (s := S3x64x1x7168) o2 S1x64x1x7168.size h2) (fun _ => rfl)).squeeze S64x1x7168 squeezes_S1x64x1x7168_S64x1x7168)
            ((mPool.slice (Rect.unit (s := S3x64x1x7168) o2 S1x64x1x7168.size h2) (fun _ => rfl)).squeeze S64x1x7168 squeezes_S1x64x1x7168_S64x1x7168) hs hd) k) Q) := by
  subst ho1 ho2
  unfold slotSt
  rw [if_pos hm]
  iintro H Hk
  iapply (wp_waitBatchAll (EC (F := F)) 𝒱₀ (c : Thread nD τ) none (ι := ()) (J := rowUnits * 64) (N := rowUnits) (D := rowD c ids W m) (u := 0)
    ?hJ ?hN (Nat.zero_add _)) $$ H
  case hJ => rfl
  case hN => decide
  iintro ⟨HD, Hs, HO⟩
  iapply Hk
  isplitl [HD]
  · iapply (step_arrived c ids W m) $$ HD
  isplitl [Hs]; · iexact Hs
  iexists _
  iexact HO

end Cert.Proof.KernelIdeal
-- ==== Proof.KernelIdeal.Body.lean ====
/- The kernel's body at one grid step: its four parts in turn, each run. -/
module

public import proofs.«01_k».proof.Proof.KernelIdeal.FetchLoops
public import proofs.«01_k».proof.Proof.KernelIdeal.Slots

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Text

variable (i : grid0.Coords) (w : Memref sig .tc .vmem S56x128 .bf16) (hw : w.IsWhole) (o : Memref sig .tc .vmem S8x56x8x128 .bf16) (ho : o.IsWhole)
  (e : Memref sig .tc .vmem S8x56x8x128 .bf16) (he : e.IsWhole) (k : PUnit.{1} → Prog (TpuEff nD τ sig (Elt F) Λ₀ .tc) PUnit)

/-- At the first step: the scales' copy and the first two steps' row copies are started. -/
def part1 : Prog (TpuEff nD τ sig (Elt F) Λ₀ .tc) PUnit :=
  if k0_h1 : k0_cond1 i = 1#1 then do
    Prog.lift (.enqueueDma mScaleSrc (.here mScale) (.dma cc0_scratch3.sem) (Memref.isWhole_whole _).wordExact (Memref.isWhole_whole _).wordExact ⟨Or.inl rfl, trivial⟩)
    Scf.Loop.for k0_t1_loop (k0_t1_ok i k0_h1) ⟨⟩ (k0_t1_body (F := F) i mIds (Memref.isWhole_whole _) mWords (Memref.isWhole_whole _) mScaleSrc (Memref.isWhole_whole _) w hw o ho e he mPool (Memref.isWhole_whole _) mScale (Memref.isWhole_whole _) cc0_scratch2 cc0_scratch3 k0_h1)
    Scf.Loop.for k0_t2_loop (k0_t2_ok i k0_h1) ⟨⟩ (k0_t2_body (F := F) i mIds (Memref.isWhole_whole _) mWords (Memref.isWhole_whole _) mScaleSrc (Memref.isWhole_whole _) w hw o ho e he mPool (Memref.isWhole_whole _) mScale (Memref.isWhole_whole _) cc0_scratch2 cc0_scratch3 k0_h1)
    k ⟨⟩
  else k ⟨⟩

/-- While there is a step after next: its row copies are started. -/
def part2 : Prog (TpuEff nD τ sig (Elt F) Λ₀ .tc) PUnit :=
  if k0_h2 : k0_cond2 i = 1#1 then do
    Scf.Loop.for k0_t3_loop (k0_t3_ok i k0_h2) ⟨⟩ (k0_t3_body (F := F) i mIds (Memref.isWhole_whole _) mWords (Memref.isWhole_whole _) mScaleSrc (Memref.isWhole_whole _) w hw o ho e he mPool (Memref.isWhole_whole _) mScale (Memref.isWhole_whole _) cc0_scratch2 cc0_scratch3 k0_h2 (Scalar.addi (BitVec.ofNat 32 (i 0).val) 2#32))
    k ⟨⟩
  else k ⟨⟩

/-- At the first step: the scales' copy is waited for. -/
def part3 : Prog (TpuEff nD τ sig (Elt F) Λ₀ .tc) PUnit :=
  if Scalar.cmpi .ne (Scalar.extui (Scalar.cmpi .eq (BitVec.ofNat 32 (i 0).val) 0#32) : BitVec 32) 0#32 = 1#1 then do
    Prog.lift (.waitDma2 cc0_scratch3.sem mScaleSrc mScale (Memref.isWhole_whole _).wordExact (Memref.isWhole_whole _).wordExact)
    k ⟨⟩
  else k ⟨⟩

/-- The step's rows are waited for, the weights read, and the step's tokens computed. -/
def part4 : Prog (TpuEff nD τ sig (Elt F) Λ₀ .tc) PUnit := do
  Prog.lift (.waitDma2 ((cc0_scratch2.slice (Rect.unit (s := S3) (k0_off97 i) S1.size (k0_off97_inb i))).squeeze S_ squeezes_S1_S_).sem
    ((mPool.slice (Rect.unit (s := S3x64x1x7168) (k0_off98 i) S1x64x1x7168.size (k0_off98_inb i)) (fun _ => rfl)).squeeze S64x1x7168 squeezes_S1x64x1x7168_S64x1x7168)
    ((mPool.slice (Rect.unit (s := S3x64x1x7168) (k0_off98 i) S1x64x1x7168.size (k0_off98_inb i)) (fun _ => rfl)).squeeze S64x1x7168 squeezes_S1x64x1x7168_S64x1x7168)
    ((View.wordExact_bits rfl).reshape _ _) ((View.wordExact_bits rfl).reshape _ _))
  let v17 : Vec F S56x128 .bf16 ← Prog.lift (.load w (Rect.unit (s := S56x128) ![0, 0] S56x128.size inb_S56x128_S56x128_0_0).toLoadRect (View.loadsAt_vmem h_S56x128))
  Scf.Loop.for k0_t4_loop k0_t4_ok ⟨⟩ (k0_t4_body (F := F) i mIds (Memref.isWhole_whole _) mWords (Memref.isWhole_whole _) mScaleSrc (Memref.isWhole_whole _) w hw o ho e he mPool (Memref.isWhole_whole _) mScale (Memref.isWhole_whole _) cc0_scratch2 cc0_scratch3 (BitVec.ofNat 32 (i 0).val) (Scalar.remsi (BitVec.ofNat 32 (i 0).val) 3#32) v17)
  Prog.ret ⟨⟩

set_option maxRecDepth 65536 in
/-- The body is its four parts. -/
theorem body_eq : cc0_embed_rmsnorm (F := F) i mIds (Memref.isWhole_whole _) mWords (Memref.isWhole_whole _) mScaleSrc (Memref.isWhole_whole _) w hw o ho e he mPool (Memref.isWhole_whole _) mScale (Memref.isWhole_whole _) cc0_scratch2 cc0_scratch3
    = part1 i w hw o ho e he fun _ => part2 i w hw o ho e he fun _ => part3 i fun _ => part4 i w hw o ho e he := by
  rw [cc0_embed_rmsnorm_eq_skeleton]
  rfl

end Text

omit [FloatOps F] [Named F] in
theorem cond1_iff (i : grid0.Coords) : k0_cond1 i = 1#1 ↔ (i 0).val = 0 := by
  unfold k0_cond1
  generalize (i 0 : Fin 64) = n
  revert n
  decide +kernel

omit [FloatOps F] [Named F] in
theorem cond2_iff (i : grid0.Coords) : k0_cond2 i = 1#1 ↔ (i 0).val + 2 < 64 := by
  unfold k0_cond2
  generalize (i 0 : Fin 64) = n
  revert n
  decide +kernel

omit [FloatOps F] [Named F] in
theorem cond3_iff (n : Fin 64) :
    Scalar.cmpi .ne (Scalar.extui (Scalar.cmpi .eq (BitVec.ofNat 32 n.val) 0#32) : BitVec 32) 0#32 = 1#1 ↔ n.val = 0 := by
  revert n
  decide +kernel

omit [FloatOps F] [Named F] in
theorem off97_eq (i : grid0.Coords) : k0_off97 i = ![(i 0).val % 3] := by
  unfold k0_off97
  generalize (i 0 : Fin 64) = n
  revert n
  decide +kernel

omit [FloatOps F] [Named F] in
theorem off98_eq (i : grid0.Coords) : k0_off98 i = ![(i 0).val % 3, 0, 0, 0] := by
  unfold k0_off98
  generalize (i 0 : Fin 64) = n
  revert n
  decide +kernel

variable (c : Dev nD) (ids : S4x1024.Idx → BitVec 32) (SC : S56x32000.Idx → F .f32) (W : S8000x7168.Idx → BitVec 32)

/-- What the row buffer and the words are at the start of step `n`, the first steps' copies started. -/
def mid (n : ℕ) : sProp 𝕄 :=
  iprop(slotSt c ids W n ∗ slotSt c ids W (n + 1) ∗ idle c (n + 2) ∗ wordsAt c W (min (n + 2) 64))

/-- What they are before anything is started. -/
def fresh : sProp 𝕄 := iprop(idle (F := F) c 0 ∗ idle c 1 ∗ idle c 2 ∗ pt c mWords (W : Bf F c mWords))

/-- The invariant before step `n` (and after step `n - 1`). -/
def Inv (n : ℕ) : sProp 𝕄 :=
  iprop(pt c mIds (ids : Bf F c mIds)
    ∗ if n = 0 then iprop(fresh c W ∗ scaleAway c SC) else iprop(mid c ids W n ∗ scaleHere c SC))

variable (i : grid0.Coords) (w : Memref sig .tc .vmem S56x128 .bf16) (hw : w.IsWhole) (o : Memref sig .tc .vmem S8x56x8x128 .bf16) (ho : o.IsWhole)
  (e : Memref sig .tc .vmem S8x56x8x128 .bf16) (he : e.IsWhole) (hids : ∀ x, (ids x).toNat < 32000)

include hids in
/-- The first part, run. -/
theorem wp_part1 (k : PUnit.{1} → Prog (TpuEff nD τ sig (Elt F) Λ₀ .tc) PUnit) (Q : PUnit → sProp 𝕄) :
    Inv c ids SC W (i 0).val
      ⊢ iprop((iprop(pt c mIds (ids : Bf F c mIds) ∗ mid c ids W (i 0).val ∗ scaleSt c SC (i 0).val) -∗ wp frame (wpE (defs₀ (F := F)) 𝒱₀ c none) Set.univ (k ⟨⟩) Q)
        -∗ wp frame (wpE (defs₀ (F := F)) 𝒱₀ c none) Set.univ (part1 i w hw o ho e he k) Q) := by
  unfold Inv scaleSt part1
  by_cases h : k0_cond1 i = 1#1
  · have h0 := (cond1_iff i).mp h
    rw [dif_pos h, if_pos h0, if_pos h0, h0]
    unfold fresh
    iintro ⟨Hi, ⟨H0, H1, H2, Hw⟩, Hsc⟩ Hk
    unfold Prog.lift
    rw [wp_bind]
    iapply (wp_scaleStart c SC _ _ _ _ _) $$ Hsc
    iintro Hsc
    rw [wp_ret]
    imodintro
    iapply (fupd_wp frame (wpE (defs₀ (F := F)) 𝒱₀ c none) Set.univ _ _)
    imod (step_start c ids W 0) $$ [H0 Hw] with ⟨%f, Hf⟩
    · isplitl [H0]; · iexact H0
      iexact Hw
    imodintro
    rw [wp_bind]
    iapply (wp_fetchLoop c ids W f 0 (by decide) hids k0_t1_loop (k0_t1_ok i h) rfl _ (trip1 i h) (body1_eq i w hw o ho e he h) (trip1_is i h) _) $$ [Hi Hf]
    · isplitl [Hi]; · iexact Hi
      iexact Hf
    iintro ⟨Hi, Hf⟩
    ihave Hf := (step_flying c ids W f 0 (by decide)) $$ Hf
    icases Hf with ⟨Hw, H0⟩
    iapply (fupd_wp frame (wpE (defs₀ (F := F)) 𝒱₀ c none) Set.univ _ _)
    imod (step_start c ids W 1) $$ [H1 Hw] with ⟨%f, Hf⟩
    · isplitl [H1]; · iexact H1
      iexact Hw
    imodintro
    rw [wp_bind]
    iapply (wp_fetchLoop c ids W f 1 (by decide) hids k0_t2_loop (k0_t2_ok i h) rfl _ (trip2 i h) (body2_eq i w hw o ho e he h) (trip2_is i h) _) $$ [Hi Hf]
    · isplitl [Hi]; · iexact Hi
      iexact Hf
    iintro ⟨Hi, Hf⟩
    ihave Hf := (step_flying c ids W f 1 (by decide)) $$ Hf
    icases Hf with ⟨Hw, H1⟩
    iapply Hk
    isplitl [Hi]; · iexact Hi
    isplitr [Hsc]
    · unfold mid
      isplitl [H0]; · iexact H0
      isplitl [H1]; · iexact H1
      isplitl [H2]; · iexact H2
      iexact Hw
    iexact Hsc
  · have h0 : ¬(i 0).val = 0 := fun h0 => h ((cond1_iff i).mpr h0)
    rw [dif_neg h, if_neg h0, if_neg h0]
    iintro ⟨Hi, H⟩ Hk
    iapply Hk
    isplitl [Hi]; · iexact Hi
    iexact H

include hids in
/-- The second part, run. -/
theorem wp_part2 (k : PUnit.{1} → Prog (TpuEff nD τ sig (Elt F) Λ₀ .tc) PUnit) (Q : PUnit → sProp 𝕄) :
    iprop(pt c mIds (ids : Bf F c mIds) ∗ mid c ids W (i 0).val)
      ⊢ iprop((iprop(pt c mIds (ids : Bf F c mIds) ∗ slotSt c ids W (i 0).val ∗ slotSt c ids W ((i 0).val + 1) ∗ slotSt c ids W ((i 0).val + 2)
            ∗ wordsAt c W (min ((i 0).val + 3) 64)) -∗ wp frame (wpE (defs₀ (F := F)) 𝒱₀ c none) Set.univ (k ⟨⟩) Q)
        -∗ wp frame (wpE (defs₀ (F := F)) 𝒱₀ c none) Set.univ (part2 i w hw o ho e he k) Q) := by
  unfold mid part2
  by_cases h : k0_cond2 i = 1#1
  · have h0 := (cond2_iff i).mp h
    rw [dif_pos h, Nat.min_eq_left h0.le, Nat.min_eq_left (show (i 0).val + 3 ≤ 64 by omega)]
    iintro ⟨Hi, H0, H1, H2, Hw⟩ Hk
    iapply (fupd_wp frame (wpE (defs₀ (F := F)) 𝒱₀ c none) Set.univ _ _)
    imod (step_start c ids W ((i 0).val + 2)) $$ [H2 Hw] with ⟨%f, Hf⟩
    · isplitl [H2]; · iexact H2
      iexact Hw
    imodintro
    rw [wp_bind]
    iapply (wp_fetchLoop c ids W f ((i 0).val + 2) h0 hids k0_t3_loop (k0_t3_ok i h) rfl _ (trip3 i h) (body3_eq i w hw o ho e he h _) (trip3_is i h) _) $$ [Hi Hf]
    · isplitl [Hi]; · iexact Hi
      iexact Hf
    iintro ⟨Hi, Hf⟩
    ihave Hf := (step_flying c ids W f ((i 0).val + 2) h0) $$ Hf
    icases Hf with ⟨Hw, H2⟩
    iapply Hk
    isplitl [Hi]; · iexact Hi
    isplitl [H0]; · iexact H0
    isplitl [H1]; · iexact H1
    isplitl [H2]; · iexact H2
    iexact Hw
  · have h0 : ¬(i 0).val + 2 < 64 := fun h0 => h ((cond2_iff i).mpr h0)
    rw [dif_neg h, Nat.min_eq_right (by omega), Nat.min_eq_right (by omega)]
    iintro ⟨Hi, H0, H1, H2, Hw⟩ Hk
    iapply Hk
    isplitl [Hi]; · iexact Hi
    isplitl [H0]; · iexact H0
    isplitl [H1]; · iexact H1
    isplitl [H2]
    · rw [show slotSt (F := F) c ids W ((i 0).val + 2) = idle c ((i 0).val + 2) from if_neg h0]
      iexact H2
    iexact Hw

/-- The third part, run. -/
theorem wp_part3 (k : PUnit.{1} → Prog (TpuEff nD τ sig (Elt F) Λ₀ .tc) PUnit) (Q : PUnit → sProp 𝕄) {O : Waits sig Unit} :
    iprop(scaleSt c SC (i 0).val ∗ owes (c : Thread nD τ) 0 O)
      ⊢ iprop((iprop(scaleHere c SC ∗ ∃ O, owes (c : Thread nD τ) 0 O) -∗ wp frame (wpE (defs₀ (F := F)) 𝒱₀ c none) Set.univ (k ⟨⟩) Q)
        -∗ wp frame (wpE (defs₀ (F := F)) 𝒱₀ c none) Set.univ (part3 i k) Q) := by
  unfold scaleSt part3
  by_cases h0 : (i 0).val = 0
  · rw [if_pos h0, if_pos ((cond3_iff (i 0)).mpr h0)]
    iintro H Hk
    unfold Prog.lift
    rw [wp_bind]
    iapply (wp_scaleWait c SC _ _ _ _) $$ H
    iintro H
    rw [wp_ret]
    imodintro
    iapply Hk
    iexact H
  · rw [if_neg h0, if_neg (fun h => h0 ((cond3_iff (i 0)).mp h))]
    iintro ⟨H, HO⟩ Hk
    iapply Hk
    isplitl [H]; · iexact H
    iexists _
    iexact HO

/-- An element of a step's block, by its token pair, its rows of lanes and its place in the pair's piece. -/
def atPiece {α : Type} (g : ℕ → Fin 7 → S1x8x2x128.Idx → α) (x : S8x56x8x128.Idx) : α :=
  g (8 * (x 0).val + 2 * ((x 2).val / 2)) ⟨(x 1).val / 8, by have : (x 1).val < 56 := (x 1).isLt; omega⟩
    (ValueIdx.ix4 (0 : Fin 1) (⟨(x 1).val % 8, Nat.mod_lt _ (by decide)⟩ : Fin 8) (⟨(x 2).val % 2, Nat.mod_lt _ (by decide)⟩ : Fin 2) (x 3 : Fin 128))

omit [FloatOps F] [Named F] in
theorem atPiece_piece {α : Type} (g : ℕ → Fin 7 → S1x8x2x128.Idx → α) (k : Fin 8) (j : Fin 4) (l : Fin 7) (y : S1x8x2x128.Idx) :
    atPiece g (pieceIdx k j l y) = g (8 * k.val + 2 * j.val) l y := by
  have h1 : (y 1).val < 8 := (y 1).isLt
  have h2 : (y 2).val < 2 := (y 2).isLt
  have e1 : 8 * k.val + 2 * ((2 * j.val + (y 2).val) / 2) = 8 * k.val + 2 * j.val := by omega
  have e2 : (⟨(8 * l.val + (y 1).val) / 8, by omega⟩ : Fin 7) = l := Fin.ext (by show (8 * l.val + (y 1).val) / 8 = l.val; omega)
  have e3 : ValueIdx.ix4 (0 : Fin 1) (⟨(8 * l.val + (y 1).val) % 8, Nat.mod_lt _ (by decide)⟩ : Fin 8)
      (⟨(2 * j.val + (y 2).val) % 2, Nat.mod_lt _ (by decide)⟩ : Fin 2) (y 3 : Fin 128) = y := by
    funext a
    match a with
    | ⟨0, _⟩ => exact Fin.ext (show 0 = (y 0).val by have : (y 0).val < 1 := (y 0).isLt; omega)
    | ⟨1, _⟩ => exact Fin.ext (show (8 * l.val + (y 1).val) % 8 = (y 1).val by omega)
    | ⟨2, _⟩ => exact Fin.ext (show (2 * j.val + (y 2).val) % 2 = (y 2).val by omega)
    | ⟨3, _⟩ => rfl
  show g (8 * k.val + 2 * ((2 * j.val + (y 2).val) / 2)) ⟨(8 * l.val + (y 1).val) / 8, _⟩ _ = _
  rw [e1]
  exact (congrArg (fun q => g _ q _) e2).trans (congrArg (g _ l) e3)

/-- What step `n` leaves in the embeddings' block. -/
def stepEmb (n : ℕ) : S8x56x8x128.Idx → Elt F .bf16 :=
  atPiece fun t l y => embPiece (tokAt ids SC W n t) (tokAt ids SC W n (t + 1)) l y

/-- What it leaves in the normalized block, the weights at `v`. -/
def stepOut (v : S56x128.Idx → Elt F .bf16) (n : ℕ) : S8x56x8x128.Idx → Elt F .bf16 :=
  atPiece fun t l y => outPiece v (tokAt ids SC W n t) (tokAt ids SC W n (t + 1)) l y

omit [FloatOps F] [Named F] in
/-- The weights' block read whole is the block. -/
theorem weights_read (v : View sig .tc .vmem S56x128 .bf16) (f : v.ty.Contents (Elt F)) :
    v.readAt (Elt F) (Rect.unit (s := S56x128) ![0, 0] S56x128.size inb_S56x128_S56x128_0_0).toLoadRect f = v.read (Elt F) f := by
  funext y
  have e : (Rect.unit (s := S56x128) ![0, 0] S56x128.size inb_S56x128_S56x128_0_0).idx y = y := by
    funext a
    match a with
    | ⟨0, _⟩ => exact Fin.ext (show 0 + 1 * (y 0).val = (y 0).val by omega)
    | ⟨1, _⟩ => exact Fin.ext (show 0 + 1 * (y 1).val = (y 1).val by omega)
  exact congrArg (v.read (Elt F) f) e

include hids in
/-- The last part, run. -/
theorem wp_part4 (v : S56x128.Idx → Elt F .bf16) (Xe Xo : S8x56x8x128.Idx → Elt F .bf16) (Q : PUnit → sProp 𝕄) {O : Waits sig Unit} :
    iprop(pt c mIds (ids : Bf F c mIds) ∗ slotSt c ids W (i 0).val ∗ scaleHere c SC ∗ owes (c : Thread nD τ) 0 O
        ∗ owns (c : Thread nD τ) w fullShare v ∗ owns (c : Thread nD τ) o fullShare Xo ∗ owns (c : Thread nD τ) e fullShare Xe)
      ⊢ iprop((iprop(pt c mIds (ids : Bf F c mIds) ∗ idle c (i 0).val ∗ scaleHere c SC ∗ (∃ O, owes (c : Thread nD τ) 0 O)
          ∗ owns (c : Thread nD τ) w fullShare v ∗ owns (c : Thread nD τ) o fullShare (stepOut ids SC W v (i 0).val)
          ∗ owns (c : Thread nD τ) e fullShare (stepEmb ids SC W (i 0).val)) -∗ Q ⟨⟩)
        -∗ wp frame (wpE (defs₀ (F := F)) 𝒱₀ c none) Set.univ (part4 i w hw o ho e he) Q) := by
  iintro ⟨Hi, Hslot, ⟨Hsc, Hss⟩, HO, Hw, Ho, He⟩ Hk
  unfold part4 Prog.lift
  rw [wp_bind]
  iapply (wp_stepWait c ids W (i 0).val (i 0).isLt (k0_off97_inb i) (k0_off98_inb i) (off97_eq i) (off98_eq i) _ _ _ _) $$ [Hslot HO]
  · isplitl [Hslot]; · iexact Hslot
    iexact HO
  iintro ⟨Hp, Hs, HO⟩
  rw [wp_ret, wp_bind]
  imodintro
  unfold owns
  icases Hw with ⟨%fw, %hfw, Hw⟩
  iapply (wp_load 𝒱₀ (c : Thread nD τ) none Set.univ (m := w)
    (r := (Rect.unit (s := S56x128) ![0, 0] S56x128.size inb_S56x128_S56x128_0_0).toLoadRect)
    (q := fullShare) (f := fw) (S := w.view.set) (View.setOn_subset_set _ _)) $$ Hw
  iintro Hw
  rw [wp_ret, wp_bind]
  imodintro
  rw [show w.view.readAt (Elt F) (Rect.unit (s := S56x128) ![0, 0] S56x128.size inb_S56x128_S56x128_0_0).toLoadRect fw = v
    from (weights_read w.view fw).trans hfw]
  iapply (wp_tokens c ids SC W i hids w hw o ho e he (fun x y => y = stepEmb ids SC W (i 0).val x) (fun x y => y = stepOut ids SC W v (i 0).val x) _ _ v
    (fun k j g y => (atPiece_piece (fun t l y => embPiece (tokAt ids SC W (i 0).val t) (tokAt ids SC W (i 0).val (t + 1)) l y) k j g y).symm)
    (fun k j g y => (atPiece_piece (fun t l y => outPiece v (tokAt ids SC W (i 0).val t) (tokAt ids SC W (i 0).val (t + 1)) l y) k j g y).symm) Xe Xo _) $$ [Hi Hsc Hp Ho He]
  · unfold readable owns
    isplitl [Hi Hsc Hp]
    · isplitl [Hi]; · iexact Hi
      isplitl [Hsc]; · iexact Hsc
      iexact Hp
    isplitl [He]; · iexact He
    iexact Ho
  unfold readable owns
  iintro ⟨⟨Hi, Hsc, Hp⟩, ⟨%Ye, %hYe, He⟩, ⟨%Yo, %hYo, Ho⟩⟩
  rw [wp_ret]
  imodintro
  obtain rfl : Ye = stepEmb ids SC W (i 0).val := funext hYe
  obtain rfl : Yo = stepOut ids SC W v (i 0).val := funext hYo
  iapply Hk
  isplitl [Hi]; · iexact Hi
  isplitl [Hp Hs]
  · unfold idle
    iexists (fetched ids W (i 0).val)
    isplitl [Hp]; · iexact Hp
    iexact Hs
  isplitl [Hsc Hss]
  · isplitl [Hsc]; · iexact Hsc
    iexact Hss
  isplitl [HO]; · iexact HO
  isplitl [Hw]
  · iexists fw
    isplitr; · ipureintro; exact hfw
    iexact Hw
  isplitl [Ho]; · iexact Ho
  iexact He

include hids in
/-- The body at one step, run: from the invariant before it to the invariant after it, both results' blocks at what the step leaves in them. -/
theorem wp_body (v : S56x128.Idx → Elt F .bf16) (Xe Xo : S8x56x8x128.Idx → Elt F .bf16) (Q : PUnit → sProp 𝕄) {O : Waits sig Unit} :
    iprop(Inv c ids SC W (i 0).val ∗ owes (c : Thread nD τ) 0 O
        ∗ owns (c : Thread nD τ) w fullShare v ∗ owns (c : Thread nD τ) o fullShare Xo ∗ owns (c : Thread nD τ) e fullShare Xe)
      ⊢ iprop((iprop(Inv c ids SC W ((i 0).val + 1) ∗ (∃ O, owes (c : Thread nD τ) 0 O)
          ∗ owns (c : Thread nD τ) w fullShare v ∗ owns (c : Thread nD τ) o fullShare (stepOut ids SC W v (i 0).val)
          ∗ owns (c : Thread nD τ) e fullShare (stepEmb ids SC W (i 0).val)) -∗ Q ⟨⟩)
        -∗ wp frame (wpE (defs₀ (F := F)) 𝒱₀ c none) Set.univ (cc0_embed_rmsnorm (F := F) i mIds (Memref.isWhole_whole _) mWords (Memref.isWhole_whole _) mScaleSrc (Memref.isWhole_whole _) w hw o ho e he mPool (Memref.isWhole_whole _) mScale (Memref.isWhole_whole _) cc0_scratch2 cc0_scratch3) Q) := by
  rw [body_eq]
  iintro ⟨HI, HO, Hw, Ho, He⟩ Hk
  iapply (wp_part1 c ids SC W i w hw o ho e he hids _ _) $$ HI
  iintro ⟨Hi, Hm, Hsc⟩
  iapply (wp_part2 c ids W i w hw o ho e he hids _ _) $$ [Hi Hm]
  · isplitl [Hi]; · iexact Hi
    iexact Hm
  iintro ⟨Hi, H0, H1, H2, Hww⟩
  iapply (wp_part3 c SC i _ _) $$ [Hsc HO]
  · isplitl [Hsc]; · iexact Hsc
    iexact HO
  iintro ⟨Hsc, ⟨%O, HO⟩⟩
  iapply (wp_part4 c ids SC W i w hw o ho e he hids v Xe Xo _) $$ [Hi H0 Hsc HO Hw Ho He]
  · isplitl [Hi]; · iexact Hi
    isplitl [H0]; · iexact H0
    isplitl [Hsc]; · iexact Hsc
    isplitl [HO]; · iexact HO
    isplitl [Hw]; · iexact Hw
    isplitl [Ho]; · iexact Ho
    iexact He
  iintro ⟨Hi, H0, Hsc, HO, Hw, Ho, He⟩
  iapply Hk
  isplitr [HO Hw Ho He]
  · ihave H0 := (Entails.of_eq (idle_mod (F := F) c (show (i 0).val % 3 = ((i 0).val + 1 + 2) % 3 by omega))) $$ H0
    unfold Inv mid
    rw [if_neg (Nat.succ_ne_zero _)]
    isplitl [Hi]; · iexact Hi
    isplitr [Hsc]
    · isplitl [H1]; · iexact H1
      isplitl [H2]; · iexact H2
      isplitl [H0]; · iexact H0
      iexact Hww
    iexact Hsc
  isplitl [HO]; · iexact HO
  isplitl [Hw]; · iexact Hw
  isplitl [Ho]; · iexact Ho
  iexact He

end Cert.Proof.KernelIdeal
-- ==== Proof.KernelIdeal.Region.lean ====
/- The launch's region: what the pipeline holds between two grid steps, the body at a step, the row buffer cut into its three slots. -/
module

public import proofs.«01_k».proof.Proof.KernelIdeal.Body
public import proofs.«01_k».proof.Proof.Gen.KernelIdeal.Launch
public import Idealize.ShloMosaic.Lib.Pipeline.Regions
public import Idealize.ShloMosaic.Lib.Pipeline.FrameBody

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

open Idealize.ShloMosaic.Pipeline (Dat Cfg Window BodyObligation cellOf)

variable (m : (ℓ : Loc nD τ sig) → Buf (Elt F) ℓ)

/-- The token identifiers as launched. -/
abbrev idsOf : S4x1024.Idx → BitVec 32 := m (((0 : Dev nD) : Thread nD τ).loc main_arg0)

/-- The prefetched table's contents: the identifiers. -/
def adm : (pcfg0 (F := F)).Adm := ⟨fun | 0 => idsOf m | ⟨_ + 1, h⟩ => absurd h (Nat.not_lt.2 (Nat.le_add_left _ _)), trivial⟩

/-- The pipeline at that table. -/
abbrev cfgA : Cfg sig Λ₀ := cfg0 (adm m)

/-- Core `c`'s buffers at launch; -/
abbrev V₀ (c : Dev nD) : Valuation τ sig (Elt F) := fun b => m ((c : Dev nD), b)
/-- and when the region is entered: the five host operations have run. -/
abbrev V (c : Dev nD) (b : Ref sig .tc) : Buf (Elt F) ((c : Thread nD τ).loc b) := StableHlo.after hostOps0 (V₀ m c) b

/-- The region's inputs: the code words and the scales by block column. -/
abbrev wordsOf (c : Dev nD) : S8000x7168.Idx → BitVec 32 := V m c main_v2
abbrev scalesOf (c : Dev nD) : S56x32000.Idx → F .f32 := V m c main_v3

/-- The region's data: the arrays as entered; after a step the weights as fetched and the two blocks the step stores; the
    invariant; nothing owed. -/
def dats (_ : Fin 1) (c : Dev nD) : Dat τ (Elt F) Unit ℕ (UU nD τ) ℕ (cfgA m) c where
  A w := V m c (Pipeline.arrRef spec0 w)
  after w t := match w with
    | ⟨0, _⟩ => (((cfgA m).win 0).blk t).view.read (Elt F) (V m c main_v4)
    | ⟨1, _⟩ => stepOut (idsOf m) (scalesOf m c) (wordsOf m c) (((cfgA m).win 0).blk t |>.view.read (Elt F) (V m c main_v4)) t.val
    | ⟨2, _⟩ => stepEmb (idsOf m) (scalesOf m c) (wordsOf m c) t.val
  Φ t := Inv c (idsOf m) (scalesOf m c) (wordsOf m c) t.val
  q _ := fullShare
  owed _ := 0

theorem A_eq (c : Dev nD) (w : Fin 3) : (dats m 0 c).A w = V m c (Pipeline.arrRef spec0 w) := by
  dsimp only [dats]

/-- The weights' buffer holds the weights whenever the body runs. -/
theorem before_in (c : Dev nD) (t : Fin (cfgA m).N) (d : ((cfgA m).win 0).block.Idx → Elt F ((cfgA m).win 0).elt) :
    (dats m 0 c).before 0 t d = (((cfgA m).win 0).blk t).view.read (Elt F) (V m c main_v4) := by
  rw [(dats m 0 c).before_in_eq_fetched 0 rfl (fun _ => rfl) (fun _ _ _ => rfl)
    (fun t => by unfold Dat.blockOf; dsimp only [dats]; rfl) t d]
  unfold Dat.fetched Dat.blockOf; dsimp only [dats]; rfl

theorem coord0 : ∀ t : Fin grid0.N, (grid0.coords t 0).val = t.val := by decide

theorem defs_tc : (defs₀ (F := F)) .tc (cfgA m).body
    = fun a : Fin grid0.N × ((w : Fin 3) → Fin (spec0 w).nbuf) => cc0_embed_rmsnorm (F := F) (grid0.coords a.1) mIds (Memref.isWhole_whole _) mWords (Memref.isWhole_whole _) mScaleSrc (Memref.isWhole_whole _) (spec0_0.stage (a.2 0)) (hstage0_0 ((a.2 0).cast nbuf0_0)) (spec0_1.stage (a.2 1)) (hstage0_1 ((a.2 1).cast nbuf0_1)) (spec0_2.stage (a.2 2)) (hstage0_2 ((a.2 2).cast nbuf0_2)) mPool (Memref.isWhole_whole _) mScale (Memref.isWhole_whole _) cc0_scratch2 cc0_scratch3 := rfl

/-- The body at step `t`, on its staging buffers. -/
theorem prog_eq (t : Fin (cfgA m).N) : (defs₀ (F := F)) .tc (cfgA m).body ((cfgA m).bodyArgs t ((cfgA m).slots t))
    = cc0_embed_rmsnorm (F := F) (grid0.coords t) mIds (Memref.isWhole_whole _) mWords (Memref.isWhole_whole _) mScaleSrc (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) mPool (Memref.isWhole_whole _) mScale (Memref.isWhole_whole _) cc0_scratch2 cc0_scratch3 :=
  (congrFun (defs_tc m) _).trans rfl

variable (hids : ∀ x, (idsOf m x).toNat < 32000)

include hids in
set_option backward.isDefEq.respectTransparency.types false in
/-- The body takes the invariant from step to step. -/
theorem body_obligation (c : Dev nD) : BodyObligation (dats m 0 c) (defs₀ (F := F)) 𝒱₀ () Set.univ := fun t => by
  rw [bigSep_W0, bigSep_W0]
  dsimp only
  simp only [before_in]
  rw [show (dats m 0 c).Φ t.castSucc = Inv c (idsOf m) (scalesOf m c) (wordsOf m c) (grid0.coords t 0).val from by rw [coord0]; rfl,
    show (dats m 0 c).Φ t.succ = Inv c (idsOf m) (scalesOf m c) (wordsOf m c) ((grid0.coords t 0).val + 1) from by rw [coord0]; rfl,
    show (dats m 0 c).after 1 t = stepOut (idsOf m) (scalesOf m c) (wordsOf m c) (((cfgA m).win 0).blk t |>.view.read (Elt F) (V m c main_v4)) (grid0.coords t 0).val from by rw [coord0]; rfl,
    show (dats m 0 c).after 2 t = stepEmb (idsOf m) (scalesOf m c) (wordsOf m c) (grid0.coords t 0).val from by rw [coord0]; rfl,
    show (dats m 0 c).after 0 t = (((cfgA m).win 0).blk t).view.read (Elt F) (V m c main_v4) from rfl]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩⟩
  sl_rw [prog_eq m t]
  iapply (wp_body c (idsOf m) (scalesOf m c) (wordsOf m c) (grid0.coords t) _ _ _ _ _ _ hids (((cfgA m).win 0).blk t |>.view.read (Elt F) (V m c main_v4)) _ _ _ (O := W)) $$ [HI HW H0 H1 H2]
  · isplitl [HI]; · iexact HI
    isplitl [HW]; · iexact HW
    isplitl [H0]; · iexact H0
    isplitl [H1]; · iexact H1
    iexact H2
  iintro ⟨HI, ⟨%W', HW⟩, H0, H1, H2⟩
  isplitl [HI]; · iexact HI
  isplitl [HW]
  · iexists W'; isplitr; · ipureintro; exact fun _ _ => Or.inl trivial
    iexact HW
  isplitl [H0]; · iexact H0
  isplitl [H1]; · iexact H1
  iexact H2

/-! ## The row buffer and its slots -/

/-- The kernel's own semaphores. -/
abbrev osem : Fin 4 → SemLoc sig := ![stepSem 0, stepSem 1, stepSem 2, scaleSem]

theorem ownSemFacts : Pipeline.OwnSemFacts spec0 osem := by decide

/-- They at zero, one by one. -/
theorem ownSems0_eq (c : Dev nD) :
    (Pipeline.ownSems0 (Ix := Unit) (Name := ℕ) (U := UU nD τ) (Lvl := ℕ) (Val := Elt F) (τ := τ) osem c : sProp 𝕄)
      = iprop(semVal ((c : Thread nD τ), stepSem 0) 0 ∗ semVal ((c : Thread nD τ), stepSem 1) 0 ∗ semVal ((c : Thread nD τ), stepSem 2) 0
          ∗ semVal ((c : Thread nD τ), scaleSem) 0) :=
  Pipeline.ownSems0_eq_of_list c osem [0, 1, 2, 3] (by decide) (by decide)

theorem pool_slots : (Finset.univ : Finset S3x64x1x7168.Idx) = Finset.univ.biUnion (fun s : Fin 3 => slotSet s.val) := by
  ext x
  simp only [slotSet, Finset.mem_filter, Finset.mem_univ, true_and, Finset.mem_biUnion, true_iff]
  exact ⟨x 0, rfl⟩

theorem slots_disj : ∀ s ∈ (Finset.univ : Finset (Fin 3)), ∀ s' ∈ (Finset.univ : Finset (Fin 3)), s ≠ s' → Disjoint (slotSet s.val) (slotSet s'.val) := by
  intro s _ s' _ h
  refine Finset.disjoint_left.mpr fun x hx hx' => h (Fin.ext ?_)
  simp only [slotSet, Finset.mem_filter, Finset.mem_univ, true_and] at hx hx'
  exact hx.symm.trans hx'

/-- The row buffer held whole, its semaphores at zero: three slots at rest. -/
theorem pool_cut (c : Dev nD) (f : Bf F c mPool) :
    iprop(pt c mPool f ∗ semVal ((c : Thread nD τ), stepSem 0) 0 ∗ semVal ((c : Thread nD τ), stepSem 1) 0 ∗ semVal ((c : Thread nD τ), stepSem 2) 0)
      ⊢ (iprop(idle c 0 ∗ idle c 1 ∗ idle c 2) : sProp 𝕄) := by
  have h : (pt c mPool f : sProp 𝕄) = bigSep Finset.univ (fun s : Fin 3 => mPool.view.loc (c : Thread nD τ) ↦[slotSet s.val]{fullShare} f) :=
    (congrArg (fun K => (mPool.view.loc (c : Thread nD τ) ↦[K]{fullShare} f : sProp 𝕄)) pool_slots).trans
      (pointsTo_biUnion (ℓ := mPool.view.loc (c : Thread nD τ)) Finset.univ (fun s : Fin 3 => slotSet s.val) slots_disj)
  rw [h, bigSep_W0]
  unfold idle
  iintro ⟨⟨H0, H1, H2⟩, S0, S1, S2⟩
  isplitl [H0 S0]; · iexists f; isplitl [H0]; · iexact H0
                     iexact S0
  isplitl [H1 S1]; · iexists f; isplitl [H1]; · iexact H1
                     iexact S1
  iexists f; isplitl [H2]; · iexact H2
  iexact S2

/-- And back. -/
theorem pool_whole (c : Dev nD) :
    (iprop(idle c 0 ∗ idle c 1 ∗ idle c 2) : sProp 𝕄)
      ⊢ iprop((∃ f : Bf F c mPool, pt c mPool f) ∗ semVal ((c : Thread nD τ), stepSem 0) 0 ∗ semVal ((c : Thread nD τ), stepSem 1) 0 ∗ semVal ((c : Thread nD τ), stepSem 2) 0) := by
  unfold idle
  iintro ⟨⟨%f0, H0, S0⟩, ⟨%f1, H1, S1⟩, ⟨%f2, H2, S2⟩⟩
  isplitl [H0 H1 H2]
  · ihave H := (pointsTo_biUnion_join (ℓ := mPool.view.loc (c : Thread nD τ)) (q := fullShare) Finset.univ (fun s : Fin 3 => slotSet s.val) (![f0, f1, f2] : Fin 3 → Bf F c mPool) f0 slots_disj) $$ [H0 H1 H2]
    · rw [bigSep_W0]
      isplitl [H0]; · iexact H0
      isplitl [H1]; · iexact H1
      iexact H2
    icases H with ⟨%g, -, H⟩
    iexists g
    iapply (show (mPool.view.loc (c : Thread nD τ) ↦[Finset.univ.biUnion (fun s : Fin 3 => slotSet s.val)]{fullShare} g : sProp 𝕄) ⊢ pt c mPool g from
      Entails.of_eq (congrArg (fun K => (mPool.view.loc (c : Thread nD τ) ↦[K]{fullShare} g : sProp 𝕄)) pool_slots.symm)) $$ H
  isplitl [S0]; · iexact S0
  isplitl [S1]; · iexact S1
  iexact S2

end Cert.Proof.KernelIdeal

end
-- ==== Proof.KernelIdeal.Run.lean ====
/- The launch: the host operations before the region, the region, the host operations after it, and what the run leaves. -/
module

public import proofs.«01_k».proof.Proof.KernelIdeal.Region

@[expose] public section

noncomputable section

namespace Cert.Proof.KernelIdeal

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

open Idealize.ShloMosaic.Rounds
open Idealize.ShloMosaic.Pipeline (Dat Cfg Window BodyObligation cellOf ucRefs)

/-- The pipeline library's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-- No host operation before the region writes an argument. -/
theorem not_written (b : Ref sig .tc) (hb : b ≠ main_v0 ∧ b ≠ main_v1 ∧ b ≠ main_v2 ∧ b ≠ main_v3 ∧ b ≠ main_v4) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

/-- Nor does one after it. -/
theorem not_written' (b : Ref sig .tc) (hb : b ≠ main_v6 ∧ b ≠ main_v7 ∧ b ≠ main_v8 ∧ b ≠ main_v9) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- The references the host operations after the region run within, and the arguments. -/
abbrev tailList : List (Ref sig .tc) :=
  [main_arg0, main_arg1, main_arg2, main_arg3, main_v5_0, main_v5_1, main_v6, main_v7, main_v8, main_v9]
abbrev tailRefs : Finset (DevRef τ sig) := tailList.toFinset.map ⟨Proc.devRef .tc, Proc.devRef_injective _⟩

/-- A result array's contents after the region. -/
abbrev outArr (c : Dev nD) : S512x56x8x128.Idx → F .bf16 := (dats m 0 c).arrAt 1 (cfgA m).N
abbrev embArr (c : Dev nD) : S512x56x8x128.Idx → F .bf16 := (dats m 0 c).arrAt 2 (cfgA m).N

/-- The buffers as the region leaves them. -/
def V₁ (c : Dev nD) : Valuation τ sig (Elt F) :=
  Function.update (Function.update (StableHlo.after hostOps0 (V₀ m c)) (Proc.devRef .tc main_v5_0) (outArr m c)) (Proc.devRef .tc main_v5_1) (embArr m c)

/-- A buffer the region's pipeline does not write back is as the region found it. -/
theorem V₁_other (c : Dev nD) (b : Ref sig .tc) (h0 : b ≠ main_v5_0) (h1 : b ≠ main_v5_1) : V₁ m c (Proc.devRef .tc b) = V m c b := by
  unfold V₁
  rw [Function.update_of_ne (StableHlo.devRef_ne_of_ne h1), Function.update_of_ne (StableHlo.devRef_ne_of_ne h0)]

theorem V₁_out (c : Dev nD) : V₁ m c (Proc.devRef .tc main_v5_0) = outArr m c := by
  unfold V₁
  rw [Function.update_of_ne (StableHlo.devRef_ne_of_ne (by decide)), Function.update_self]

theorem V₁_emb (c : Dev nD) : V₁ m c (Proc.devRef .tc main_v5_1) = embArr m c := by
  unfold V₁
  rw [Function.update_self]

/-- The tail's buffers, one by one. -/
theorem held_tail (c : Dev nD) (X : Valuation τ sig (Elt F)) :
    (StableHlo.held (c : Thread nD τ) tailRefs X : sProp 𝕄)
      = iprop((((c : Thread nD τ).loc main_arg0) ↦{fullShare} X main_arg0) ∗ (((c : Thread nD τ).loc main_arg1) ↦{fullShare} X main_arg1)
        ∗ (((c : Thread nD τ).loc main_arg2) ↦{fullShare} X main_arg2) ∗ (((c : Thread nD τ).loc main_arg3) ↦{fullShare} X main_arg3)
        ∗ (((c : Thread nD τ).loc main_v5_0) ↦{fullShare} X main_v5_0) ∗ (((c : Thread nD τ).loc main_v5_1) ↦{fullShare} X main_v5_1)
        ∗ (((c : Thread nD τ).loc main_v6) ↦{fullShare} X main_v6) ∗ (((c : Thread nD τ).loc main_v7) ↦{fullShare} X main_v7)
        ∗ (((c : Thread nD τ).loc main_v8) ↦{fullShare} X main_v8) ∗ (((c : Thread nD τ).loc main_v9) ↦{fullShare} X main_v9)) := by
  unfold StableHlo.held tailRefs
  rw [bigSep_map, bigSep_eq_bigSepL_of_eq tailList (by decide) (by decide)]
  rfl

/-- The prefetched table, held. -/
theorem prefHeld_one (c : Dev nD) (q : Fin 1 → PosShare TreeShare) (v : pre0.Contents (Elt F)) :
    (Pipeline.prefHeld pre0 c q v : sProp 𝕄)
      = (((c : Thread nD τ).loc main_arg0) ↦{q 0} (show Buf (Elt F) ((c : Thread nD τ).loc main_arg0) from v 0)) := by
  unfold Pipeline.prefHeld
  rw [show (Finset.univ : Finset (Fin 1)) = {0} from by decide, bigSep_singleton]
  rfl

/-- The arguments reach the region as launched. -/
theorem V_arg (c : Dev nD) (b : Ref sig .tc) (hb : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) hostOps0 (V₀ m c) (not_written b hb)

/-- The results: the two arrays, their axes put in order. -/
abbrev res (c : Dev nD) (b : Ref sig .tc) : Buf (Elt F) ((c : Thread nD τ).loc b) := StableHlo.after hostOps1 (V₁ m c) b

/-- And the end. -/
theorem res_arg (c : Dev nD) (b : Ref sig .tc) (hb : b ≠ main_v0 ∧ b ≠ main_v1 ∧ b ≠ main_v2 ∧ b ≠ main_v3 ∧ b ≠ main_v4)
    (hb' : b ≠ main_v6 ∧ b ≠ main_v7 ∧ b ≠ main_v8 ∧ b ≠ main_v9) (h0 : b ≠ main_v5_0) (h1 : b ≠ main_v5_1) :
    res m c b = m ((c : Thread nD τ).loc b) :=
  (StableHlo.after_of_forall_not_mem (b := Proc.devRef .tc b) hostOps1 (V₁ m c) (not_written' b hb')).trans
    ((V₁_other m c b h0 h1).trans (V_arg m c b hb))

/-! ## The segments -/

/-- No core owes another anything. -/
abbrev L : GSem nD τ sig → Finset Unit := fun _ => ∅
abbrev lv : GSem nD τ sig → Unit → ℕ := fun _ _ => 0

/-- What rides beside the buffers. -/
abbrev R (c : Dev nD) : sProp 𝕄 := iprop(∃ W, owes (c : Thread nD τ) (0 : CellTallies nD τ sig Unit) W)

/-- The five operations before the region. -/
def seg0 : Pipeline.HostSeg (Name := ℕ) (U := UU nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (V₀ m) R

theorem tail_sub : ∀ op ∈ (hostOps1 (F := F)), op.bufs ⊆ tailRefs := by
  intro op hop
  simp only [List.mem_cons, List.mem_nil_iff, or_false] at hop
  rcases hop with rfl | rfl | rfl | rfl <;>
    simp only [StableHlo.unary_bufs, StableHlo.reshape_bufs] <;> decide

/-- The four after it. -/
def seg1 : Pipeline.HostSeg (Name := ℕ) (U := UU nD τ) (pcfgs (F := F)) defs₀ 𝒱₀ L lv :=
  Pipeline.HostSeg.ofOps _ _ _ _ _ tailRefs hostOps1
    tail_sub
    (by intro _ h; (repeat (cases h with | head => rfl | tail _ h => ?_)); exact nomatch h) (V₁ m) R

variable (hids : ∀ x, (idsOf m x).toNat < 32000)

/-- What enters the invariant: the kernel's semaphores at zero, the words and the scales. -/
abbrev X (c : Dev nD) : sProp 𝕄 :=
  iprop((semVal ((c : Thread nD τ), stepSem 0) 0 ∗ semVal ((c : Thread nD τ), stepSem 1) 0 ∗ semVal ((c : Thread nD τ), stepSem 2) 0
      ∗ semVal ((c : Thread nD τ), scaleSem) 0)
    ∗ pt c mWords (wordsOf m c : Bf F c mWords) ∗ pt c mScaleSrc (scalesOf m c : Bf F c mScaleSrc))

/-- What bypasses the region. -/
abbrev Z (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg3) ↦{fullShare} V m c main_arg3)
    ∗ (((c : Thread nD τ).loc main_v6) ↦{fullShare} V m c main_v6) ∗ (((c : Thread nD τ).loc main_v7) ↦{fullShare} V m c main_v7)
    ∗ (((c : Thread nD τ).loc main_v8) ↦{fullShare} V m c main_v8) ∗ (((c : Thread nD τ).loc main_v9) ↦{fullShare} V m c main_v9))

set_option backward.isDefEq.respectTransparency.types false in
/-- The unscoped buffers at the region's entry: its arrays, its table, the words and the scales, and the rest. -/
theorem entry_split (c : Dev nD) :
    (StableHlo.held (c : Thread nD τ) (ucRefs τ sig) (StableHlo.after hostOps0 (V₀ m c)) : sProp 𝕄)
      ⊢ iprop((dats m 0 c).arrays ((dats m 0 c).arrAt · 0) ∗ Pipeline.prefHeld pre0 c (fun _ => fullShare) (adm m).1
        ∗ (pt c mWords (wordsOf m c : Bf F c mWords) ∗ pt c mScaleSrc (scalesOf m c : Bf F c mScaleSrc)) ∗ Z m c) := by
  have hc : c = 0 := Subsingleton.elim _ _
  subst hc
  rw [show (StableHlo.held ((0 : Dev nD) : Thread nD τ) (ucRefs τ sig) (StableHlo.after hostOps0 (V₀ m 0)) : sProp 𝕄) = unscopedBufs 0 (V m 0) from
    (Pipeline.unscopedBufs_held (c := (0 : Dev nD)) _).symm]
  have hsplit := (Pipeline.arrays_of_unscopedBufs (pcfgs (F := F)) (fun _ => adm m) (dats m) (p := 0) (launch0 (F := F)).win (launch0 (F := F)).arr_whole (0 : Dev nD)
      ((dats m 0 0).share_full fun _ => rfl) (V m 0) (A_eq m 0)).trans
    (sep_mono .rfl ((Entails.of_eq (Pipeline.unscopedRest_split (launch0 (F := F)).pre (0 : Dev nD) (V m 0))).trans (sep_mono .rfl (Entails.of_eq (unscopedRestP0_eq 0 (V m 0))))))
  refine hsplit.trans ?_
  have ht : (Pipeline.prefHeld pre0 (0 : Dev nD) (fun _ => fullShare) (fun k => V m 0 (pre0.ref k)) : sProp 𝕄) = Pipeline.prefHeld pre0 0 (fun _ => fullShare) (adm m).1 := by
    rw [prefHeld_one, prefHeld_one]
    exact congrArg (fun f => ((((0 : Dev nD) : Thread nD τ).loc main_arg0) ↦{fullShare} f : sProp 𝕄)) (V_arg m 0 main_arg0 (by decide))
  iintro ⟨Ha, Hp, H1, H2, H3, -, -, Hw, Hs, H6, H7, H8, H9⟩
  isplitl [Ha]; · iexact Ha
  isplitl [Hp]
  · iapply (Entails.of_eq ht) $$ Hp
  isplitl [Hw Hs]
  · isplitl [Hw]; · iexact Hw
    iexact Hs
  isplitl [H1]; · iexact H1
  isplitl [H2]; · iexact H2
  isplitl [H3]; · iexact H3
  isplitl [H6]; · iexact H6
  isplitl [H7]; · iexact H7
  isplitl [H8]; · iexact H8
  iexact H9

/-- The invariant before the first step. -/
theorem enter (c : Dev nD) :
    (iprop(X m c ∗ Pipeline.prefHeld pre0 c (fun _ => fullShare) (adm m).1 ∗ Pipeline.scopedRest spec0 c) : sProp 𝕄)
      ⊢ Inv c (idsOf m) (scalesOf m c) (wordsOf m c) 0 := by
  rw [prefHeld_one, scopedRest0_eq]
  unfold Inv fresh
  rw [if_pos rfl]
  iintro ⟨⟨⟨S0, S1, S2, S3⟩, HW, HS⟩, HI, ⟨%f, Hp⟩, Hc⟩
  isplitl [HI]; · iexact HI
  ihave HP := (pool_cut c f) $$ [Hp S0 S1 S2]
  · isplitl [Hp]; · iexact Hp
    isplitl [S0]; · iexact S0
    isplitl [S1]; · iexact S1
    iexact S2
  icases HP with ⟨H0, H1, H2⟩
  isplitl [H0 H1 H2 HW]
  · isplitl [H0]; · iexact H0
    isplitl [H1]; · iexact H1
    isplitl [H2]; · iexact H2
    iexact HW
  isplitl [Hc]; · iexact Hc
  isplitl [S3]; · iexact S3
  iexact HS

/-- The invariant after the last step. -/
theorem leave (c : Dev nD) :
    Inv c (idsOf m) (scalesOf m c) (wordsOf m c) 64
      ⊢ (iprop(pt c mIds (idsOf m : Bf F c mIds) ∗ Pipeline.ownSems0 osem c ∗ Pipeline.scopedRest spec0 c) : sProp 𝕄) := by
  rw [ownSems0_eq, scopedRest0_eq]
  unfold Inv mid slotSt
  rw [if_neg (by decide), if_neg (by decide), if_neg (by decide), idle_mod c (m := 64) (m' := 1) rfl, idle_mod c (m := 64 + 1) (m' := 2) rfl,
    idle_mod c (m := 64 + 2) (m' := 0) rfl]
  iintro ⟨HI, ⟨H1, H2, H0, -⟩, HS, S3⟩
  ihave HP := (pool_whole c) $$ [H0 H1 H2]
  · isplitl [H0]; · iexact H0
    isplitl [H1]; · iexact H1
    iexact H2
  icases HP with ⟨Hp, S0, S1, S2⟩
  isplitl [HI]; · iexact HI
  isplitl [S0 S1 S2 S3]
  · isplitl [S0]; · iexact S0
    isplitl [S1]; · iexact S1
    isplitl [S2]; · iexact S2
    iexact S3
  isplitl [Hp]; · iexact Hp
  iexists _; iexact HS

set_option backward.isDefEq.respectTransparency.types false in
/-- The buffers the operations after the region run within, as the region leaves them. -/
theorem exit_join (c : Dev nD) :
    iprop((dats m 0 c).arrays ((dats m 0 c).arrAt · (cfgA m).N) ∗ pt c mIds (idsOf m : Bf F c mIds) ∗ Z m c)
      ⊢ (StableHlo.held (c : Thread nD τ) tailRefs (V₁ m c) : sProp 𝕄) := by
  have hc : c = 0 := Subsingleton.elim _ _
  subst hc
  rw [held_tail, V₁_out, V₁_emb, V₁_other m 0 main_arg0 (by decide) (by decide), V₁_other m 0 main_arg1 (by decide) (by decide),
    V₁_other m 0 main_arg2 (by decide) (by decide), V₁_other m 0 main_arg3 (by decide) (by decide), V₁_other m 0 main_v6 (by decide) (by decide),
    V₁_other m 0 main_v7 (by decide) (by decide), V₁_other m 0 main_v8 (by decide) (by decide), V₁_other m 0 main_v9 (by decide) (by decide),
    V_arg m 0 main_arg0 (by decide),
    show (dats m 0 0).arrays ((dats m 0 0).arrAt · (cfgA m).N) = bigSep Finset.univ (fun w : Fin 3 => ((((0 : Dev nD) : Thread nD τ).loc (Pipeline.arrRef spec0 w)) ↦{fullShare} (dats m 0 0).arrAt w (cfgA m).N : sProp 𝕄)) from
      Pipeline.arrays_eq (Pipeline.pin (pcfgs (F := F)) fun _ => adm m) (dats m) 0 (0 : Dev nD) (launch0 (F := F)).arr_whole ((dats m 0 0).share_full fun _ => rfl) _,
    bigSep_W0]
  iintro ⟨⟨-, Ho, He⟩, HI, H1, H2, H3, H6, H7, H8, H9⟩
  isplitl [HI]; · iexact HI
  isplitl [H1]; · iexact H1
  isplitl [H2]; · iexact H2
  isplitl [H3]; · iexact H3
  isplitl [Ho]; · iexact Ho
  isplitl [He]; · iexact He
  isplitl [H6]; · iexact H6
  isplitl [H7]; · iexact H7
  isplitl [H8]; · iexact H8
  iexact H9

set_option backward.isDefEq.respectTransparency.types false in
/-- The region. -/
def reg0 : Pipeline.RegionSeg (pcfgs (F := F)) (fun _ => adm m) (dats m) () defs₀ 𝒱₀ L lv 0 where
  win := (launch0 (F := F)).win.to₀
  block_pos := (launch0 (F := F)).block_pos
  stage_whole := (launch0 (F := F)).stage_whole
  K := Fin 4
  osem := osem
  ho := ownSemFacts
  hbody c := (body_obligation m hids c).loose
  hwaits := Pipeline.hwaits_of_owed_zero _ _ _ _ L lv 0 fun _ _ => rfl
  pre c := iprop(StableHlo.held (c : Thread nD τ) (ucRefs τ sig) (StableHlo.after hostOps0 (V₀ m c)) ∗ R c)
  post c := iprop(StableHlo.held (c : Thread nD τ) tailRefs (V₁ m c) ∗ R c)
  X c := X m c
  Y c := pt c mIds (idsOf m : Bf F c mIds)
  Z c := Z m c
  hentry c := by
    rw [ownSems0_eq]
    iintro ⟨⟨Hub, HO⟩, Hos, -⟩
    ihave H := (entry_split m c) $$ Hub
    icases H with ⟨Ha, Hp, HX, HZ⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hos HX]
    · isplitl [Hos]; · iexact Hos
      iexact HX
    iexact HZ
  hin c := enter m c
  hout c := leave m c
  hexit c := by
    iintro ⟨Ha, HO, HY, HZ⟩
    imodintro
    isplitr [HO]
    · iapply (exit_join m c)
      isplitl [Ha]; · iexact Ha
      isplitl [HY]; · iexact HY
      iexact HZ
    · unfold Pipeline.Dat.owesAt Pipeline.owesWithin
      icases HO with ⟨%W, -, HO⟩; iexists W; iexact HO

/-- The three in order. -/
abbrev segs : List (Pipeline.Seg (pcfgs (F := F)) (fun _ => adm m) (dats m) () defs₀ 𝒱₀ L lv) := [.host (seg0 m), .region (reg0 m hids), .host (seg1 m)]

/-- The launch's element of the algebra. -/
def u₀ : UU nD τ :=
  (initOf (Pipeline.cells (Pipeline.pin (pcfgs (F := F)) fun _ => adm m) (cellOf_inj fun _ => adm m))
    (Pipeline.launchToks (Pipeline.pin (pcfgs (F := F)) fun _ => adm m) (cellOf_inj fun _ => adm m)), 1)

/-- What the run leaves on core `c`: the arguments as launched, the two results. -/
def QC (c : Dev nD) (s : MemSt nD τ sig (Elt F)) : Prop :=
  (s.mem ((c : Thread nD τ).loc main_v7) = res m c main_v7 ∧ s.mem ((c : Thread nD τ).loc main_v9) = res m c main_v9)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

set_option backward.isDefEq.respectTransparency.types false in
include hids in
/-- From any memory whose identifiers are below 32000 and whose counters are zero, every run ends, the arguments as launched,
    the results at `res`, every counter at zero. -/
theorem run_main : θ_run defs (onTc (τ := τ) (main (F := F))) ⟨m, fun _ => 0, ρ⟩ (fun r => (∀ c, QC m c r.2) ∧ r.2.sem = fun _ => 0) :=
  Pipeline.θ_run_regions_kit_sems (pcfgs (F := F)) (fun _ => adm m) (dats m) () (cellOf_inj fun _ => adm m) EP defs₀ 𝒱₀ L lv m ρ main (segs m hids)
    (fun c Q => by rw [main_segs (fun _ => adm m) (dats m) () 𝒱₀ L lv (seg0 m) (seg1 m) (reg0 m hids) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) tailRefs (StableHlo.after hostOps1 (V₁ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c) from Pipeline.unscopedBufs_held (c := c) (V₀ m c)]
      iintro ⟨⟨Hh, -, HO, -, -, -⟩, -⟩
      imodintro
      isplitl [Hh]; · iexact Hh
      iexists ∅; iexact HO)
    (QY := QC m)
    (hfin := fun c s' => by
      rw [held_tail]
      unfold QC
      rw [← res_arg m c main_arg0 (by decide) (by decide) (by decide) (by decide), ← res_arg m c main_arg1 (by decide) (by decide) (by decide) (by decide),
        ← res_arg m c main_arg2 (by decide) (by decide) (by decide) (by decide), ← res_arg m c main_arg3 (by decide) (by decide) (by decide) (by decide)]
      iintro ⟨⟨H0, H1, H2, H3, -, -, -, H7, -, H9⟩, HSI⟩
      icombine HSI H0 gives %h0
      icombine HSI H1 gives %h1
      icombine HSI H2 gives %h2
      icombine HSI H3 gives %h3
      icombine HSI H7 gives %h7
      icombine HSI H9 gives %h9
      imodintro
      isplitr
      · ipureintro
        exact ⟨⟨Buf.eq_of_forall_mem_univ h7, Buf.eq_of_forall_mem_univ h9⟩, Buf.eq_of_forall_mem_univ h0, Buf.eq_of_forall_mem_univ h1,
          Buf.eq_of_forall_mem_univ h2, Buf.eq_of_forall_mem_univ h3⟩
      iexact HSI)
    (hQ := fun _ h hz => ⟨h, funext fun g => hz g (.inr (by revert g; decide))⟩)

end Cert.Proof.KernelIdeal

end
-- ==== Proof.Frames.lean ====
/- The claims that each program runs, leaves its arguments as they were and ends with its counters at zero. -/
module

public import proofs.«01_k».proof.Defs
public import proofs.«01_k».proof.Proof.Gen.Pre_ids_in_range
public import proofs.«01_k».proof.Proof.Gen.ReferenceIdeal.Run
public import proofs.«01_k».proof.Proof.Kernel.Run
public import proofs.«01_k».proof.Proof.KernelIdeal.Run

@[expose] public section

noncomputable section

namespace Cert.Proof

open Idealize.ShloMosaic Idealize.ShloMosaic.TcCoe Idealize.SL.Sem

/-- A 32-bit word that is at least 0 and less than 32000 as a signed number is less than 32000 as a natural number. -/
theorem toNat_lt_of_signed (x : BitVec 32) (h0 : (0#32).sle x = true) (h1 : x.slt 32000#32 = true) : x.toNat < 32000 := by
  have e0 : (0#32).toInt = 0 := by decide
  have e1 : (32000#32).toInt = 32000 := by decide
  simp only [BitVec.sle, BitVec.slt, decide_eq_true_eq, e0, e1] at h0 h1
  rw [BitVec.toInt_eq_toNat_cond] at h0 h1
  have := x.isLt
  split at h0 <;> split at h1 <;> omega

/-- The precondition, at each token: its identifier is less than 32000. -/
theorem ids_lt {F : FTy → Type} [FloatOps F] (a0 : IVec Cert.Pre_ids_in_range.S4x1024 32) (a1 : IVec Cert.Pre_ids_in_range.S32000x7168 8)
    (a2 : FVec F Cert.Pre_ids_in_range.S32000x56 .f32) (a3 : FVec F Cert.Pre_ids_in_range.S7168 .bf16)
    (h : Cert.Pre_ids_in_range.fn a0 a1 a2 a3 = fun _ => 1#1) (x : Cert.Pre_ids_in_range.S4x1024.Idx) : (a0 x).toNat < 32000 := by
  have hx := congrFun h x
  have e : ∀ p q : Bool, IntOp.andi (BitVec.ofBool p) (BitVec.ofBool q) = 1#1 → p = true ∧ q = true := by decide
  have := e ((0#32).sle (a0 x)) ((a0 x).slt 32000#32) hx
  exact toNat_lt_of_signed _ this.1 this.2

/-- The kernel runs, leaves its arguments and ends with its counters at zero. -/
theorem frame_kernel : Cert.quiescent_Kernel := fun m g hp =>
  (θ_run Cert.Kernel.defs _ _).mono (fun r h => ⟨fun c => (h.1 c).2, h.2⟩)
    (Kernel.run_main m g (fun x => ids_lt _ _ _ _ (hp 0) x))

/-- The same of the idealized kernel. -/
theorem frame_kernelIdeal : Cert.quiescent_KernelIdeal := fun m g hp =>
  (θ_run Cert.KernelIdeal.defs _ _).mono (fun r h => ⟨fun c => (h.1 c).2, h.2⟩)
    (KernelIdeal.run_main m g (fun x => ids_lt _ _ _ _ (hp 0) x))

/-- The same of the reference, on any arguments; it has no counter. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

end Cert.Proof

end
-- ==== Proof.Value.Spec.lean ====
/- The mathematics of one token, over the extended reals: its embedding and its normalized embedding, from its row of
   codes, its row of scales and the weights. Both programs are proved to compute these. -/
module

public import Idealize.ShloMosaic.Lib.Pointwise
public import Idealize.ShloMosaic.PureOps.Ideal

@[expose] public section

noncomputable section

namespace Cert.Proof

open Idealize.ShloMosaic

/-- The row of the tables that an identifier names. -/
def row (x : BitVec 32) : Fin 32000 := ⟨x.toNat % 32000, Nat.mod_lt _ (by decide)⟩

/-- Element `d` of a row is in group `d / 128`. -/
def group (d : Fin 7168) : Fin 56 := ⟨d.val / 128, by have := d.isLt; omega⟩

variable (T : (⟨2, ![32000, 7168]⟩ : Shape).Idx → BitVec 8) (S : (⟨2, ![32000, 56]⟩ : Shape).Idx → EReal)
variable (w : (⟨1, ![7168]⟩ : Shape).Idx → EReal)

/-- Element `d` of the embedding of row `v`: its code times its group's scale. -/
def embAt (v : Fin 32000) (d : Fin 7168) : EReal :=
  FloatOps.sitofp (F := Ideal) .f32 ((T (ix2 v d)).signExtend 32) * S (ix2 v (group d))

/-- The reciprocal root of the mean square of an embedding, the mean moved off zero. -/
def scaleOf (e : Fin 7168 → EReal) : EReal :=
  Ideal.rsqrt ((∑ d, e d * e d) * ((1 / 7168 : ℝ) : EReal) + Ideal.ofBits .f32 0x358637BD#32)

/-- Element `d` of the normalized embedding of row `v`. -/
def outAt (v : Fin 32000) (d : Fin 7168) : EReal := embAt T S v d * scaleOf (embAt T S v) * w (ix1 d)

/-- The pattern of the divisor is 7168. -/
theorem ofBits_7168 : Ideal.ofBits .f32 0x45E00000#32 = ((7168 : ℝ) : EReal) := by
  simp [Ideal.ofBits, Ideal.ieee, -EReal.coe_mul]; norm_num

/-- Division by it is multiplication by its reciprocal. -/
theorem div_7168 (x : EReal) : Ideal.div x (Ideal.ofBits .f32 0x45E00000#32) = x * ((1 / 7168 : ℝ) : EReal) := by
  rw [ofBits_7168]; exact Ideal.div_coe (by norm_num) x

/-- A sum over a row is a sum over its groups and lanes. -/
theorem sum_groups (f : Fin 7168 → EReal) :
    ∑ d, f d = ∑ r : Fin 56, ∑ l : Fin 128, f ⟨128 * r.val + l.val, by have := r.isLt; have := l.isLt; omega⟩ := by
  rw [← Finset.sum_product']
  refine (Finset.sum_bij' (fun (p : Fin 56 × Fin 128) _ => (⟨128 * p.1.val + p.2.val, by have := p.1.isLt; have := p.2.isLt; omega⟩ : Fin 7168))
    (fun d _ => ((⟨d.val / 128, by have := d.isLt; omega⟩ : Fin 56), (⟨d.val % 128, Nat.mod_lt _ (by decide)⟩ : Fin 128)))
    (fun _ _ => Finset.mem_univ _) (fun _ _ => Finset.mem_univ _) ?_ ?_ (fun _ _ => rfl)).symm
  · rintro ⟨r, l⟩ -
    have := l.isLt
    exact Prod.ext (Fin.ext (by show (128 * r.val + l.val) / 128 = r.val; omega)) (Fin.ext (by show (128 * r.val + l.val) % 128 = l.val; omega))
  · rintro d -
    exact Fin.ext (by show 128 * (d.val / 128) + d.val % 128 = d.val; omega)

end Cert.Proof

end
-- ==== Proof.Value.Words.lean ====
/- What the kernel's packed arguments hold: a byte of a word is a code, and a column of the transposed scales is a row. -/
module

public import proofs.«01_k».proof.Proof.KernelIdeal.TripText
public import proofs.«01_k».proof.Proof.Value.Spec
public import Idealize.ShloMosaic.Lib.BitcastConvert

@[expose] public section

noncomputable section

namespace Cert.Proof

open Cert.KernelIdeal Cert.KernelIdeal.Gen Idealize.ShloMosaic

/-- The packed table: word `k` of row `r` holds the codes of element `k` of rows `4 r` to `4 r + 3`. -/
def packed (T : S32000x7168.Idx → BitVec 8) : S8000x7168.Idx → BitVec 32 :=
  Host.bitcastConvertWiden S8000x7168 32
    (transpose S8000x7168x4 [0, 2, 1] (shapeCast S8000x4x7168 T shapeCasts_S32000x7168_S8000x4x7168) transposes_S8000x4x7168_S8000x7168x4_0_2_1)
    splits_S8000x7168_w32_S8000x7168x4_w8

/-- Bit `p` of byte `q` of a word of it. -/
theorem packed_bit (T : S32000x7168.Idx → BitVec 8) (r : Fin 8000) (k : Fin 7168) (q : Fin 4) (p : ℕ) (hp : p < 8) :
    (packed T (ix2 r k)).getLsbD (8 * q.val + p)
      = (T (ix2 (⟨4 * r.val + q.val, by have := r.isLt; have := q.isLt; omega⟩ : Fin 32000) k)).getLsbD p := by
  have hq := q.isLt
  unfold packed
  rw [Host.bitcastConvertWiden_getLsbD _ _ _ _ _ _ (show 8 * q.val + p < 32 by omega), show (8 * q.val + p) % 8 = p by omega]
  have hs : (splits_S8000x7168_w32_S8000x7168x4_w8.snoc (ix2 r k) ⟨(8 * q.val + p) / 8, splits_S8000x7168_w32_S8000x7168x4_w8.div_lt (show 8 * q.val + p < 32 by omega)⟩ : S8000x7168x4.Idx)
      = ix3 r k q := by
    funext a; refine Fin.ext ?_
    match a with
    | ⟨0, _⟩ => rfl
    | ⟨1, _⟩ => rfl
    | ⟨2, _⟩ => show (8 * q.val + p) / 8 = q.val; omega
  rw [hs]
  congr 1
  pointwise
  congr 1
  congr 1
  exact Fin.ext (by show r.val * 4 + q.val = 4 * r.val + q.val; omega)

/-- A byte of a word, moved to the top and back with its sign, is the byte extended. -/
theorem shifted (w : BitVec 32) (b : BitVec 8) (q : ℕ) (hq : q < 4) (h : ∀ p, p < 8 → w.getLsbD (8 * q + p) = b.getLsbD p) :
    (w <<< (24 - 8 * q)).sshiftRight 24 = b.signExtend 32 := by
  refine BitVec.eq_of_getLsbD_eq fun i hi => ?_
  rw [BitVec.getLsbD_sshiftRight, BitVec.getLsbD_signExtend, BitVec.msb_eq_getLsbD_last, BitVec.msb_eq_getLsbD_last, BitVec.getLsbD_shiftLeft, BitVec.getLsbD_shiftLeft]
  by_cases h8 : i < 8
  · have h1 : ¬ 24 + i < 24 - 8 * q := by omega
    have h2 := h i h8
    have h3 : 24 + i - (24 - 8 * q) = 8 * q + i := by omega
    rw [h3, h2]
    simp [hi, h8, h1, show ¬ 32 ≤ i by omega, show 24 + i < 32 by omega]
  · have h1 : ¬ 24 + i < 32 := by omega
    have h2 := h 7 (by decide)
    have h3 : 31 - (24 - 8 * q) = 8 * q + 7 := by omega
    simp [hi, h8, h1, show ¬ 32 ≤ i by omega, h3, h2, show ¬ 31 < 24 - 8 * q by omega]

/-- The amount by which the kernel shifts. -/
theorem amount (x : BitVec 32) : (Scalar.subi 24#32 (Scalar.muli 8#32 (Scalar.andi x 3#32))).toNat = 24 - 8 * (x.toNat % 4) := by
  have h : (x &&& 3#32).toNat = x.toNat % 4 := by
    rw [BitVec.toNat_and, show (3#32).toNat = 2 ^ 2 - 1 from rfl, Nat.and_two_pow_sub_one_eq_mod]
  show (24#32 - 8#32 * (x &&& 3#32)).toNat = _
  rw [BitVec.toNat_sub, BitVec.toNat_mul, h]
  simp only [BitVec.toNat_ofNat]
  omega

/-- The code that the kernel reads from its packed row. -/
theorem code_read (T : S32000x7168.Idx → BitVec 8) (x : BitVec 32) (hx : x.toNat < 32000) (k : Fin 7168) :
    IntOp.shrsi .vector (IntOp.shli .vector (packed T (ix2 (⟨(x >>> 2).toNat % 8000, Nat.mod_lt _ (by decide)⟩ : Fin 8000) k))
        (Scalar.subi 24#32 (Scalar.muli 8#32 (Scalar.andi x 3#32)))) 24#32
      = (T (ix2 (row x) k)).signExtend 32 := by
  have hr : (x >>> 2).toNat % 8000 = x.toNat / 4 := by
    rw [BitVec.toNat_ushiftRight, Nat.shiftRight_eq_div_pow]; omega
  have ha := amount x
  unfold IntOp.shrsi IntOp.shli
  rw [if_pos (show (24#32).toNat < 32 by decide), if_pos (show (Scalar.subi 24#32 (Scalar.muli 8#32 (Scalar.andi x 3#32))).toNat < 32 by rw [ha]; omega)]
  show (packed T _ <<< (Scalar.subi 24#32 (Scalar.muli 8#32 (Scalar.andi x 3#32))).toNat).sshiftRight 24 = _
  rw [ha]
  refine shifted _ _ (x.toNat % 4) (Nat.mod_lt _ (by decide)) fun p hp => ?_
  refine (packed_bit T _ k ⟨x.toNat % 4, Nat.mod_lt _ (by decide)⟩ p hp).trans ?_
  congr 3
  refine Fin.ext ?_
  show 4 * ((x >>> 2).toNat % 8000) + x.toNat % 4 = x.toNat % 32000
  omega

/-- The lane of the scales that the kernel takes. -/
theorem lane_read (x : BitVec 32) : (Scalar.select (IntOp.cmpi .slt (Scalar.andi x 127#32) 0#32) (IntOp.addi (Scalar.andi x 127#32) 128#32) (Scalar.andi x 127#32)).toNat
      = x.toNat % 128 := by
  have h : (x &&& 127#32).toNat = x.toNat % 128 := by
    rw [BitVec.toNat_and, show (127#32).toNat = 2 ^ 7 - 1 from rfl, Nat.and_two_pow_sub_one_eq_mod]
  have hm : (x &&& 127#32).slt 0#32 = false := by
    simp only [BitVec.slt, decide_eq_false_iff_not, show (0#32).toInt = 0 by decide, BitVec.toInt_eq_toNat_cond, h]
    split <;> omega
  show (Scalar.select (IntOp.cmpi .slt (x &&& 127#32) 0#32) (IntOp.addi (x &&& 127#32) 128#32) (x &&& 127#32)).toNat = _
  rw [← h]
  unfold IntOp.cmpi
  simp only [hm]
  rfl

end Cert.Proof

end
-- ==== Proof.Value.Token.lean ====
/- What the kernel computes of a token, and what a step leaves in the two blocks, element by element. -/
module

public import proofs.«01_k».proof.Proof.KernelIdeal.Body
public import proofs.«01_k».proof.Proof.Value.Words
public import Idealize.ShloMosaic.PureOps.IdealRules

@[expose] public section

noncomputable section

namespace Cert.Proof

open Cert.KernelIdeal Cert.KernelIdeal.Gen Cert.Proof.KernelIdeal Idealize.ShloMosaic

/-- The transposed scales. -/
def turned (S : S32000x56.Idx → EReal) : S56x32000.Idx → EReal := transpose S56x32000 [1, 0] S transposes_S32000x56_S56x32000_1_0

/-- The weights in groups. -/
def grouped (w : S7168.Idx → EReal) : S56x128.Idx → EReal := shapeCast S56x128 w shapeCasts_S7168_S56x128

theorem turned_apply (S : S32000x56.Idx → EReal) (r : Fin 56) (v : Fin 32000) : turned S (ix2 r v) = S (ix2 v r) := by
  unfold turned; pointwise

/-- Element `l` of group `r`. -/
def elem (r : Fin 56) (l : Fin 128) : Fin 7168 := ⟨128 * r.val + l.val, by have := r.isLt; have := l.isLt; omega⟩

theorem grouped_apply (w : S7168.Idx → EReal) (r : Fin 56) (l : Fin 128) : grouped w (ix2 r l) = w (ix1 (elem r l)) := by
  unfold grouped; pointwise
  congr 1
  congr 1
  exact Fin.ext (by show r.val * 128 + l.val = 128 * r.val + l.val; omega)

theorem group_elem (r : Fin 56) (l : Fin 128) : group (elem r l) = r :=
  Fin.ext (by have := l.isLt; show (128 * r.val + l.val) / 128 = r.val; omega)

variable (ids : S4x1024.Idx → BitVec 32) (T : S32000x7168.Idx → BitVec 8) (S : S32000x56.Idx → EReal) (w : S7168.Idx → EReal)

/-- A token's embedding. -/
theorem embWide_tok (hids : ∀ x, (ids x).toNat < 32000) (n t : ℕ) (r : Fin 56) (l : Fin 128) :
    embWide (F := Ideal) (tokAt (F := Ideal) ids (turned S) (packed T) n t) (ix2 r l) = embAt T S (row (idAt ids n t)) (elem r l) := by
  have hx : (idAt ids n t).toNat < 32000 := hids _
  have hl := lane_read (idAt ids n t)
  have h7 : (idAt ids n t >>> 7).toNat = (idAt ids n t).toNat / 128 := by rw [BitVec.toNat_ushiftRight, Nat.shiftRight_eq_div_pow]
  have key (q : Fin 128) (hq : q.val = (idAt ids n t).toNat % 128) :
      turned S (ValueIdx.ix2 r (⟨((idAt ids n t >>> 7).toNat * 128 + q.val) % 32000, Nat.mod_lt _ (by decide)⟩ : Fin 32000))
        = turned S (ix2 r (row (idAt ids n t))) := by
    rw [← ix2_eq_valueIdx]
    refine congrArg (fun v => turned S (ix2 r v)) (Fin.ext ?_)
    show ((idAt ids n t >>> 7).toNat * 128 + q.val) % 32000 = (idAt ids n t).toNat % 32000
    rw [hq, h7]
    omega
  pointwise [embWide, k0_pay6, k0_pay5, k0_pay4]
  unfold embAt
  rw [group_elem]
  congr 1
  · rw [← code_read T (idAt ids n t) hx (elem r l)]
    congr 3
    show packed T _ = packed T _
    congr 1
    rw [← ix2_eq_valueIdx]
    congr 1
    refine Fin.ext ?_
    show (r.val * 128 + l.val) % 7168 = 128 * r.val + l.val
    have := r.isLt; have := l.isLt
    omega
  · refine Eq.trans ?_ (turned_apply S r (row (idAt ids n t)))
    refine key ⟨(Scalar.select (IntOp.cmpi .slt (Scalar.andi (idAt ids n t) 127#32) 0#32) (IntOp.addi (Scalar.andi (idAt ids n t) 127#32) 128#32) (Scalar.andi (idAt ids n t) 127#32)).toNat % 128,
      Nat.mod_lt _ (by decide)⟩ ?_
    show _ % 128 = _
    rw [hl]
    omega

/-- The kernel's reciprocal is the reciprocal. -/
theorem inv_d : (Named.named (F := Ideal) (φ := .f32) Cert.KernelIdeal.κ "inv_d" 957499685#32 : EReal) = ((1 / 7168 : ℝ) : EReal) :=
  IdealRules.named_const.ideal_named_scalar _ _ _ _ rfl

/-- A token's normalized embedding. -/
theorem out_tok (hids : ∀ x, (ids x).toNat < 32000) (n t : ℕ) (r : Fin 56) (l : Fin 128) :
    k0_pay10 (F := Ideal) (k0_pay1 (grouped w)) (embWide (F := Ideal) (tokAt (F := Ideal) ids (turned S) (packed T) n t)) (ix2 r l)
      = outAt T S w (row (idAt ids n t)) (elem r l) := by
  pointwise [k0_pay10, k0_pay8, k0_pay1, embWide_tok ids T S hids n t, grouped_apply]
  unfold outAt scaleOf
  rw [sum_groups, ← inv_d]
  rfl

/-- A piece holds the first token in its even places and the second in its odd ones. -/
theorem piece_apply (lo hi : FVec Ideal S56x128 .bf16) (g : Fin 7) (r : Fin 8) (p : Fin 2) (l : Fin 128) :
    (KernelIdeal.piece lo hi g (ix4 0 r p l) : EReal)
      = if p.val % 2 = 0 then lo (ix2 (⟨8 * g.val + r.val, by have := g.isLt; have := r.isLt; omega⟩ : Fin 56) l)
        else hi (ix2 (⟨8 * g.val + r.val, by have := g.isLt; have := r.isLt; omega⟩ : Fin 56) l) := by
  pointwise [KernelIdeal.piece]

/-- Two tokens' pieces laid in a block: what each token gives, at its place. -/
theorem atPiece_pair (X : ℕ → FVec Ideal S56x128 .bf16) (k : Fin 8) (r : Fin 56) (p : Fin 8) (l : Fin 128) :
    (atPiece (fun t g y => KernelIdeal.piece (X t) (X (t + 1)) g y) (ix4 k r p l) : EReal) = X (8 * k.val + p.val) (ix2 r l) := by
  show (KernelIdeal.piece (X (8 * k.val + 2 * (p.val / 2))) (X (8 * k.val + 2 * (p.val / 2) + 1)) ⟨r.val / 8, _⟩
    (ValueIdx.ix4 (0 : Fin 1) (⟨r.val % 8, _⟩ : Fin 8) (⟨p.val % 2, _⟩ : Fin 2) l) : EReal) = _
  rw [← ix4_eq_valueIdx, piece_apply]
  have hr : (⟨8 * (r.val / 8) + r.val % 8, by have := r.isLt; omega⟩ : Fin 56) = r := Fin.ext (by show 8 * (r.val / 8) + r.val % 8 = r.val; omega)
  by_cases h : p.val % 2 = 0
  · rw [if_pos (by show p.val % 2 % 2 = 0; omega), hr, show 8 * k.val + 2 * (p.val / 2) = 8 * k.val + p.val by omega]
  · rw [if_neg (by show ¬ p.val % 2 % 2 = 0; omega), hr, show 8 * k.val + 2 * (p.val / 2) + 1 = 8 * k.val + p.val by omega]

/-- What a step leaves in the block of embeddings. -/
theorem stepEmb_apply (hids : ∀ x, (ids x).toNat < 32000) (n : ℕ) (k : Fin 8) (r : Fin 56) (p : Fin 8) (l : Fin 128) :
    (stepEmb (F := Ideal) ids (turned S) (packed T) n (ix4 k r p l) : EReal) = embAt T S (row (idAt ids n (8 * k.val + p.val))) (elem r l) :=
  (atPiece_pair (fun t => k0_pay8 (embWide (F := Ideal) (tokAt (F := Ideal) ids (turned S) (packed T) n t))) k r p l).trans
    (embWide_tok ids T S hids n _ r l)

/-- What it leaves in the normalized block. -/
theorem stepOut_apply (hids : ∀ x, (ids x).toNat < 32000) (n : ℕ) (k : Fin 8) (r : Fin 56) (p : Fin 8) (l : Fin 128) :
    (stepOut (F := Ideal) ids (turned S) (packed T) (grouped w) n (ix4 k r p l) : EReal)
      = outAt T S w (row (idAt ids n (8 * k.val + p.val))) (elem r l) :=
  (atPiece_pair (fun t => k0_pay10 (F := Ideal) (k0_pay1 (grouped w)) (embWide (F := Ideal) (tokAt (F := Ideal) ids (turned S) (packed T) n t))) k r p l).trans
    (out_tok ids T S w hids n _ r l)

end Cert.Proof

end
-- ==== Proof.Value.Arrays.lean ====
/- What the region's two result arrays hold. -/
module

public import proofs.«01_k».proof.Proof.KernelIdeal.Run
public import proofs.«01_k».proof.Proof.Value.Token
public import Idealize.ShloMosaic.Lib.Pipeline.ValueKit.Geometry
public import Idealize.ShloMosaic.Lib.StableHlo.ReadAt

@[expose] public section

noncomputable section

namespace Cert.Proof

open Cert.KernelIdeal Cert.KernelIdeal.Gen Cert.Proof.KernelIdeal Idealize.ShloMosaic Idealize.ShloMosaic.TcCoe
open Idealize.ShloMosaic.Pipeline (Dat Cfg Window)

variable (m : (ℓ : Loc nD τ sig) → Buf (Elt Ideal) ℓ)

/-- The kernel's arguments. -/
abbrev codesOf : S32000x7168.Idx → BitVec 8 := m (((0 : Dev nD) : Thread nD τ).loc main_arg1)
abbrev tableOf : S32000x56.Idx → EReal := m (((0 : Dev nD) : Thread nD τ).loc main_arg2)
abbrev weightsOf : S7168.Idx → EReal := m (((0 : Dev nD) : Thread nD τ).loc main_arg3)

/-- The words the region reads are the packed codes, -/
theorem words_eq : wordsOf m 0 = packed (codesOf m) := by
  show StableHlo.after hostOps0 (V₀ m 0) (Proc.devRef .tc main_v2) = _
  after_results_simp
  rfl

/-- the scales are turned, -/
theorem scales_eq : (scalesOf m 0 : S56x32000.Idx → EReal) = turned (tableOf m) := by
  show StableHlo.after hostOps0 (V₀ m 0) (Proc.devRef .tc main_v3) = _
  after_results_simp
  rfl

/-- and the weights are grouped. -/
theorem weights_eq : (V m 0 main_v4 : S56x128.Idx → EReal) = grouped (weightsOf m) := by
  show StableHlo.after hostOps0 (V₀ m 0) (Proc.devRef .tc main_v4) = _
  after_results_simp
  rfl

/-- Where the blocks lie. -/
theorem index_in : ∀ t : Fin grid0.N, cc0_transform_2 (grid0.coords t) = ![0, 0] := by decide
theorem index_out : ∀ t : Fin grid0.N, cc0_transform_3 (grid0.coords t) = ![t.val, 0, 0, 0] := by decide
theorem index_emb : ∀ t : Fin grid0.N, cc0_transform_4 (grid0.coords t) = ![t.val, 0, 0, 0] := by decide
theorem flush_out : ∀ t : Fin grid0.N, Window.flushOf grid0 true cc0_transform_3 t = true := by decide
theorem flush_emb : ∀ t : Fin grid0.N, Window.flushOf grid0 true cc0_transform_4 t = true := by decide

/-- The block of weights is the whole of them. -/
theorem block_weights (t : Fin (cfgA m).N) :
    ((((cfgA m).win 0).blk t).view.read (Elt Ideal) (V m 0 main_v4) : S56x128.Idx → EReal) = grouped (weightsOf m) := by
  rw [← weights_eq]
  have e : ((cfgA m).win 0).index t = ![0, 0] := index_in t
  funext y
  show V m 0 main_v4 ((((cfgA m).win 0).blk t).view.emb y) = V m 0 main_v4 y
  congr 1
  funext a
  refine Fin.ext ?_
  blk_simp
  rw [e]
  match a with
  | ⟨0, _⟩ => exact (congrArg (· + _) (Nat.zero_mul _)).trans (Nat.zero_add _)
  | ⟨1, _⟩ => exact (congrArg (· + _) (Nat.zero_mul _)).trans (Nat.zero_add _)

/-- Element `y` of block `n` of an array of blocks of eight. -/
def place (n : ℕ) (hn : n < 64) (y : S8x56x8x128.Idx) : S512x56x8x128.Idx :=
  ix4 (⟨n * 8 + (y 0).val, by have : (y 0).val < 8 := (y 0).isLt; omega⟩ : Fin 512) (y 1 : Fin 56) (y 2 : Fin 8) (y 3 : Fin 128)

theorem emb_out (t : Fin (cfgA m).N) (y : S8x56x8x128.Idx) : (((cfgA m).win 1).blk t).view.emb y = place t.val t.isLt y := by
  have e : ((cfgA m).win 1).index t = ![t.val, 0, 0, 0] := index_out t
  funext a
  refine Fin.ext ?_
  blk_simp
  rw [e]
  match a with
  | ⟨0, _⟩ => rfl
  | ⟨1, _⟩ => exact (congrArg (· + _) (Nat.zero_mul _)).trans (Nat.zero_add _)
  | ⟨2, _⟩ => exact (congrArg (· + _) (Nat.zero_mul _)).trans (Nat.zero_add _)
  | ⟨3, _⟩ => exact (congrArg (· + _) (Nat.zero_mul _)).trans (Nat.zero_add _)

theorem emb_emb (t : Fin (cfgA m).N) (y : S8x56x8x128.Idx) : (((cfgA m).win 2).blk t).view.emb y = place t.val t.isLt y := by
  have e : ((cfgA m).win 2).index t = ![t.val, 0, 0, 0] := index_emb t
  funext a
  refine Fin.ext ?_
  blk_simp
  rw [e]
  match a with
  | ⟨0, _⟩ => rfl
  | ⟨1, _⟩ => exact (congrArg (· + _) (Nat.zero_mul _)).trans (Nat.zero_add _)
  | ⟨2, _⟩ => exact (congrArg (· + _) (Nat.zero_mul _)).trans (Nat.zero_add _)
  | ⟨3, _⟩ => exact (congrArg (· + _) (Nat.zero_mul _)).trans (Nat.zero_add _)

/-- Every element of the array is in a block. -/
theorem exists_place (i : S512x56x8x128.Idx) : ∃ (t : Fin 64) (y : S8x56x8x128.Idx), i = place t.val t.isLt y := by
  have hi : (i 0).val < 512 := (i 0).isLt
  refine ⟨⟨(i 0).val / 8, by omega⟩, ix4 (⟨(i 0).val % 8, by omega⟩ : Fin 8) (i 1 : Fin 56) (i 2 : Fin 8) (i 3 : Fin 128), ?_⟩
  funext a
  refine Fin.ext ?_
  match a with
  | ⟨0, _⟩ => show (i 0).val = (i 0).val / 8 * 8 + (i 0).val % 8; omega
  | ⟨1, _⟩ => rfl
  | ⟨2, _⟩ => rfl
  | ⟨3, _⟩ => rfl

/-- The row of the tables of the token at an element of a result array: block `n` is the step's, and the token in the step
    is eight times the element's row in the block, plus its place. -/
def tokenRow (x : S512x56x8x128.Idx) : Fin 32000 := row (idAt (idsOf m) ((x 0).val / 8) (8 * ((x 0).val % 8) + (x 2).val))

theorem tokenRow_place (n : ℕ) (hn : n < 64) (y : S8x56x8x128.Idx) :
    tokenRow m (place n hn y) = row (idAt (idsOf m) n (8 * (y 0).val + (y 2).val)) := by
  have h0 : (y 0).val < 8 := (y 0).isLt
  show row (idAt (idsOf m) ((n * 8 + (y 0).val) / 8) (8 * ((n * 8 + (y 0).val) % 8) + (y 2).val)) = _
  rw [show (n * 8 + (y 0).val) / 8 = n by omega, show (n * 8 + (y 0).val) % 8 = (y 0).val by omega]

/-- An index from its coordinates. -/
theorem eq_ix4 (y : S8x56x8x128.Idx) : y = ix4 (y 0 : Fin 8) (y 1 : Fin 56) (y 2 : Fin 8) (y 3 : Fin 128) := by
  funext a
  match a with
  | ⟨0, _⟩ => rfl
  | ⟨1, _⟩ => rfl
  | ⟨2, _⟩ => rfl
  | ⟨3, _⟩ => rfl

/-- A step's two blocks, at the place they have in the arrays. -/
theorem emb_block (hids : ∀ x, (idsOf m x).toNat < 32000) (n : ℕ) (hn : n < 64) (y : S8x56x8x128.Idx) :
    (stepEmb (F := Ideal) (idsOf m) (turned (tableOf m)) (packed (codesOf m)) n y : EReal)
      = embAt (codesOf m) (tableOf m) (tokenRow m (place n hn y)) (elem (place n hn y 1) (place n hn y 3)) := by
  rw [tokenRow_place]
  exact (congrArg (stepEmb (F := Ideal) (idsOf m) (turned (tableOf m)) (packed (codesOf m)) n) (eq_ix4 y)).trans
    (stepEmb_apply (idsOf m) (codesOf m) (tableOf m) hids n (y 0 : Fin 8) (y 1 : Fin 56) (y 2 : Fin 8) (y 3 : Fin 128))

theorem out_block (hids : ∀ x, (idsOf m x).toNat < 32000) (n : ℕ) (hn : n < 64) (y : S8x56x8x128.Idx) :
    (stepOut (F := Ideal) (idsOf m) (turned (tableOf m)) (packed (codesOf m)) (grouped (weightsOf m)) n y : EReal)
      = outAt (codesOf m) (tableOf m) (weightsOf m) (tokenRow m (place n hn y)) (elem (place n hn y 1) (place n hn y 3)) := by
  rw [tokenRow_place]
  exact (congrArg (stepOut (F := Ideal) (idsOf m) (turned (tableOf m)) (packed (codesOf m)) (grouped (weightsOf m)) n) (eq_ix4 y)).trans
    (stepOut_apply (idsOf m) (codesOf m) (tableOf m) (weightsOf m) hids n (y 0 : Fin 8) (y 1 : Fin 56) (y 2 : Fin 8) (y 3 : Fin 128))

/-- The embeddings. -/
theorem embArr_eq (hids : ∀ x, (idsOf m x).toNat < 32000) :
    (embArr m 0 : S512x56x8x128.Idx → EReal) = fun x => embAt (codesOf m) (tableOf m) (tokenRow m x) (elem (x 1) (x 3)) := by
  refine (dats m 0 0).arrAt_eq_of_emb 2 _ (fun t _ y => ?_) fun i => ?_
  · refine Eq.trans ?_ (congrArg (fun x : S512x56x8x128.Idx => embAt (codesOf m) (tableOf m) (tokenRow m x) (elem (x 1) (x 3))) (emb_emb m t y)).symm
    show (stepEmb (F := Ideal) (idsOf m) (scalesOf m 0) (wordsOf m 0) t.val y : EReal) = _
    rw [words_eq, scales_eq]
    exact emb_block m hids t.val t.isLt y
  · obtain ⟨t, y, rfl⟩ := exists_place i
    exact ⟨t, flush_emb t, emb_emb m t y ▸ View.emb_mem_set _ y⟩

/-- The normalized embeddings. -/
theorem outArr_eq (hids : ∀ x, (idsOf m x).toNat < 32000) :
    (outArr m 0 : S512x56x8x128.Idx → EReal)
      = fun x => outAt (codesOf m) (tableOf m) (weightsOf m) (tokenRow m x) (elem (x 1) (x 3)) := by
  refine (dats m 0 0).arrAt_eq_of_emb 1 _ (fun t _ y => ?_) fun i => ?_
  · refine Eq.trans ?_ (congrArg (fun x : S512x56x8x128.Idx => outAt (codesOf m) (tableOf m) (weightsOf m) (tokenRow m x) (elem (x 1) (x 3))) (emb_out m t y)).symm
    show (stepOut (F := Ideal) (idsOf m) (scalesOf m 0) (wordsOf m 0) ((((cfgA m).win 0).blk t).view.read (Elt Ideal) (V m 0 main_v4)) t.val y : EReal) = _
    rw [words_eq, scales_eq, block_weights]
    exact out_block m hids t.val t.isLt y
  · obtain ⟨t, y, rfl⟩ := exists_place i
    exact ⟨t, flush_out t, emb_out m t y ▸ View.emb_mem_set _ y⟩

end Cert.Proof

end
-- ==== Proof.Value.Results.lean ====
/- What the kernel's two results hold, token by token. -/
module

public import proofs.«01_k».proof.Proof.Value.Arrays

@[expose] public section

noncomputable section

namespace Cert.Proof

open Cert.KernelIdeal Cert.KernelIdeal.Gen Cert.Proof.KernelIdeal Idealize.ShloMosaic Idealize.ShloMosaic.TcCoe

/-- The tokens back in order: an array of blocks of eight rows of eight tokens, as rows of tokens. -/
def unrolled (A : S512x56x8x128.Idx → EReal) : S4x1024x7168.Idx → EReal :=
  shapeCast S4x1024x7168 (transpose S512x8x56x128 [0, 2, 1, 3] A transposes_S512x56x8x128_S512x8x56x128_0_2_1_3) shapeCasts_S512x8x56x128_S4x1024x7168

theorem unrolled_apply (A : S512x56x8x128.Idx → EReal) (b : Fin 4) (s : Fin 1024) (d : Fin 7168) :
    unrolled A (ix3 b s d)
      = A (ix4 (⟨128 * b.val + s.val / 8, by have := b.isLt; have := s.isLt; omega⟩ : Fin 512) (group d) (⟨s.val % 8, Nat.mod_lt _ (by decide)⟩ : Fin 8)
          (⟨d.val % 128, Nat.mod_lt _ (by decide)⟩ : Fin 128)) := by
  unfold unrolled
  pointwise
  refine congrArg (fun x => A (ix4 x _ _ _)) (Fin.ext ?_)
  show b.val * 128 + s.val / 8 = 128 * b.val + s.val / 8
  omega

variable (m : (ℓ : Loc nD τ sig) → Buf (Elt Ideal) ℓ)

/-- The results are the region's arrays with the tokens in order. -/
theorem res_out : (res m 0 main_v7 : S4x1024x7168.Idx → EReal) = unrolled (outArr m 0) := by
  show StableHlo.after hostOps1 (V₁ m 0) (Proc.devRef .tc main_v7) = _
  after_results_simp
  rw [V₁_out]
  rfl

theorem res_emb : (res m 0 main_v9 : S4x1024x7168.Idx → EReal) = unrolled (embArr m 0) := by
  show StableHlo.after hostOps1 (V₁ m 0) (Proc.devRef .tc main_v9) = _
  after_results_simp
  rw [V₁_emb]
  rfl

/-- The token at a place of the sequence, among the arrays' tokens. -/
theorem tokenRow_at (b : Fin 4) (s : Fin 1024) (g : Fin 56) (l : Fin 128) :
    tokenRow m (ix4 (⟨128 * b.val + s.val / 8, by have := b.isLt; have := s.isLt; omega⟩ : Fin 512) g (⟨s.val % 8, Nat.mod_lt _ (by decide)⟩ : Fin 8) l)
      = row (idsOf m (ix2 b s)) := by
  have hb := b.isLt
  have hs := s.isLt
  show row (idsOf m (ValueIdx.ix2
    (⟨(128 * b.val + s.val / 8) / 8 / 16 % 4, _⟩ : Fin 4)
    (⟨((128 * b.val + s.val / 8) / 8 % 16 * 64 + (8 * ((128 * b.val + s.val / 8) % 8) + s.val % 8)) % 1024, _⟩ : Fin 1024))) = _
  rw [← ix2_eq_valueIdx]
  refine congrArg (fun x => row (idsOf m x)) ?_
  refine congrArg₂ ix2 (Fin.ext ?_) (Fin.ext ?_)
  · show (128 * b.val + s.val / 8) / 8 / 16 % 4 = b.val
    omega
  · show ((128 * b.val + s.val / 8) / 8 % 16 * 64 + (8 * ((128 * b.val + s.val / 8) % 8) + s.val % 8)) % 1024 = s.val
    omega

theorem elem_group (d : Fin 7168) : elem (group d) (⟨d.val % 128, Nat.mod_lt _ (by decide)⟩ : Fin 128) = d :=
  Fin.ext (by show 128 * (d.val / 128) + d.val % 128 = d.val; omega)

/-- The first result: the normalized embeddings. -/
theorem kernel_out (hids : ∀ x, (idsOf m x).toNat < 32000) (b : Fin 4) (s : Fin 1024) (d : Fin 7168) :
    (res m 0 main_v7 (ix3 b s d) : EReal) = outAt (codesOf m) (tableOf m) (weightsOf m) (row (idsOf m (ix2 b s))) d := by
  refine (congrFun (res_out m) _).trans ((unrolled_apply _ b s d).trans ((congrFun (outArr_eq m hids) _).trans ?_))
  show outAt _ _ _ (tokenRow m _) (elem (group d) ⟨d.val % 128, _⟩) = _
  rw [tokenRow_at, elem_group]

/-- The second: the embeddings. -/
theorem kernel_emb (hids : ∀ x, (idsOf m x).toNat < 32000) (b : Fin 4) (s : Fin 1024) (d : Fin 7168) :
    (res m 0 main_v9 (ix3 b s d) : EReal) = embAt (codesOf m) (tableOf m) (row (idsOf m (ix2 b s))) d := by
  refine (congrFun (res_emb m) _).trans ((unrolled_apply _ b s d).trans ((congrFun (embArr_eq m hids) _).trans ?_))
  show embAt _ _ (tokenRow m _) (elem (group d) ⟨d.val % 128, _⟩) = _
  rw [tokenRow_at, elem_group]

end Cert.Proof

end
-- ==== Proof.Value.Reference.lean ====
/- What the reference computes, element by element. -/
module

public import proofs.«01_k».proof.Proof.Gen.ReferenceIdeal.Run
public import proofs.«01_k».proof.Proof.Value.Spec

@[expose] public section

noncomputable section

namespace Cert.Proof.Reference

open Cert.ReferenceIdeal Cert.ReferenceIdeal.Gen Cert.ReferenceIdeal.Value
open Idealize.ShloMosaic Idealize.ShloMosaic.TcCoe

/-- The dimension numbers of a gather of rows of an array at an array of row numbers. -/
abbrev rowDims (N D B C : Nat) (wf : GatherDims.WF ⟨2, ![N, D]⟩ ⟨3, ![B, C, 1]⟩ ⟨3, ![B, C, D]⟩ [2] [0] [] [0] [] 2 ![1, D]) :
    GatherDims ⟨2, ![N, D]⟩ ⟨3, ![B, C, 1]⟩ ⟨3, ![B, C, D]⟩ where
  offsetDims := [2]
  collapsedSliceDims := [0]
  operandBatchingDims := []
  startIndicesBatchingDims := []
  startIndexMap := [0]
  indexVectorDim := 2
  sliceSizes := ![1, D]
  wf := wf

/-- Such a gather at an index: the element of the row whose number, read signed and clamped, is at the place. -/
theorem gather_rows {α : Type} {N D B C w : Nat} (hN : 0 < N)
    (wf : GatherDims.WF ⟨2, ![N, D]⟩ ⟨3, ![B, C, 1]⟩ ⟨3, ![B, C, D]⟩ [2] [0] [] [0] [] 2 ![1, D])
    (x : (⟨2, ![N, D]⟩ : Shape).Idx → α) (idx : IVec ⟨3, ![B, C, 1]⟩ w) (b : Fin B) (c : Fin C) (d : Fin D) :
    Host.gather (rowDims N D B C wf) x idx (ix3 b c d)
      = x (ix2 ⟨min (idx (ix3 b c (0 : Fin 1))).toInt.toNat (N - 1), by omega⟩ d) := by
  unfold Host.gather
  congr 1
  funext a
  refine Fin.ext ?_
  show (rowDims N D B C wf).start (ix3 b c d) idx a + (rowDims N D B C wf).batchCoord (ix3 b c d) a
      + (rowDims N D B C wf).offCoord (ix3 b c d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D B C wf).startIndexMap from List.mem_singleton.mpr rfl)]
    have hsi : (rowDims N D B C wf).siIdx (ix3 b c d) ⟨List.idxOf (0 : Fin 2) (rowDims N D B C wf).startIndexMap,
        List.idxOf_lt_length_iff.2 (List.mem_singleton.mpr rfl)⟩ = ix3 b c (0 : Fin 1) := by
      funext e; refine Fin.ext ?_
      match e with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ (rowDims N D B C wf).startIndexMap from by simp)]
    simp only [Nat.zero_add]
    rfl

/-- An identifier below 32000 is not negative, and its row is the one it names. -/
theorem row_clamped (x : BitVec 32) (h : x.toNat < 32000) :
    (⟨min (Scalar.select (IntOp.cmpi .slt x 0#32) (IntOp.addi x 32000#32) x).toInt.toNat (32000 - 1), by omega⟩ : Fin 32000) = row x := by
  have hm : x.slt 0#32 = false := by
    simp only [BitVec.slt, decide_eq_false_iff_not, show (0#32).toInt = 0 by decide, BitVec.toInt_eq_toNat_cond]
    split <;> omega
  have hs : Scalar.select (IntOp.cmpi .slt x 0#32) (IntOp.addi x 32000#32) x = x := by
    unfold IntOp.cmpi
    simp only [hm]
    rfl
  refine Fin.ext ?_
  show min (Scalar.select (IntOp.cmpi .slt x 0#32) (IntOp.addi x 32000#32) x).toInt.toNat (32000 - 1) = x.toNat % 32000
  rw [hs, BitVec.toInt_eq_toNat_cond]
  split <;> omega

variable (m : (ℓ : Loc nD τ sig) → Buf (Elt Ideal) ℓ) (c : Dev nD)

/-- The arguments. -/
abbrev ids : S4x1024.Idx → BitVec 32 := m ((c.tc : Thread nD τ).loc main_arg0)
abbrev codes : S32000x7168.Idx → BitVec 8 := m ((c.tc : Thread nD τ).loc main_arg1)
abbrev scales : S32000x56.Idx → EReal := m ((c.tc : Thread nD τ).loc main_arg2)
abbrev weights : S7168.Idx → EReal := m ((c.tc : Thread nD τ).loc main_arg3)

/-- The rows of codes the reference reads. -/
theorem gather_codes (h : ∀ x, (ids m c x).toNat < 32000) (b : Fin 4) (s : Fin 1024) (d : Fin 7168) :
    Host.gather gather_S32000x7168_S4x1024x1_S4x1024x7168_2_0_n_n_0_2_17168 (codes m c) (broadcastInDim S4x1024x1 ![0, 1] bcast_S4x1024_S4x1024x1_0_1 (select (cmpi .slt (ids m c) (broadcastInDim S4x1024 ![] bcast_S_S4x1024 (constantI S_ 32 0#32))) (addi (ids m c) (broadcastInDim S4x1024 ![] bcast_S_S4x1024 (constantI S_ 32 32000#32))) (ids m c))) (ix3 b s d)
      = codes m c (ix2 (row (ids m c (ix2 b s))) d) := by
  refine (gather_rows (by decide) gather_S32000x7168_S4x1024x1_S4x1024x7168_2_0_n_n_0_2_17168_wf _ _ b s d).trans ?_
  rw [← row_clamped _ (h (ix2 b s))]
  pointwise

/-- The rows of scales. -/
theorem gather_scales (h : ∀ x, (ids m c x).toNat < 32000) (b : Fin 4) (s : Fin 1024) (d : Fin 56) :
    Host.gather gather_S32000x56_S4x1024x1_S4x1024x56_2_0_n_n_0_2_156 (scales m c) (broadcastInDim S4x1024x1 ![0, 1] bcast_S4x1024_S4x1024x1_0_1 (select (cmpi .slt (ids m c) (broadcastInDim S4x1024 ![] bcast_S_S4x1024 (constantI S_ 32 0#32))) (addi (ids m c) (broadcastInDim S4x1024 ![] bcast_S_S4x1024 (constantI S_ 32 32000#32))) (ids m c))) (ix3 b s d)
      = scales m c (ix2 (row (ids m c (ix2 b s))) d) := by
  refine (gather_rows (by decide) gather_S32000x56_S4x1024x1_S4x1024x56_2_0_n_n_0_2_156_wf _ _ b s d).trans ?_
  rw [← row_clamped _ (h (ix2 b s))]
  pointwise

/-- The reference's first result: the normalized embeddings. -/
theorem out_apply (h : ∀ x, (ids m c x).toNat < 32000) (b : Fin 4) (s : Fin 1024) (d : Fin 7168) :
    res_main_v38 m c (ix3 b s d) = (outAt (codes m c) (scales m c) (weights m c) (row (ids m c (ix2 b s))) d : EReal) := by
  unfold res_main_v38
  pointwise [gather_codes m c h, gather_scales m c h, div_7168]
  rfl

/-- The reference's second result, as its operations give it. -/
def emb : FVec Ideal S4x1024x7168 .bf16 :=
  (shapeCast S4x1024x7168 (mulf (F := Ideal) (φ := .bf16) (shapeCast S4x1024x56x128 (truncf (F := Ideal) (φ := .f32) .bf16 (sitofp (F := Ideal) .f32 (extsi 32 (Host.gather gather_S32000x7168_S4x1024x1_S4x1024x7168_2_0_n_n_0_2_17168 (codes m c) (broadcastInDim S4x1024x1 ![0, 1] bcast_S4x1024_S4x1024x1_0_1 (select (cmpi .slt (ids m c) (broadcastInDim S4x1024 ![] bcast_S_S4x1024 (constantI S_ 32 0#32))) (addi (ids m c) (broadcastInDim S4x1024 ![] bcast_S_S4x1024 (constantI S_ 32 32000#32))) (ids m c)))) natLt_8_32)) bitsLt_bf16_f32) shapeCasts_S4x1024x7168_S4x1024x56x128) (broadcastInDim S4x1024x56x128 ![0, 1, 2, 3] bcast_S4x1024x56x1_S4x1024x56x128_0_1_2_3 (broadcastInDim S4x1024x56x1 ![0, 1, 2] bcast_S4x1024x56_S4x1024x56x1_0_1_2 (truncf (F := Ideal) (φ := .f32) .bf16 (Host.gather gather_S32000x56_S4x1024x1_S4x1024x56_2_0_n_n_0_2_156 (scales m c) (broadcastInDim S4x1024x1 ![0, 1] bcast_S4x1024_S4x1024x1_0_1 (select (cmpi .slt (ids m c) (broadcastInDim S4x1024 ![] bcast_S_S4x1024 (constantI S_ 32 0#32))) (addi (ids m c) (broadcastInDim S4x1024 ![] bcast_S_S4x1024 (constantI S_ 32 32000#32))) (ids m c)))) bitsLt_bf16_f32)))) shapeCasts_S4x1024x56x128_S4x1024x7168)

/-- The reference's second result: the embeddings. -/
theorem emb_apply (h : ∀ x, (ids m c x).toNat < 32000) (b : Fin 4) (s : Fin 1024) (d : Fin 7168) :
    (emb m c (ix3 b s d) : EReal) = embAt (codes m c) (scales m c) (row (ids m c (ix2 b s))) d := by
  unfold emb
  pointwise [gather_codes m c h, gather_scales m c h]
  rfl

end Cert.Proof.Reference

end
-- ==== Proof.Algebraic.lean ====
/- The kernel and the reference compute the same two results over the extended reals. -/
module

public import proofs.«01_k».proof.Defs
public import proofs.«01_k».proof.Proof.Frames
public import proofs.«01_k».proof.Proof.Value.Results
public import proofs.«01_k».proof.Proof.Value.Reference

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- An index of a result from its coordinates. -/
theorem eq_ix3 (x : (⟨3, ![4, 1024, 7168]⟩ : Shape).Idx) : x = ix3 (x 0 : Fin 4) (x 1 : Fin 1024) (x 2 : Fin 7168) := by
  funext a
  match a with
  | ⟨0, _⟩ => rfl
  | ⟨1, _⟩ => rfl
  | ⟨2, _⟩ => rfl

section
variable (h0 : Reference.ids m' 0 = KernelIdeal.idsOf m) (h1 : Reference.codes m' 0 = codesOf m)
variable (h2 : Reference.scales m' 0 = tableOf m) (h3 : Reference.weights m' 0 = weightsOf m)
variable (hids : ∀ x, (KernelIdeal.idsOf m x).toNat < 32000)

include h0 h1 h2 h3 hids in
/-- From equal arguments the normalized embeddings are equal, -/
theorem out_eq : Cert.ReferenceIdeal.Value.res_main_v38 m' 0 = KernelIdeal.res m 0 Cert.KernelIdeal.main_v7 := by
  funext x
  rw [eq_ix3 x]
  refine (Reference.out_apply m' 0 (by rw [h0]; exact hids) _ _ _).trans ((kernel_out m hids _ _ _).trans ?_).symm
  rw [h0, h1, h2, h3]

include h0 h1 h2 hids in
/-- and so are the embeddings. -/
theorem emb_eq : Reference.emb m' 0 = KernelIdeal.res m 0 Cert.KernelIdeal.main_v9 := by
  funext x
  rw [eq_ix3 x]
  refine (Reference.emb_apply m' 0 (by rw [h0]; exact hids) _ _ _).trans ((kernel_emb m hids _ _ _).trans ?_).symm
  rw [h0, h1, h2]

end

/-- Kernel and reference end with equal results. -/
theorem algebraic : Cert.algebraic_KernelIdeal_ReferenceIdeal := by
  intro m g m' g' hp hm
  have hids : ∀ x, (KernelIdeal.idsOf m x).toNat < 32000 := fun x => ids_lt _ _ _ _ (hp 0) x
  obtain ⟨h0, h1, h2, h3⟩ := hm 0
  refine ⟨fun c => KernelIdeal.res m c Cert.KernelIdeal.main_v7, fun c => KernelIdeal.res m c Cert.KernelIdeal.main_v9, ?_, ?_⟩
  · refine (θ_run Cert.KernelIdeal.defs _ _).mono (fun r hr c => ?_) (KernelIdeal.run_main m g hids)
    obtain ⟨⟨a, b⟩, c0, c1, c2, c3⟩ := hr.1 c
    exact ⟨a, b, c0, c1, c2, c3⟩
  · refine (θ_run Cert.ReferenceIdeal.defs _ _).mono (fun r hr c => ?_) (Cert.ReferenceIdeal.Value.run m' g')
    have hc : c = 0 := Subsingleton.elim _ _
    subst hc
    obtain ⟨a, b, c0, c1, c2, c3⟩ := hr 0
    exact ⟨a.trans (out_eq m m' h0 h1 h2 h3 hids), b.trans (emb_eq m m' h0 h1 h2 hids), c0, c1, c2, c3⟩

end Cert.Proof

end
-- ==== Proof.lean ====
/- The proof of the certificate: each claim is proved in a module of its own, and assembled here. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_ids_in_range
public import proofs.«01_k».proof.Proof.Preserves
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_ids_in_range.Gen.facts,
    frame_kernel, frame_kernelIdeal, frame_reference, (fun m g _ => frame_reference m g trivial), preserves, algebraic⟩

end Cert.Proof

end
